-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v54) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Pre_finite_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x512x4096 : Shape := ⟨3, ![2, 512, 4096]⟩
abbrev S2x512x512 : Shape := ⟨3, ![2, 512, 512]⟩
abbrev S8x2x64x768 : Shape := ⟨4, ![8, 2, 64, 768]⟩
abbrev S3x8x2x64x256 : Shape := ⟨5, ![3, 8, 2, 64, 256]⟩
abbrev S4x2x64x768 : Shape := ⟨4, ![4, 2, 64, 768]⟩
abbrev S2x2x64x384 : Shape := ⟨4, ![2, 2, 64, 384]⟩
abbrev S1x2x64x384 : Shape := ⟨4, ![1, 2, 64, 384]⟩
abbrev S2 : Shape := ⟨1, ![2]⟩
abbrev S5 : Shape := ⟨1, ![5]⟩
abbrev S3x3 : Shape := ⟨2, ![3, 3]⟩
abbrev S1x512x512 : Shape := ⟨3, ![1, 512, 512]⟩
abbrev S512x512 : Shape := ⟨2, ![512, 512]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S512x64 : Shape := ⟨2, ![512, 64]⟩
abbrev S256 : Shape := ⟨1, ![256]⟩
abbrev S256x1 : Shape := ⟨2, ![256, 1]⟩
abbrev S4x64x768 : Shape := ⟨3, ![4, 64, 768]⟩
abbrev S4x1x64x768 : Shape := ⟨4, ![4, 1, 64, 768]⟩
abbrev S1 : Shape := ⟨1, ![1]⟩
abbrev S2x2x64x768 : Shape := ⟨4, ![2, 2, 64, 768]⟩
abbrev S2x64x384 : Shape := ⟨3, ![2, 64, 384]⟩
abbrev S1x2x64x768 : Shape := ⟨4, ![1, 2, 64, 768]⟩
abbrev S1x2x64x256 : Shape := ⟨4, ![1, 2, 64, 256]⟩
abbrev S1x1x2x64x256 : Shape := ⟨5, ![1, 1, 2, 64, 256]⟩
abbrev S1x1 : Shape := ⟨2, ![1, 1]⟩
abbrev S1x2x2x64x256 : Shape := ⟨5, ![1, 2, 2, 64, 256]⟩
abbrev S2x2x64x256 : Shape := ⟨4, ![2, 2, 64, 256]⟩
abbrev S1x4x2x64x256 : Shape := ⟨5, ![1, 4, 2, 64, 256]⟩
abbrev S4x2x64x256 : Shape := ⟨4, ![4, 2, 64, 256]⟩
abbrev S2x64x256 : Shape := ⟨3, ![2, 64, 256]⟩

abbrev nBuf : Space → Nat
  | .hbm => 34
  | .vmem => 18
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x4096, .bf16⟩
  | .hbm, ⟨12, _⟩ => ⟨S2x512x4096, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x512, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x512, .bf16⟩
  | .hbm, ⟨33, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S2x512x512, .bf16⟩
  | .local _ .vmem, ⟨3, _⟩ => ⟨S2x512x512, .bf16⟩
  | .local _ .vmem, ⟨4, _⟩ => ⟨S512x768, .bf16⟩
  | .local _ .vmem, ⟨5, _⟩ => ⟨S2x512x768, .bf16⟩
  | .local _ .vmem, ⟨6, _⟩ => ⟨S8x2x64x768, .f32⟩
  | .local _ .vmem, ⟨7, _⟩ => ⟨S3x8x2x64x256, .bf16⟩
  | .local _ .vmem, ⟨8, _⟩ => ⟨S4x2x64x768, .bf16⟩
  | .local _ .vmem, ⟨9, _⟩ => ⟨S4x2x64x768, .bf16⟩
  | .local _ .vmem, ⟨10, _⟩ => ⟨S2x2x64x384, .bf16⟩
  | .local _ .vmem, ⟨11, _⟩ => ⟨S2x2x64x384, .bf16⟩
  | .local _ .vmem, ⟨12, _⟩ => ⟨S2x2x64x384, .bf16⟩
  | .local _ .vmem, ⟨13, _⟩ => ⟨S2x2x64x384, .bf16⟩
  | .local _ .vmem, ⟨14, _⟩ => ⟨S1x2x64x384, .bf16⟩
  | .local _ .vmem, ⟨15, _⟩ => ⟨S1x2x64x384, .bf16⟩
  | .local _ .vmem, ⟨16, _⟩ => ⟨S1x2x64x384, .bf16⟩
  | .local _ .vmem, ⟨17, _⟩ => ⟨S1x2x64x384, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_28 : BitVec 32 := 1#32
  let v66 : BitVec 32 := Scalar.muli v3 c1_i32_28
  let v67 : BitVec 32 := Scalar.addi c0_i32_29 v66
  v67.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_31 : BitVec 32 := 1#32
  let v68 : BitVec 32 := Scalar.muli v4 c1_i32_31
  let v69 : BitVec 32 := Scalar.addi c0_i32_32 v68
  v69.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_34 : BitVec 32 := 1#32
  let v70 : BitVec 32 := Scalar.muli v5 c1_i32_34
  let v71 : BitVec 32 := Scalar.addi c0_i32_35 v70
  v71.toNat
def k0_off1 (d0 : Dev nD) : Fin 3 → Nat :=
  let c0_53 : Index := 0#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v86 : BitVec 32 := Scalar.subi c1_i32_51 v22
  let c256_i32 : BitVec 32 := 256#32
  let v87 : BitVec 32 := Scalar.muli v86 c256_i32
  let v89 : Index := Scalar.indexCast v87
  let c0_54 : Index := 0#32
  ![0, v89.toNat, 0]
def k0_off2 (d0 : Dev nD) : Fin 4 → Nat :=
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v86 : BitVec 32 := Scalar.subi c1_i32_51 v22
  let c256_i32 : BitVec 32 := 256#32
  let v87 : BitVec 32 := Scalar.muli v86 c256_i32
  let c0_i32_119 : BitVec 32 := 0#32
  let v295 : BitVec 1 := Scalar.cmpi .sgt v87 c0_i32_119
  let v296 : BitVec 32 := Scalar.extui v295
  let c0_i32_120 : BitVec 32 := 0#32
  let v297 : BitVec 1 := Scalar.cmpi .slt v87 c0_i32_120
  let v298 : BitVec 32 := Scalar.extui v297
  let v299 : BitVec 32 := Scalar.subi v296 v298
  let c64_i32_118 : BitVec 32 := 64#32
  let c0_i32_121 : BitVec 32 := 0#32
  let v300 : BitVec 1 := Scalar.cmpi .sgt c64_i32_118 c0_i32_121
  let v301 : BitVec 32 := Scalar.extui v300
  let c0_i32_122 : BitVec 32 := 0#32
  let v302 : BitVec 1 := Scalar.cmpi .slt c64_i32_118 c0_i32_122
  let v303 : BitVec 32 := Scalar.extui v302
  let v304 : BitVec 32 := Scalar.subi v301 v303
  let v305 : BitVec 1 := Scalar.cmpi .ne v299 v304
  let v306 : BitVec 32 := Scalar.remsi v87 c64_i32_118
  let c0_i32_123 : BitVec 32 := 0#32
  let v307 : BitVec 1 := Scalar.cmpi .ne v306 c0_i32_123
  let v308 : BitVec 1 := Scalar.andi v305 v307
  let v294 : BitVec 32 := Scalar.divsi v87 c64_i32_118
  let c1_i32_124 : BitVec 32 := 1#32
  let v309 : BitVec 32 := Scalar.subi v294 c1_i32_124
  let v310 : BitVec 32 := Scalar.select v308 v309 v294
  let v311 : Index := Scalar.indexCast v310
  let c0_125 : Index := 0#32
  let c0_126 : Index := 0#32
  let c0_127 : Index := 0#32
  ![v311.toNat, 0, 0, 0]
def k0_off3 (d0 : Dev nD) : Fin 4 → Nat :=
  let c4_i32_129 : BitVec 32 := 4#32
  let c1_i32_128 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v315 : BitVec 32 := Scalar.subi c1_i32_128 v22
  let v316 : BitVec 32 := Scalar.muli c4_i32_129 v315
  let v317 : Index := Scalar.indexCast v316
  let c0_130 : Index := 0#32
  let c0_131 : Index := 0#32
  let c0_132 : Index := 0#32
  ![v317.toNat, 0, 0, 0]
def k0_dev4 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_141 : BitVec 32 := 1#32
  let v324 : BitVec 32 := Scalar.muli v3 c1_i32_141
  let v325 : BitVec 32 := Scalar.addi c0_i32_142 v324
  v325.toNat
def k0_off4 (d0 : Dev nD) : Fin 3 → Nat :=
  let c1_149 : Index := 1#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v86 : BitVec 32 := Scalar.subi c1_i32_51 v22
  let c256_i32 : BitVec 32 := 256#32
  let v87 : BitVec 32 := Scalar.muli v86 c256_i32
  let v334 : Index := Scalar.indexCast v87
  let c0_150 : Index := 0#32
  ![1, v334.toNat, 0]
def k0_off5 (d0 : Dev nD) : Fin 4 → Nat :=
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v86 : BitVec 32 := Scalar.subi c1_i32_51 v22
  let c256_i32 : BitVec 32 := 256#32
  let v87 : BitVec 32 := Scalar.muli v86 c256_i32
  let c0_i32_216 : BitVec 32 := 0#32
  let v540 : BitVec 1 := Scalar.cmpi .sgt v87 c0_i32_216
  let v541 : BitVec 32 := Scalar.extui v540
  let c0_i32_217 : BitVec 32 := 0#32
  let v542 : BitVec 1 := Scalar.cmpi .slt v87 c0_i32_217
  let v543 : BitVec 32 := Scalar.extui v542
  let v544 : BitVec 32 := Scalar.subi v541 v543
  let c64_i32_215 : BitVec 32 := 64#32
  let c0_i32_218 : BitVec 32 := 0#32
  let v545 : BitVec 1 := Scalar.cmpi .sgt c64_i32_215 c0_i32_218
  let v546 : BitVec 32 := Scalar.extui v545
  let c0_i32_219 : BitVec 32 := 0#32
  let v547 : BitVec 1 := Scalar.cmpi .slt c64_i32_215 c0_i32_219
  let v548 : BitVec 32 := Scalar.extui v547
  let v549 : BitVec 32 := Scalar.subi v546 v548
  let v550 : BitVec 1 := Scalar.cmpi .ne v544 v549
  let v551 : BitVec 32 := Scalar.remsi v87 c64_i32_215
  let c0_i32_220 : BitVec 32 := 0#32
  let v552 : BitVec 1 := Scalar.cmpi .ne v551 c0_i32_220
  let v553 : BitVec 1 := Scalar.andi v550 v552
  let v539 : BitVec 32 := Scalar.divsi v87 c64_i32_215
  let c1_i32_221 : BitVec 32 := 1#32
  let v554 : BitVec 32 := Scalar.subi v539 c1_i32_221
  let v555 : BitVec 32 := Scalar.select v553 v554 v539
  let v556 : Index := Scalar.indexCast v555
  let c1_222 : Index := 1#32
  let c0_223 : Index := 0#32
  let c0_224 : Index := 0#32
  ![v556.toNat, 1, 0, 0]
def k0_off6 (d0 : Dev nD) : Fin 4 → Nat :=
  let c4_i32_226 : BitVec 32 := 4#32
  let c1_i32_225 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v560 : BitVec 32 := Scalar.subi c1_i32_225 v22
  let v561 : BitVec 32 := Scalar.muli c4_i32_226 v560
  let v562 : Index := Scalar.indexCast v561
  let c1_227 : Index := 1#32
  let c0_228 : Index := 0#32
  let c0_229 : Index := 0#32
  ![v562.toNat, 1, 0, 0]
def k0_dev5 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_238 : BitVec 32 := 1#32
  let v569 : BitVec 32 := Scalar.muli v3 c1_i32_238
  let v570 : BitVec 32 := Scalar.addi c0_i32_239 v569
  v570.toNat
def k0_off7 (d0 : Dev nD) : Fin 3 → Nat :=
  let c0_246 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let c256_i32_52 : BitVec 32 := 256#32
  let v88 : BitVec 32 := Scalar.muli v22 c256_i32_52
  let v579 : Index := Scalar.indexCast v88
  let c0_247 : Index := 0#32
  ![0, v579.toNat, 0]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let c256_i32_52 : BitVec 32 := 256#32
  let v88 : BitVec 32 := Scalar.muli v22 c256_i32_52
  let c0_i32_313 : BitVec 32 := 0#32
  let v785 : BitVec 1 := Scalar.cmpi .sgt v88 c0_i32_313
  let v786 : BitVec 32 := Scalar.extui v785
  let c0_i32_314 : BitVec 32 := 0#32
  let v787 : BitVec 1 := Scalar.cmpi .slt v88 c0_i32_314
  let v788 : BitVec 32 := Scalar.extui v787
  let v789 : BitVec 32 := Scalar.subi v786 v788
  let c64_i32_312 : BitVec 32 := 64#32
  let c0_i32_315 : BitVec 32 := 0#32
  let v790 : BitVec 1 := Scalar.cmpi .sgt c64_i32_312 c0_i32_315
  let v791 : BitVec 32 := Scalar.extui v790
  let c0_i32_316 : BitVec 32 := 0#32
  let v792 : BitVec 1 := Scalar.cmpi .slt c64_i32_312 c0_i32_316
  let v793 : BitVec 32 := Scalar.extui v792
  let v794 : BitVec 32 := Scalar.subi v791 v793
  let v795 : BitVec 1 := Scalar.cmpi .ne v789 v794
  let v796 : BitVec 32 := Scalar.remsi v88 c64_i32_312
  let c0_i32_317 : BitVec 32 := 0#32
  let v797 : BitVec 1 := Scalar.cmpi .ne v796 c0_i32_317
  let v798 : BitVec 1 := Scalar.andi v795 v797
  let v784 : BitVec 32 := Scalar.divsi v88 c64_i32_312
  let c1_i32_318 : BitVec 32 := 1#32
  let v799 : BitVec 32 := Scalar.subi v784 c1_i32_318
  let v800 : BitVec 32 := Scalar.select v798 v799 v784
  let v801 : Index := Scalar.indexCast v800
  let c0_319 : Index := 0#32
  let c0_320 : Index := 0#32
  let c0_321 : Index := 0#32
  ![v801.toNat, 0, 0, 0]
def k0_off9 (d0 : Dev nD) : Fin 3 → Nat :=
  let c1_322 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let c256_i32_52 : BitVec 32 := 256#32
  let v88 : BitVec 32 := Scalar.muli v22 c256_i32_52
  let v805 : Index := Scalar.indexCast v88
  let c0_323 : Index := 0#32
  ![1, v805.toNat, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let c256_i32_52 : BitVec 32 := 256#32
  let v88 : BitVec 32 := Scalar.muli v22 c256_i32_52
  let c0_i32_389 : BitVec 32 := 0#32
  let v1011 : BitVec 1 := Scalar.cmpi .sgt v88 c0_i32_389
  let v1012 : BitVec 32 := Scalar.extui v1011
  let c0_i32_390 : BitVec 32 := 0#32
  let v1013 : BitVec 1 := Scalar.cmpi .slt v88 c0_i32_390
  let v1014 : BitVec 32 := Scalar.extui v1013
  let v1015 : BitVec 32 := Scalar.subi v1012 v1014
  let c64_i32_388 : BitVec 32 := 64#32
  let c0_i32_391 : BitVec 32 := 0#32
  let v1016 : BitVec 1 := Scalar.cmpi .sgt c64_i32_388 c0_i32_391
  let v1017 : BitVec 32 := Scalar.extui v1016
  let c0_i32_392 : BitVec 32 := 0#32
  let v1018 : BitVec 1 := Scalar.cmpi .slt c64_i32_388 c0_i32_392
  let v1019 : BitVec 32 := Scalar.extui v1018
  let v1020 : BitVec 32 := Scalar.subi v1017 v1019
  let v1021 : BitVec 1 := Scalar.cmpi .ne v1015 v1020
  let v1022 : BitVec 32 := Scalar.remsi v88 c64_i32_388
  let c0_i32_393 : BitVec 32 := 0#32
  let v1023 : BitVec 1 := Scalar.cmpi .ne v1022 c0_i32_393
  let v1024 : BitVec 1 := Scalar.andi v1021 v1023
  let v1010 : BitVec 32 := Scalar.divsi v88 c64_i32_388
  let c1_i32_394 : BitVec 32 := 1#32
  let v1025 : BitVec 32 := Scalar.subi v1010 c1_i32_394
  let v1026 : BitVec 32 := Scalar.select v1024 v1025 v1010
  let v1027 : Index := Scalar.indexCast v1026
  let c1_395 : Index := 1#32
  let c0_396 : Index := 0#32
  let c0_397 : Index := 0#32
  ![v1027.toNat, 1, 0, 0]
def k0_off11 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_446 : BitVec 32 := 2#32
  let c1_i32_445 : BitVec 32 := 1#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1060 : BitVec 32 := Scalar.subi c1_i32_445 v49
  let v1061 : BitVec 32 := Scalar.muli c2_i32_446 v1060
  let v1062 : BitVec 32 := Scalar.addi v1059 v1061
  let v1063 : Index := Scalar.indexCast v1062
  let c0_447 : Index := 0#32
  let c0_448 : Index := 0#32
  let c0_449 : Index := 0#32
  ![v1063.toNat, 0, 0, 0]
def k0_off12 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_446 : BitVec 32 := 2#32
  let c1_i32_445 : BitVec 32 := 1#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1060 : BitVec 32 := Scalar.subi c1_i32_445 v49
  let v1061 : BitVec 32 := Scalar.muli c2_i32_446 v1060
  let v1062 : BitVec 32 := Scalar.addi v1059 v1061
  let c4_i32_450 : BitVec 32 := 4#32
  let v1065 : BitVec 32 := Scalar.muli c4_i32_450 v22
  let v1066 : BitVec 32 := Scalar.subi v1062 v1065
  let v1067 : Index := Scalar.indexCast v1066
  let c0_451 : Index := 0#32
  let c0_452 : Index := 0#32
  let c0_453 : Index := 0#32
  ![v1067.toNat, 0, 0, 0]
def k0_off13 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_457 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1075 : BitVec 32 := Scalar.muli c2_i32_457 v49
  let v1076 : BitVec 32 := Scalar.addi v1059 v1075
  let c1_i32_458 : BitVec 32 := 1#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1077 : BitVec 32 := Scalar.subi c1_i32_458 v60
  let v1078 : BitVec 32 := Scalar.addi v1076 v1077
  let v1079 : Index := Scalar.indexCast v1078
  let c0_459 : Index := 0#32
  let c0_460 : Index := 0#32
  let c384 : Index := 384#32
  ![v1079.toNat, 0, 0, 384]
def k0_off14 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_457 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1075 : BitVec 32 := Scalar.muli c2_i32_457 v49
  let v1076 : BitVec 32 := Scalar.addi v1059 v1075
  let c1_i32_458 : BitVec 32 := 1#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1077 : BitVec 32 := Scalar.subi c1_i32_458 v60
  let v1078 : BitVec 32 := Scalar.addi v1076 v1077
  let c4_i32_461 : BitVec 32 := 4#32
  let v1081 : BitVec 32 := Scalar.muli c4_i32_461 v22
  let v1082 : BitVec 32 := Scalar.subi v1078 v1081
  let v1083 : Index := Scalar.indexCast v1082
  let c0_462 : Index := 0#32
  let c0_463 : Index := 0#32
  let c384_464 : Index := 384#32
  ![v1083.toNat, 0, 0, 384]
def k0_off15 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_469 : BitVec 32 := 2#32
  let c1_i32_468 : BitVec 32 := 1#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1091 : BitVec 32 := Scalar.subi c1_i32_468 v49
  let v1092 : BitVec 32 := Scalar.muli c2_i32_469 v1091
  let v1093 : BitVec 32 := Scalar.addi v1059 v1092
  let v1094 : Index := Scalar.indexCast v1093
  let c0_470 : Index := 0#32
  let c0_471 : Index := 0#32
  let c0_472 : Index := 0#32
  ![v1094.toNat, 0, 0, 0]
def k0_dev6 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_479 : BitVec 32 := 1#32
  let v1100 : BitVec 32 := Scalar.muli v4 c1_i32_479
  let v1101 : BitVec 32 := Scalar.addi c0_i32_480 v1100
  v1101.toNat
def k0_off16 (d0 : Dev nD) (c0_i32_481 : BitVec 32) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let v1106 : BitVec 32 := Scalar.addi v1059 c0_i32_481
  let c1_i32_482 : BitVec 32 := 1#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1107 : BitVec 32 := Scalar.subi c1_i32_482 v60
  let v1108 : BitVec 32 := Scalar.addi v1106 v1107
  let v1109 : Index := Scalar.indexCast v1108
  let c0_483 : Index := 0#32
  let c0_484 : Index := 0#32
  let c384_485 : Index := 384#32
  ![v1109.toNat, 0, 0, 384]
def k0_dev7 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_494 : BitVec 32 := 1#32
  let v1116 : BitVec 32 := Scalar.muli v5 c1_i32_494
  let v1117 : BitVec 32 := Scalar.addi c0_i32_495 v1116
  v1117.toNat
def k0_dev8 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_515 : BitVec 32 := 1#32
  let v1136 : BitVec 32 := Scalar.muli v5 c1_i32_515
  let v1137 : BitVec 32 := Scalar.addi c0_i32_516 v1136
  v1137.toNat
def k0_off17 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_523 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1146 : BitVec 32 := Scalar.muli c2_i32_523 v49
  let v1147 : BitVec 32 := Scalar.addi v1059 v1146
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1148 : BitVec 32 := Scalar.addi v1147 v60
  let v1149 : Index := Scalar.indexCast v1148
  let c0_524 : Index := 0#32
  let c0_525 : Index := 0#32
  let c0_526 : Index := 0#32
  ![v1149.toNat, 0, 0, 0]
def k0_off18 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_523 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1146 : BitVec 32 := Scalar.muli c2_i32_523 v49
  let v1147 : BitVec 32 := Scalar.addi v1059 v1146
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1148 : BitVec 32 := Scalar.addi v1147 v60
  let c4_i32_527 : BitVec 32 := 4#32
  let v1151 : BitVec 32 := Scalar.muli c4_i32_527 v22
  let v1152 : BitVec 32 := Scalar.subi v1148 v1151
  let v1153 : Index := Scalar.indexCast v1152
  let c0_528 : Index := 0#32
  let c0_529 : Index := 0#32
  let c0_530 : Index := 0#32
  ![v1153.toNat, 0, 0, 0]
def k0_off19 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_534 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1161 : BitVec 32 := Scalar.muli c2_i32_534 v49
  let v1162 : BitVec 32 := Scalar.addi v1059 v1161
  let c1_i32_535 : BitVec 32 := 1#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1163 : BitVec 32 := Scalar.subi c1_i32_535 v60
  let v1164 : BitVec 32 := Scalar.addi v1162 v1163
  let v1165 : Index := Scalar.indexCast v1164
  let c0_536 : Index := 0#32
  let c0_537 : Index := 0#32
  let c0_538 : Index := 0#32
  ![v1165.toNat, 0, 0, 0]
def k0_off20 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_534 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1161 : BitVec 32 := Scalar.muli c2_i32_534 v49
  let v1162 : BitVec 32 := Scalar.addi v1059 v1161
  let c1_i32_535 : BitVec 32 := 1#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1163 : BitVec 32 := Scalar.subi c1_i32_535 v60
  let v1164 : BitVec 32 := Scalar.addi v1162 v1163
  let c4_i32_539 : BitVec 32 := 4#32
  let v1167 : BitVec 32 := Scalar.muli c4_i32_539 v22
  let v1168 : BitVec 32 := Scalar.subi v1164 v1167
  let v1169 : Index := Scalar.indexCast v1168
  let c0_540 : Index := 0#32
  let c0_541 : Index := 0#32
  let c0_542 : Index := 0#32
  ![v1169.toNat, 0, 0, 0]
def k0_off21 (d0 : Dev nD) : Fin 4 → Nat :=
  let c1_i32_604 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1217 : BitVec 32 := Scalar.subi c1_i32_604 v60
  let v1218 : Index := Scalar.indexCast v1217
  let c0_605 : Index := 0#32
  let c0_606 : Index := 0#32
  let c0_607 : Index := 0#32
  ![v1218.toNat, 0, 0, 0]
def k0_off22 (d0 : Dev nD) : Fin 4 → Nat :=
  let c4_i32_444 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1059 : BitVec 32 := Scalar.muli c4_i32_444 v22
  let c2_i32_614 : BitVec 32 := 2#32
  let c1_i32_613 : BitVec 32 := 1#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1230 : BitVec 32 := Scalar.subi c1_i32_613 v49
  let v1231 : BitVec 32 := Scalar.muli c2_i32_614 v1230
  let v1232 : BitVec 32 := Scalar.addi v1059 v1231
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1233 : BitVec 32 := Scalar.addi v1232 v60
  let v1234 : Index := Scalar.indexCast v1233
  let c0_615 : Index := 0#32
  let c0_616 : Index := 0#32
  let c384_617 : Index := 384#32
  ![v1234.toNat, 0, 0, 384]
def k0_off23 (d0 : Dev nD) : Fin 4 → Nat :=
  let c1_i32_618 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1236 : BitVec 32 := Scalar.subi c1_i32_618 v49
  let v1237 : Index := Scalar.indexCast v1236
  let c0_619 : Index := 0#32
  let c0_620 : Index := 0#32
  let c0_621 : Index := 0#32
  ![v1237.toNat, 0, 0, 0]
def k0_dev9 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_638 : BitVec 32 := 1#32
  let v1259 : BitVec 32 := Scalar.muli v5 c1_i32_638
  let v1260 : BitVec 32 := Scalar.addi c0_i32_639 v1259
  v1260.toNat
def k0_dev10 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_651 : BitVec 32 := 1#32
  let v1275 : BitVec 32 := Scalar.muli v4 c1_i32_651
  let v1276 : BitVec 32 := Scalar.addi c0_i32_652 v1275
  v1276.toNat
def k0_off24 (d0 : Dev nD) : Fin 4 → Nat :=
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let v1281 : Index := Scalar.indexCast v64
  let c0_653 : Index := 0#32
  let c0_654 : Index := 0#32
  let c0_655 : Index := 0#32
  ![v1281.toNat, 0, 0, 0]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1283 : Index := Scalar.indexCast v60
  let c0_656 : Index := 0#32
  let c0_657 : Index := 0#32
  let c0_658 : Index := 0#32
  ![v1283.toNat, 0, 0, 0]
def k0_off26 (d0 : Dev nD) : Fin 4 → Nat :=
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let v1291 : Index := Scalar.indexCast v64
  let c0_662 : Index := 0#32
  let c0_663 : Index := 0#32
  let c384_664 : Index := 384#32
  ![v1291.toNat, 0, 0, 384]
def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1293 : Index := Scalar.indexCast v49
  let c0_665 : Index := 0#32
  let c0_666 : Index := 0#32
  let c0_667 : Index := 0#32
  ![v1293.toNat, 0, 0, 0]
def k0_off28 (d0 : Dev nD) : Fin 5 → Nat :=
  let c0_712 : Index := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let v1343 : Index := Scalar.indexCast v64
  let c0_713 : Index := 0#32
  let c0_714 : Index := 0#32
  let c0_715 : Index := 0#32
  ![0, v1343.toNat, 0, 0, 0]
def k0_off29 (d0 : Dev nD) : Fin 5 → Nat :=
  let c1_716 : Index := 1#32
  let c4_i32_705 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1331 : BitVec 32 := Scalar.muli c4_i32_705 v60
  let c2_i32_706 : BitVec 32 := 2#32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1332 : BitVec 32 := Scalar.muli c2_i32_706 v22
  let v1333 : BitVec 32 := Scalar.addi v1331 v1332
  let v1334 : BitVec 32 := Scalar.addi v1333 v49
  let v1348 : Index := Scalar.indexCast v1334
  let c0_717 : Index := 0#32
  let c0_718 : Index := 0#32
  let c0_719 : Index := 0#32
  ![1, v1348.toNat, 0, 0, 0]
def k0_off30 (d0 : Dev nD) : Fin 5 → Nat :=
  let c2 : Index := 2#32
  let c4_i32_707 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1335 : BitVec 32 := Scalar.muli c4_i32_707 v49
  let c2_i32_708 : BitVec 32 := 2#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1336 : BitVec 32 := Scalar.muli c2_i32_708 v60
  let v1337 : BitVec 32 := Scalar.addi v1335 v1336
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1338 : BitVec 32 := Scalar.addi v1337 v22
  let v1353 : Index := Scalar.indexCast v1338
  let c0_720 : Index := 0#32
  let c0_721 : Index := 0#32
  let c0_722 : Index := 0#32
  ![2, v1353.toNat, 0, 0, 0]
def k0_off31 (d0 : Dev nD) : Fin 5 → Nat :=
  let c0_i32_732 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let c0_i32_724 : BitVec 32 := 0#32
  let v1358 : BitVec 1 := Scalar.cmpi .sgt v64 c0_i32_724
  let v1359 : BitVec 32 := Scalar.extui v1358
  let c0_i32_725 : BitVec 32 := 0#32
  let v1360 : BitVec 1 := Scalar.cmpi .slt v64 c0_i32_725
  let v1361 : BitVec 32 := Scalar.extui v1360
  let v1362 : BitVec 32 := Scalar.subi v1359 v1361
  let c1_i32_723 : BitVec 32 := 1#32
  let c0_i32_726 : BitVec 32 := 0#32
  let v1363 : BitVec 1 := Scalar.cmpi .sgt c1_i32_723 c0_i32_726
  let v1364 : BitVec 32 := Scalar.extui v1363
  let c0_i32_727 : BitVec 32 := 0#32
  let v1365 : BitVec 1 := Scalar.cmpi .slt c1_i32_723 c0_i32_727
  let v1366 : BitVec 32 := Scalar.extui v1365
  let v1367 : BitVec 32 := Scalar.subi v1364 v1366
  let v1368 : BitVec 1 := Scalar.cmpi .ne v1362 v1367
  let v1369 : BitVec 32 := Scalar.remsi v64 c1_i32_723
  let c0_i32_728 : BitVec 32 := 0#32
  let v1370 : BitVec 1 := Scalar.cmpi .ne v1369 c0_i32_728
  let v1371 : BitVec 1 := Scalar.andi v1368 v1370
  let v1357 : BitVec 32 := Scalar.divsi v64 c1_i32_723
  let c1_i32_729 : BitVec 32 := 1#32
  let v1372 : BitVec 32 := Scalar.subi v1357 c1_i32_729
  let v1373 : BitVec 32 := Scalar.select v1371 v1372 v1357
  let c1_i32_730 : BitVec 32 := 1#32
  let v1374 : BitVec 32 := Scalar.muli v1373 c1_i32_730
  let c0_i32_739 : BitVec 32 := 0#32
  let c0_i32_740 : BitVec 32 := 0#32
  let c0_i32_741 : BitVec 32 := 0#32
  ![0, v1374.toNat, 0, 0, 0]
def k0_dev11 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_737 : BitVec 32 := 1#32
  let v1375 : BitVec 32 := Scalar.muli v5 c1_i32_737
  let v1376 : BitVec 32 := Scalar.addi c0_i32_738 v1375
  v1376.toNat
def k0_off32 (d0 : Dev nD) : Fin 5 → Nat :=
  let c1_i32_754 : BitVec 32 := 1#32
  let c4_i32_705 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1331 : BitVec 32 := Scalar.muli c4_i32_705 v60
  let c2_i32_706 : BitVec 32 := 2#32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1332 : BitVec 32 := Scalar.muli c2_i32_706 v22
  let v1333 : BitVec 32 := Scalar.addi v1331 v1332
  let v1334 : BitVec 32 := Scalar.addi v1333 v49
  let c0_i32_746 : BitVec 32 := 0#32
  let v1386 : BitVec 1 := Scalar.cmpi .sgt v1334 c0_i32_746
  let v1387 : BitVec 32 := Scalar.extui v1386
  let c0_i32_747 : BitVec 32 := 0#32
  let v1388 : BitVec 1 := Scalar.cmpi .slt v1334 c0_i32_747
  let v1389 : BitVec 32 := Scalar.extui v1388
  let v1390 : BitVec 32 := Scalar.subi v1387 v1389
  let c1_i32_745 : BitVec 32 := 1#32
  let c0_i32_748 : BitVec 32 := 0#32
  let v1391 : BitVec 1 := Scalar.cmpi .sgt c1_i32_745 c0_i32_748
  let v1392 : BitVec 32 := Scalar.extui v1391
  let c0_i32_749 : BitVec 32 := 0#32
  let v1393 : BitVec 1 := Scalar.cmpi .slt c1_i32_745 c0_i32_749
  let v1394 : BitVec 32 := Scalar.extui v1393
  let v1395 : BitVec 32 := Scalar.subi v1392 v1394
  let v1396 : BitVec 1 := Scalar.cmpi .ne v1390 v1395
  let v1397 : BitVec 32 := Scalar.remsi v1334 c1_i32_745
  let c0_i32_750 : BitVec 32 := 0#32
  let v1398 : BitVec 1 := Scalar.cmpi .ne v1397 c0_i32_750
  let v1399 : BitVec 1 := Scalar.andi v1396 v1398
  let v1385 : BitVec 32 := Scalar.divsi v1334 c1_i32_745
  let c1_i32_751 : BitVec 32 := 1#32
  let v1400 : BitVec 32 := Scalar.subi v1385 c1_i32_751
  let v1401 : BitVec 32 := Scalar.select v1399 v1400 v1385
  let c1_i32_752 : BitVec 32 := 1#32
  let v1402 : BitVec 32 := Scalar.muli v1401 c1_i32_752
  let c0_i32_761 : BitVec 32 := 0#32
  let c0_i32_762 : BitVec 32 := 0#32
  let c0_i32_763 : BitVec 32 := 0#32
  ![1, v1402.toNat, 0, 0, 0]
def k0_dev12 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_759 : BitVec 32 := 1#32
  let v1403 : BitVec 32 := Scalar.muli v4 c1_i32_759
  let v1404 : BitVec 32 := Scalar.addi c0_i32_760 v1403
  v1404.toNat
def k0_off33 (d0 : Dev nD) : Fin 5 → Nat :=
  let c2_i32_776 : BitVec 32 := 2#32
  let c4_i32_707 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1335 : BitVec 32 := Scalar.muli c4_i32_707 v49
  let c2_i32_708 : BitVec 32 := 2#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1336 : BitVec 32 := Scalar.muli c2_i32_708 v60
  let v1337 : BitVec 32 := Scalar.addi v1335 v1336
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1338 : BitVec 32 := Scalar.addi v1337 v22
  let c0_i32_768 : BitVec 32 := 0#32
  let v1414 : BitVec 1 := Scalar.cmpi .sgt v1338 c0_i32_768
  let v1415 : BitVec 32 := Scalar.extui v1414
  let c0_i32_769 : BitVec 32 := 0#32
  let v1416 : BitVec 1 := Scalar.cmpi .slt v1338 c0_i32_769
  let v1417 : BitVec 32 := Scalar.extui v1416
  let v1418 : BitVec 32 := Scalar.subi v1415 v1417
  let c1_i32_767 : BitVec 32 := 1#32
  let c0_i32_770 : BitVec 32 := 0#32
  let v1419 : BitVec 1 := Scalar.cmpi .sgt c1_i32_767 c0_i32_770
  let v1420 : BitVec 32 := Scalar.extui v1419
  let c0_i32_771 : BitVec 32 := 0#32
  let v1421 : BitVec 1 := Scalar.cmpi .slt c1_i32_767 c0_i32_771
  let v1422 : BitVec 32 := Scalar.extui v1421
  let v1423 : BitVec 32 := Scalar.subi v1420 v1422
  let v1424 : BitVec 1 := Scalar.cmpi .ne v1418 v1423
  let v1425 : BitVec 32 := Scalar.remsi v1338 c1_i32_767
  let c0_i32_772 : BitVec 32 := 0#32
  let v1426 : BitVec 1 := Scalar.cmpi .ne v1425 c0_i32_772
  let v1427 : BitVec 1 := Scalar.andi v1424 v1426
  let v1413 : BitVec 32 := Scalar.divsi v1338 c1_i32_767
  let c1_i32_773 : BitVec 32 := 1#32
  let v1428 : BitVec 32 := Scalar.subi v1413 c1_i32_773
  let v1429 : BitVec 32 := Scalar.select v1427 v1428 v1413
  let c1_i32_774 : BitVec 32 := 1#32
  let v1430 : BitVec 32 := Scalar.muli v1429 c1_i32_774
  let c0_i32_783 : BitVec 32 := 0#32
  let c0_i32_784 : BitVec 32 := 0#32
  let c0_i32_785 : BitVec 32 := 0#32
  ![2, v1430.toNat, 0, 0, 0]
def k0_dev13 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_781 : BitVec 32 := 1#32
  let v1431 : BitVec 32 := Scalar.muli v3 c1_i32_781
  let v1432 : BitVec 32 := Scalar.addi c0_i32_782 v1431
  v1432.toNat
def k0_off34 (d0 : Dev nD) : Fin 5 → Nat :=
  let c0_i32_879 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let c0_i32_871 : BitVec 32 := 0#32
  let v1484 : BitVec 1 := Scalar.cmpi .sgt v64 c0_i32_871
  let v1485 : BitVec 32 := Scalar.extui v1484
  let c0_i32_872 : BitVec 32 := 0#32
  let v1486 : BitVec 1 := Scalar.cmpi .slt v64 c0_i32_872
  let v1487 : BitVec 32 := Scalar.extui v1486
  let v1488 : BitVec 32 := Scalar.subi v1485 v1487
  let c2_i32_870 : BitVec 32 := 2#32
  let c0_i32_873 : BitVec 32 := 0#32
  let v1489 : BitVec 1 := Scalar.cmpi .sgt c2_i32_870 c0_i32_873
  let v1490 : BitVec 32 := Scalar.extui v1489
  let c0_i32_874 : BitVec 32 := 0#32
  let v1491 : BitVec 1 := Scalar.cmpi .slt c2_i32_870 c0_i32_874
  let v1492 : BitVec 32 := Scalar.extui v1491
  let v1493 : BitVec 32 := Scalar.subi v1490 v1492
  let v1494 : BitVec 1 := Scalar.cmpi .ne v1488 v1493
  let v1495 : BitVec 32 := Scalar.remsi v64 c2_i32_870
  let c0_i32_875 : BitVec 32 := 0#32
  let v1496 : BitVec 1 := Scalar.cmpi .ne v1495 c0_i32_875
  let v1497 : BitVec 1 := Scalar.andi v1494 v1496
  let v1483 : BitVec 32 := Scalar.divsi v64 c2_i32_870
  let c1_i32_876 : BitVec 32 := 1#32
  let v1498 : BitVec 32 := Scalar.subi v1483 c1_i32_876
  let v1499 : BitVec 32 := Scalar.select v1497 v1498 v1483
  let c2_i32_877 : BitVec 32 := 2#32
  let v1500 : BitVec 32 := Scalar.muli v1499 c2_i32_877
  let c0_i32_886 : BitVec 32 := 0#32
  let c0_i32_887 : BitVec 32 := 0#32
  let c0_i32_888 : BitVec 32 := 0#32
  ![0, v1500.toNat, 0, 0, 0]
def k0_dev14 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_884 : BitVec 32 := 1#32
  let v1501 : BitVec 32 := Scalar.muli v4 c1_i32_884
  let v1502 : BitVec 32 := Scalar.addi c0_i32_885 v1501
  v1502.toNat
def k0_off35 (d0 : Dev nD) : Fin 5 → Nat :=
  let c1_i32_901 : BitVec 32 := 1#32
  let c4_i32_705 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1331 : BitVec 32 := Scalar.muli c4_i32_705 v60
  let c2_i32_706 : BitVec 32 := 2#32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1332 : BitVec 32 := Scalar.muli c2_i32_706 v22
  let v1333 : BitVec 32 := Scalar.addi v1331 v1332
  let v1334 : BitVec 32 := Scalar.addi v1333 v49
  let c0_i32_893 : BitVec 32 := 0#32
  let v1512 : BitVec 1 := Scalar.cmpi .sgt v1334 c0_i32_893
  let v1513 : BitVec 32 := Scalar.extui v1512
  let c0_i32_894 : BitVec 32 := 0#32
  let v1514 : BitVec 1 := Scalar.cmpi .slt v1334 c0_i32_894
  let v1515 : BitVec 32 := Scalar.extui v1514
  let v1516 : BitVec 32 := Scalar.subi v1513 v1515
  let c2_i32_892 : BitVec 32 := 2#32
  let c0_i32_895 : BitVec 32 := 0#32
  let v1517 : BitVec 1 := Scalar.cmpi .sgt c2_i32_892 c0_i32_895
  let v1518 : BitVec 32 := Scalar.extui v1517
  let c0_i32_896 : BitVec 32 := 0#32
  let v1519 : BitVec 1 := Scalar.cmpi .slt c2_i32_892 c0_i32_896
  let v1520 : BitVec 32 := Scalar.extui v1519
  let v1521 : BitVec 32 := Scalar.subi v1518 v1520
  let v1522 : BitVec 1 := Scalar.cmpi .ne v1516 v1521
  let v1523 : BitVec 32 := Scalar.remsi v1334 c2_i32_892
  let c0_i32_897 : BitVec 32 := 0#32
  let v1524 : BitVec 1 := Scalar.cmpi .ne v1523 c0_i32_897
  let v1525 : BitVec 1 := Scalar.andi v1522 v1524
  let v1511 : BitVec 32 := Scalar.divsi v1334 c2_i32_892
  let c1_i32_898 : BitVec 32 := 1#32
  let v1526 : BitVec 32 := Scalar.subi v1511 c1_i32_898
  let v1527 : BitVec 32 := Scalar.select v1525 v1526 v1511
  let c2_i32_899 : BitVec 32 := 2#32
  let v1528 : BitVec 32 := Scalar.muli v1527 c2_i32_899
  let c0_i32_908 : BitVec 32 := 0#32
  let c0_i32_909 : BitVec 32 := 0#32
  let c0_i32_910 : BitVec 32 := 0#32
  ![1, v1528.toNat, 0, 0, 0]
def k0_dev15 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_906 : BitVec 32 := 1#32
  let v1529 : BitVec 32 := Scalar.muli v3 c1_i32_906
  let v1530 : BitVec 32 := Scalar.addi c0_i32_907 v1529
  v1530.toNat
def k0_off36 (d0 : Dev nD) : Fin 5 → Nat :=
  let c2_i32_923 : BitVec 32 := 2#32
  let c4_i32_707 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1335 : BitVec 32 := Scalar.muli c4_i32_707 v49
  let c2_i32_708 : BitVec 32 := 2#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1336 : BitVec 32 := Scalar.muli c2_i32_708 v60
  let v1337 : BitVec 32 := Scalar.addi v1335 v1336
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1338 : BitVec 32 := Scalar.addi v1337 v22
  let c0_i32_915 : BitVec 32 := 0#32
  let v1540 : BitVec 1 := Scalar.cmpi .sgt v1338 c0_i32_915
  let v1541 : BitVec 32 := Scalar.extui v1540
  let c0_i32_916 : BitVec 32 := 0#32
  let v1542 : BitVec 1 := Scalar.cmpi .slt v1338 c0_i32_916
  let v1543 : BitVec 32 := Scalar.extui v1542
  let v1544 : BitVec 32 := Scalar.subi v1541 v1543
  let c2_i32_914 : BitVec 32 := 2#32
  let c0_i32_917 : BitVec 32 := 0#32
  let v1545 : BitVec 1 := Scalar.cmpi .sgt c2_i32_914 c0_i32_917
  let v1546 : BitVec 32 := Scalar.extui v1545
  let c0_i32_918 : BitVec 32 := 0#32
  let v1547 : BitVec 1 := Scalar.cmpi .slt c2_i32_914 c0_i32_918
  let v1548 : BitVec 32 := Scalar.extui v1547
  let v1549 : BitVec 32 := Scalar.subi v1546 v1548
  let v1550 : BitVec 1 := Scalar.cmpi .ne v1544 v1549
  let v1551 : BitVec 32 := Scalar.remsi v1338 c2_i32_914
  let c0_i32_919 : BitVec 32 := 0#32
  let v1552 : BitVec 1 := Scalar.cmpi .ne v1551 c0_i32_919
  let v1553 : BitVec 1 := Scalar.andi v1550 v1552
  let v1539 : BitVec 32 := Scalar.divsi v1338 c2_i32_914
  let c1_i32_920 : BitVec 32 := 1#32
  let v1554 : BitVec 32 := Scalar.subi v1539 c1_i32_920
  let v1555 : BitVec 32 := Scalar.select v1553 v1554 v1539
  let c2_i32_921 : BitVec 32 := 2#32
  let v1556 : BitVec 32 := Scalar.muli v1555 c2_i32_921
  let c0_i32_930 : BitVec 32 := 0#32
  let c0_i32_931 : BitVec 32 := 0#32
  let c0_i32_932 : BitVec 32 := 0#32
  ![2, v1556.toNat, 0, 0, 0]
def k0_dev16 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_928 : BitVec 32 := 1#32
  let v1557 : BitVec 32 := Scalar.muli v5 c1_i32_928
  let v1558 : BitVec 32 := Scalar.addi c0_i32_929 v1557
  v1558.toNat
def k0_off37 (d0 : Dev nD) : Fin 5 → Nat :=
  let c0_i32_1026 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v61 : BitVec 32 := Scalar.muli c4_i32_25 v22
  let c2_i32_26 : BitVec 32 := 2#32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v62 : BitVec 32 := Scalar.muli c2_i32_26 v49
  let v63 : BitVec 32 := Scalar.addi v61 v62
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v64 : BitVec 32 := Scalar.addi v63 v60
  let c0_i32_1018 : BitVec 32 := 0#32
  let v1610 : BitVec 1 := Scalar.cmpi .sgt v64 c0_i32_1018
  let v1611 : BitVec 32 := Scalar.extui v1610
  let c0_i32_1019 : BitVec 32 := 0#32
  let v1612 : BitVec 1 := Scalar.cmpi .slt v64 c0_i32_1019
  let v1613 : BitVec 32 := Scalar.extui v1612
  let v1614 : BitVec 32 := Scalar.subi v1611 v1613
  let c4_i32_1017 : BitVec 32 := 4#32
  let c0_i32_1020 : BitVec 32 := 0#32
  let v1615 : BitVec 1 := Scalar.cmpi .sgt c4_i32_1017 c0_i32_1020
  let v1616 : BitVec 32 := Scalar.extui v1615
  let c0_i32_1021 : BitVec 32 := 0#32
  let v1617 : BitVec 1 := Scalar.cmpi .slt c4_i32_1017 c0_i32_1021
  let v1618 : BitVec 32 := Scalar.extui v1617
  let v1619 : BitVec 32 := Scalar.subi v1616 v1618
  let v1620 : BitVec 1 := Scalar.cmpi .ne v1614 v1619
  let v1621 : BitVec 32 := Scalar.remsi v64 c4_i32_1017
  let c0_i32_1022 : BitVec 32 := 0#32
  let v1622 : BitVec 1 := Scalar.cmpi .ne v1621 c0_i32_1022
  let v1623 : BitVec 1 := Scalar.andi v1620 v1622
  let v1609 : BitVec 32 := Scalar.divsi v64 c4_i32_1017
  let c1_i32_1023 : BitVec 32 := 1#32
  let v1624 : BitVec 32 := Scalar.subi v1609 c1_i32_1023
  let v1625 : BitVec 32 := Scalar.select v1623 v1624 v1609
  let c4_i32_1024 : BitVec 32 := 4#32
  let v1626 : BitVec 32 := Scalar.muli v1625 c4_i32_1024
  let c0_i32_1033 : BitVec 32 := 0#32
  let c0_i32_1034 : BitVec 32 := 0#32
  let c0_i32_1035 : BitVec 32 := 0#32
  ![0, v1626.toNat, 0, 0, 0]
def k0_dev17 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_1031 : BitVec 32 := 1#32
  let v1627 : BitVec 32 := Scalar.muli v3 c1_i32_1031
  let v1628 : BitVec 32 := Scalar.addi c0_i32_1032 v1627
  v1628.toNat
def k0_off38 (d0 : Dev nD) : Fin 5 → Nat :=
  let c1_i32_1048 : BitVec 32 := 1#32
  let c4_i32_705 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1331 : BitVec 32 := Scalar.muli c4_i32_705 v60
  let c2_i32_706 : BitVec 32 := 2#32
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1332 : BitVec 32 := Scalar.muli c2_i32_706 v22
  let v1333 : BitVec 32 := Scalar.addi v1331 v1332
  let v1334 : BitVec 32 := Scalar.addi v1333 v49
  let c0_i32_1040 : BitVec 32 := 0#32
  let v1638 : BitVec 1 := Scalar.cmpi .sgt v1334 c0_i32_1040
  let v1639 : BitVec 32 := Scalar.extui v1638
  let c0_i32_1041 : BitVec 32 := 0#32
  let v1640 : BitVec 1 := Scalar.cmpi .slt v1334 c0_i32_1041
  let v1641 : BitVec 32 := Scalar.extui v1640
  let v1642 : BitVec 32 := Scalar.subi v1639 v1641
  let c4_i32_1039 : BitVec 32 := 4#32
  let c0_i32_1042 : BitVec 32 := 0#32
  let v1643 : BitVec 1 := Scalar.cmpi .sgt c4_i32_1039 c0_i32_1042
  let v1644 : BitVec 32 := Scalar.extui v1643
  let c0_i32_1043 : BitVec 32 := 0#32
  let v1645 : BitVec 1 := Scalar.cmpi .slt c4_i32_1039 c0_i32_1043
  let v1646 : BitVec 32 := Scalar.extui v1645
  let v1647 : BitVec 32 := Scalar.subi v1644 v1646
  let v1648 : BitVec 1 := Scalar.cmpi .ne v1642 v1647
  let v1649 : BitVec 32 := Scalar.remsi v1334 c4_i32_1039
  let c0_i32_1044 : BitVec 32 := 0#32
  let v1650 : BitVec 1 := Scalar.cmpi .ne v1649 c0_i32_1044
  let v1651 : BitVec 1 := Scalar.andi v1648 v1650
  let v1637 : BitVec 32 := Scalar.divsi v1334 c4_i32_1039
  let c1_i32_1045 : BitVec 32 := 1#32
  let v1652 : BitVec 32 := Scalar.subi v1637 c1_i32_1045
  let v1653 : BitVec 32 := Scalar.select v1651 v1652 v1637
  let c4_i32_1046 : BitVec 32 := 4#32
  let v1654 : BitVec 32 := Scalar.muli v1653 c4_i32_1046
  let c0_i32_1055 : BitVec 32 := 0#32
  let c0_i32_1056 : BitVec 32 := 0#32
  let c0_i32_1057 : BitVec 32 := 0#32
  ![1, v1654.toNat, 0, 0, 0]
def k0_dev18 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_1053 : BitVec 32 := 1#32
  let v1655 : BitVec 32 := Scalar.muli v5 c1_i32_1053
  let v1656 : BitVec 32 := Scalar.addi c0_i32_1054 v1655
  v1656.toNat
def k0_off39 (d0 : Dev nD) : Fin 5 → Nat :=
  let c2_i32_1070 : BitVec 32 := 2#32
  let c4_i32_707 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v24 : BitVec 1 := Scalar.cmpi .sgt v2 c0_i32_7
  let v25 : BitVec 32 := Scalar.extui v24
  let c0_i32_8 : BitVec 32 := 0#32
  let v26 : BitVec 1 := Scalar.cmpi .slt v2 c0_i32_8
  let v27 : BitVec 32 := Scalar.extui v26
  let v28 : BitVec 32 := Scalar.subi v25 v27
  let c2_i32 : BitVec 32 := 2#32
  let c0_i32_9 : BitVec 32 := 0#32
  let v29 : BitVec 1 := Scalar.cmpi .sgt c2_i32 c0_i32_9
  let v30 : BitVec 32 := Scalar.extui v29
  let c0_i32_10 : BitVec 32 := 0#32
  let v31 : BitVec 1 := Scalar.cmpi .slt c2_i32 c0_i32_10
  let v32 : BitVec 32 := Scalar.extui v31
  let v33 : BitVec 32 := Scalar.subi v30 v32
  let v34 : BitVec 1 := Scalar.cmpi .ne v28 v33
  let v35 : BitVec 32 := Scalar.remsi v2 c2_i32
  let c0_i32_11 : BitVec 32 := 0#32
  let v36 : BitVec 1 := Scalar.cmpi .ne v35 c0_i32_11
  let v37 : BitVec 1 := Scalar.andi v34 v36
  let v23 : BitVec 32 := Scalar.divsi v2 c2_i32
  let c1_i32_12 : BitVec 32 := 1#32
  let v38 : BitVec 32 := Scalar.subi v23 c1_i32_12
  let v39 : BitVec 32 := Scalar.select v37 v38 v23
  let c2_i32_13 : BitVec 32 := 2#32
  let c0_i32_14 : BitVec 32 := 0#32
  let v40 : BitVec 1 := Scalar.cmpi .eq c2_i32_13 c0_i32_14
  let c1_i32_15 : BitVec 32 := 1#32
  let v41 : BitVec 32 := Scalar.select v40 c1_i32_15 c2_i32_13
  let v42 : BitVec 32 := Scalar.remsi v39 v41
  let c0_i32_17 : BitVec 32 := 0#32
  let v44 : BitVec 1 := Scalar.cmpi .slt v42 c0_i32_17
  let c0_i32_18 : BitVec 32 := 0#32
  let v45 : BitVec 1 := Scalar.cmpi .slt v41 c0_i32_18
  let v46 : BitVec 1 := Scalar.xori v44 v45
  let c0_i32_16 : BitVec 32 := 0#32
  let v43 : BitVec 1 := Scalar.cmpi .ne v42 c0_i32_16
  let v47 : BitVec 1 := Scalar.andi v46 v43
  let v48 : BitVec 32 := Scalar.addi v42 v41
  let v49 : BitVec 32 := Scalar.select v47 v48 v42
  let v1335 : BitVec 32 := Scalar.muli c4_i32_707 v49
  let c2_i32_708 : BitVec 32 := 2#32
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v2 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.xori v49 v59
  let v1336 : BitVec 32 := Scalar.muli c2_i32_708 v60
  let v1337 : BitVec 32 := Scalar.addi v1335 v1336
  let c0_i32 : BitVec 32 := 0#32
  let v7 : BitVec 1 := Scalar.cmpi .sgt v2 c0_i32
  let v8 : BitVec 32 := Scalar.extui v7
  let c0_i32_2 : BitVec 32 := 0#32
  let v9 : BitVec 1 := Scalar.cmpi .slt v2 c0_i32_2
  let v10 : BitVec 32 := Scalar.extui v9
  let v11 : BitVec 32 := Scalar.subi v8 v10
  let c4_i32_1 : BitVec 32 := 4#32
  let c0_i32_3 : BitVec 32 := 0#32
  let v12 : BitVec 1 := Scalar.cmpi .sgt c4_i32_1 c0_i32_3
  let v13 : BitVec 32 := Scalar.extui v12
  let c0_i32_4 : BitVec 32 := 0#32
  let v14 : BitVec 1 := Scalar.cmpi .slt c4_i32_1 c0_i32_4
  let v15 : BitVec 32 := Scalar.extui v14
  let v16 : BitVec 32 := Scalar.subi v13 v15
  let v17 : BitVec 1 := Scalar.cmpi .ne v11 v16
  let v18 : BitVec 32 := Scalar.remsi v2 c4_i32_1
  let c0_i32_5 : BitVec 32 := 0#32
  let v19 : BitVec 1 := Scalar.cmpi .ne v18 c0_i32_5
  let v20 : BitVec 1 := Scalar.andi v17 v19
  let v6 : BitVec 32 := Scalar.divsi v2 c4_i32_1
  let c1_i32_6 : BitVec 32 := 1#32
  let v21 : BitVec 32 := Scalar.subi v6 c1_i32_6
  let v22 : BitVec 32 := Scalar.select v20 v21 v6
  let v1338 : BitVec 32 := Scalar.addi v1337 v22
  let c0_i32_1062 : BitVec 32 := 0#32
  let v1666 : BitVec 1 := Scalar.cmpi .sgt v1338 c0_i32_1062
  let v1667 : BitVec 32 := Scalar.extui v1666
  let c0_i32_1063 : BitVec 32 := 0#32
  let v1668 : BitVec 1 := Scalar.cmpi .slt v1338 c0_i32_1063
  let v1669 : BitVec 32 := Scalar.extui v1668
  let v1670 : BitVec 32 := Scalar.subi v1667 v1669
  let c4_i32_1061 : BitVec 32 := 4#32
  let c0_i32_1064 : BitVec 32 := 0#32
  let v1671 : BitVec 1 := Scalar.cmpi .sgt c4_i32_1061 c0_i32_1064
  let v1672 : BitVec 32 := Scalar.extui v1671
  let c0_i32_1065 : BitVec 32 := 0#32
  let v1673 : BitVec 1 := Scalar.cmpi .slt c4_i32_1061 c0_i32_1065
  let v1674 : BitVec 32 := Scalar.extui v1673
  let v1675 : BitVec 32 := Scalar.subi v1672 v1674
  let v1676 : BitVec 1 := Scalar.cmpi .ne v1670 v1675
  let v1677 : BitVec 32 := Scalar.remsi v1338 c4_i32_1061
  let c0_i32_1066 : BitVec 32 := 0#32
  let v1678 : BitVec 1 := Scalar.cmpi .ne v1677 c0_i32_1066
  let v1679 : BitVec 1 := Scalar.andi v1676 v1678
  let v1665 : BitVec 32 := Scalar.divsi v1338 c4_i32_1061
  let c1_i32_1067 : BitVec 32 := 1#32
  let v1680 : BitVec 32 := Scalar.subi v1665 c1_i32_1067
  let v1681 : BitVec 32 := Scalar.select v1679 v1680 v1665
  let c4_i32_1068 : BitVec 32 := 4#32
  let v1682 : BitVec 32 := Scalar.muli v1681 c4_i32_1068
  let c0_i32_1077 : BitVec 32 := 0#32
  let c0_i32_1078 : BitVec 32 := 0#32
  let c0_i32_1079 : BitVec 32 := 0#32
  ![2, v1682.toNat, 0, 0, 0]
def k0_dev19 (d0 : Dev nD) : Nat :=
  let c0_i32_1076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1075 : BitVec 32 := 1#32
  let v1683 : BitVec 32 := Scalar.muli v4 c1_i32_1075
  let v1684 : BitVec 32 := Scalar.addi c0_i32_1076 v1683
  v1684.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 133
  | .vmem => 0
  | .smem => 0
  | _ => 0

abbrev hbmTy0_0 (i : Nat) : BufTy := match i % 128 with
  | 0 => ⟨S2x512x768, .bf16⟩
  | 1 => ⟨S768x4096, .bf16⟩
  | 2 => ⟨S2x512x64x64, .bf16⟩
  | 3 => ⟨S2x512x64x64, .bf16⟩
  | 4 => ⟨S4096x768, .bf16⟩
  | 5 => ⟨S2x512x768, .f32⟩
  | 6 => ⟨S768x4096, .f32⟩
  | 7 => ⟨S2x512x4096, .f32⟩
  | 8 => ⟨S2x512x4096, .bf16⟩
  | 9 => ⟨S2x512x4096, .f32⟩
  | 10 => ⟨S2x512x64x64, .f32⟩
  | 11 => ⟨S512, .i32⟩
  | 12 => ⟨S_, .i32⟩
  | 13 => ⟨S_, .i32⟩
  | 14 => ⟨S512, .i32⟩
  | 15 => ⟨S512, .i32⟩
  | 16 => ⟨S512, .i32⟩
  | 17 => ⟨S_, .i32⟩
  | 18 => ⟨S512, .i32⟩
  | 19 => ⟨S512, .i1⟩
  | 20 => ⟨S512, .i32⟩
  | 21 => ⟨S512, .i32⟩
  | 22 => ⟨S_, .i32⟩
  | 23 => ⟨S512, .i32⟩
  | 24 => ⟨S512, .i1⟩
  | 25 => ⟨S512, .i1⟩
  | 26 => ⟨S_, .i32⟩
  | 27 => ⟨S512, .i32⟩
  | 28 => ⟨S512, .i32⟩
  | 29 => ⟨S512, .i32⟩
  | 30 => ⟨S512x1, .i32⟩
  | 31 => ⟨S512, .i32⟩
  | 32 => ⟨S_, .i32⟩
  | 33 => ⟨S_, .i32⟩
  | 34 => ⟨S512, .i32⟩
  | 35 => ⟨S512, .i32⟩
  | 36 => ⟨S512, .i32⟩
  | 37 => ⟨S_, .i32⟩
  | 38 => ⟨S512, .i32⟩
  | 39 => ⟨S512, .i1⟩
  | 40 => ⟨S512, .i32⟩
  | 41 => ⟨S512, .i32⟩
  | 42 => ⟨S_, .i32⟩
  | 43 => ⟨S512, .i32⟩
  | 44 => ⟨S512, .i1⟩
  | 45 => ⟨S512, .i1⟩
  | 46 => ⟨S_, .i32⟩
  | 47 => ⟨S512, .i32⟩
  | 48 => ⟨S512, .i32⟩
  | 49 => ⟨S512, .i32⟩
  | 50 => ⟨S1x512, .i32⟩
  | 51 => ⟨S512x512, .i32⟩
  | 52 => ⟨S512x512, .i32⟩
  | 53 => ⟨S512x512, .i1⟩
  | 54 => ⟨S_, .i32⟩
  | 55 => ⟨S1x512, .i32⟩
  | 56 => ⟨S1x512, .i1⟩
  | 57 => ⟨S512x512, .i1⟩
  | 58 => ⟨S512x512, .i1⟩
  | 59 => ⟨S512x512, .i32⟩
  | 60 => ⟨S512x512, .i32⟩
  | 61 => ⟨S512x512, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S512x512, .i32⟩
  | 69 => ⟨S512x512, .i32⟩
  | 70 => ⟨S_, .i32⟩
  | 71 => ⟨S512x512, .i32⟩
  | 72 => ⟨S512x512, .i1⟩
  | 73 => ⟨S_, .i32⟩
  | 74 => ⟨S512x512, .i32⟩
  | 75 => ⟨S512x512, .i1⟩
  | 76 => ⟨S_, .i32⟩
  | 77 => ⟨S_, .i1⟩
  | 78 => ⟨S512x512, .i1⟩
  | 79 => ⟨S512x512, .i1⟩
  | 80 => ⟨S512x512, .i1⟩
  | 81 => ⟨S512x512, .i32⟩
  | 82 => ⟨S512x512, .i32⟩
  | 83 => ⟨S512x512, .i32⟩
  | 84 => ⟨S_, .i32⟩
  | 85 => ⟨S512x512, .i32⟩
  | 86 => ⟨S512x512, .i1⟩
  | 87 => ⟨S512x512, .i1⟩
  | 88 => ⟨S2x512x64x64, .f32⟩
  | 89 => ⟨S2x64x512x512, .f32⟩
  | 90 => ⟨S2x64x512x512, .bf16⟩
  | 91 => ⟨S2x64x512x512, .f32⟩
  | 92 => ⟨S_, .f32⟩
  | 93 => ⟨S2x64x512x512, .f32⟩
  | 94 => ⟨S2x64x512x512, .f32⟩
  | 95 => ⟨S1x1x512x512, .i1⟩
  | 96 => ⟨S_, .f32⟩
  | 97 => ⟨S_, .f32⟩
  | 98 => ⟨S2x64x512x512, .i1⟩
  | 99 => ⟨S2x64x512x512, .f32⟩
  | 100 => ⟨S2x64x512x512, .f32⟩
  | 101 => ⟨S_, .f32⟩
  | 102 => ⟨S2x64x512, .f32⟩
  | 103 => ⟨S2x64x512x1, .f32⟩
  | 104 => ⟨S2x64x512x512, .f32⟩
  | 105 => ⟨S2x64x512x512, .f32⟩
  | 106 => ⟨S2x64x512x512, .f32⟩
  | 107 => ⟨S_, .i1⟩
  | 108 => ⟨S512, .i1⟩
  | 109 => ⟨S1x1x512x1, .i1⟩
  | 110 => ⟨S_, .f32⟩
  | 111 => ⟨S2x64x512, .f32⟩
  | 112 => ⟨S2x64x512x1, .f32⟩
  | 113 => ⟨S_, .f32⟩
  | 114 => ⟨S_, .f32⟩
  | 115 => ⟨S2x64x512x1, .i1⟩
  | 116 => ⟨S2x64x512x1, .f32⟩
  | 117 => ⟨S2x64x512x1, .f32⟩
  | 118 => ⟨S2x64x512x512, .f32⟩
  | 119 => ⟨S2x64x512x512, .f32⟩
  | 120 => ⟨S1x1x512x1, .i1⟩
  | 121 => ⟨S_, .f32⟩
  | 122 => ⟨S_, .f32⟩
  | 123 => ⟨S2x64x512x512, .i1⟩
  | 124 => ⟨S2x64x512x512, .f32⟩
  | 125 => ⟨S2x64x512x512, .f32⟩
  | 126 => ⟨S2x512x64x64, .f32⟩
  | 127 => ⟨S2x64x64x512, .f32⟩
  | _ => ⟨S2x512x768, .bf16⟩

abbrev hbmTy0_1 (i : Nat) : BufTy := match i % 128 with
  | 0 => ⟨S2x512x64x64, .f32⟩
  | 1 => ⟨S2x512x4096, .f32⟩
  | 2 => ⟨S4096x768, .f32⟩
  | 3 => ⟨S2x512x768, .f32⟩
  | 4 => ⟨S2x512x768, .bf16⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_2 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v22 : Ref sig .tc := ⟨.hbm, 83, rfl⟩
abbrev main_c_3 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_4 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v33 : Ref sig .tc := ⟨.hbm, 100, rfl⟩
abbrev main_cst_5 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_c_6 : Ref sig .tc := ⟨.hbm, 107, rfl⟩
abbrev main_v39 : Ref sig .tc := ⟨.hbm, 108, rfl⟩
abbrev main_v40 : Ref sig .tc := ⟨.hbm, 109, rfl⟩
abbrev main_cst_7 : Ref sig .tc := ⟨.hbm, 110, rfl⟩
abbrev main_v41 : Ref sig .tc := ⟨.hbm, 111, rfl⟩
abbrev main_v42 : Ref sig .tc := ⟨.hbm, 112, rfl⟩
abbrev main_cst_8 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_9 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩

abbrev nD : Nat := 1
abbrev τ : Topo := Topo.v7x

variable {F : FTy → Type} [FloatOps F]
-- ==== Proof.Places.lean ====
/-
  The mesh of eight devices as a cube: the three neighbours of a device, the numbers the kernel computes of its own
  place, and every offset and device id the kernel prints, in closed form.
-/
module

public import proofs.«01_k».proof.Proof.Gen.KernelIdeal.Skeleton

@[expose] public section

namespace Cert.KernelIdeal.Reduce

open Idealize.ShloMosaic Cert.KernelIdeal Cert.KernelIdeal.Gen

/-- The neighbour of a device across dimension `k`: 0 is the far half, 1 the mirrored one, 2 the adjacent one. -/
def nb (k : Fin 3) (c : Dev nD) : Dev nD :=
  ⟨![c.val ^^^ 4, c.val ^^^ 3, c.val ^^^ 1] k, by revert k c; decide⟩

theorem nb_nb (k : Fin 3) (c : Dev nD) : nb k (nb k c) = c := by revert k c; decide
theorem nb_ne (k : Fin 3) (c : Dev nD) : nb k c ≠ c := by revert k c; decide

/-- The three bits of a device's place, and the chunk of rows whose sum it ends with. -/
abbrev u2 (c : Dev nD) : ℕ := c.val / 4
abbrev u1 (c : Dev nD) : ℕ := c.val / 2 % 2
abbrev u0 (c : Dev nD) : ℕ := (c.val / 2 + c.val) % 2
abbrev uu (c : Dev nD) : ℕ := 4 * u2 c + 2 * u1 c + u0 c
/-- The first of the four chunks a device keeps, and of the four it sends away. -/
abbrev kp (c : Dev nD) : ℕ := 4 * u2 c
abbrev sd (c : Dev nD) : ℕ := 4 * (1 - u2 c)
/-- The slot of part `t` of the gathered result at which a device's own chunk stands. -/
def sg (t : Fin 3) (c : Dev nD) : ℕ := ![uu c, 4 * u0 c + 2 * u2 c + u1 c, 4 * u1 c + 2 * u0 c + u2 c] t
/-- The first slot of the group of `2 ^ r` slots a device holds of part `t` before round `r` of the gathering. -/
def lo (r t : Fin 3) (c : Dev nD) : ℕ := sg t c / 2 ^ r.val * 2 ^ r.val

theorem off1_eq (c : Dev nD) : k0_off1 c = ![0, 64 * sd c, 0] := by revert c; decide
theorem off2_eq (c : Dev nD) : k0_off2 c = ![sd c, 0, 0, 0] := by revert c; decide
theorem off3_eq (c : Dev nD) : k0_off3 c = ![sd c, 0, 0, 0] := by revert c; decide
theorem off4_eq (c : Dev nD) : k0_off4 c = ![1, 64 * sd c, 0] := by revert c; decide
theorem off5_eq (c : Dev nD) : k0_off5 c = ![sd c, 1, 0, 0] := by revert c; decide
theorem off6_eq (c : Dev nD) : k0_off6 c = ![sd c, 1, 0, 0] := by revert c; decide
theorem off7_eq (c : Dev nD) : k0_off7 c = ![0, 64 * kp c, 0] := by revert c; decide
theorem off8_eq (c : Dev nD) : k0_off8 c = ![kp c, 0, 0, 0] := by revert c; decide
theorem off9_eq (c : Dev nD) : k0_off9 c = ![1, 64 * kp c, 0] := by revert c; decide
theorem off10_eq (c : Dev nD) : k0_off10 c = ![kp c, 1, 0, 0] := by revert c; decide
theorem off11_eq (c : Dev nD) : k0_off11 c = ![kp c + 2 * (1 - u1 c), 0, 0, 0] := by revert c; decide
theorem off12_eq (c : Dev nD) : k0_off12 c = ![2 * (1 - u1 c), 0, 0, 0] := by revert c; decide
theorem off13_eq (c : Dev nD) : k0_off13 c = ![kp c + 2 * u1 c + (1 - u0 c), 0, 0, 384] := by revert c; decide
theorem off14_eq (c : Dev nD) : k0_off14 c = ![2 * u1 c + (1 - u0 c), 0, 0, 384] := by revert c; decide
theorem off15_eq (c : Dev nD) : k0_off15 c = ![kp c + 2 * (1 - u1 c), 0, 0, 0] := by revert c; decide
theorem off17_eq (c : Dev nD) : k0_off17 c = ![uu c, 0, 0, 0] := by revert c; decide
theorem off18_eq (c : Dev nD) : k0_off18 c = ![2 * u1 c + u0 c, 0, 0, 0] := by revert c; decide
theorem off19_eq (c : Dev nD) : k0_off19 c = ![kp c + 2 * u1 c + (1 - u0 c), 0, 0, 0] := by revert c; decide
theorem off20_eq (c : Dev nD) : k0_off20 c = ![2 * u1 c + (1 - u0 c), 0, 0, 0] := by revert c; decide
theorem off21_eq (c : Dev nD) : k0_off21 c = ![1 - u0 c, 0, 0, 0] := by revert c; decide
theorem off22_eq (c : Dev nD) : k0_off22 c = ![kp c + 2 * (1 - u1 c) + u0 c, 0, 0, 384] := by revert c; decide
theorem off23_eq (c : Dev nD) : k0_off23 c = ![1 - u1 c, 0, 0, 0] := by revert c; decide
theorem off24_eq (c : Dev nD) : k0_off24 c = ![uu c, 0, 0, 0] := by revert c; decide
theorem off25_eq (c : Dev nD) : k0_off25 c = ![u0 c, 0, 0, 0] := by revert c; decide
theorem off26_eq (c : Dev nD) : k0_off26 c = ![uu c, 0, 0, 384] := by revert c; decide
theorem off27_eq (c : Dev nD) : k0_off27 c = ![u1 c, 0, 0, 0] := by revert c; decide
theorem off28_eq (c : Dev nD) : k0_off28 c = ![0, sg 0 c, 0, 0, 0] := by revert c; decide
theorem off29_eq (c : Dev nD) : k0_off29 c = ![1, sg 1 c, 0, 0, 0] := by revert c; decide
theorem off30_eq (c : Dev nD) : k0_off30 c = ![2, sg 2 c, 0, 0, 0] := by revert c; decide
theorem off31_eq (c : Dev nD) : k0_off31 c = ![0, lo 0 0 c, 0, 0, 0] := by revert c; decide
theorem off32_eq (c : Dev nD) : k0_off32 c = ![1, lo 0 1 c, 0, 0, 0] := by revert c; decide
theorem off33_eq (c : Dev nD) : k0_off33 c = ![2, lo 0 2 c, 0, 0, 0] := by revert c; decide
theorem off34_eq (c : Dev nD) : k0_off34 c = ![0, lo 1 0 c, 0, 0, 0] := by revert c; decide
theorem off35_eq (c : Dev nD) : k0_off35 c = ![1, lo 1 1 c, 0, 0, 0] := by revert c; decide
theorem off36_eq (c : Dev nD) : k0_off36 c = ![2, lo 1 2 c, 0, 0, 0] := by revert c; decide
theorem off37_eq (c : Dev nD) : k0_off37 c = ![0, lo 2 0 c, 0, 0, 0] := by revert c; decide
theorem off38_eq (c : Dev nD) : k0_off38 c = ![1, lo 2 1 c, 0, 0, 0] := by revert c; decide
theorem off39_eq (c : Dev nD) : k0_off39 c = ![2, lo 2 2 c, 0, 0, 0] := by revert c; decide
theorem off16_0_eq (c : Dev nD) : k0_off16 c 0#32 = ![kp c + 0 + (1 - u0 c), 0, 0, 384] := by revert c; decide
theorem off16_2_eq (c : Dev nD) : k0_off16 c 2#32 = ![kp c + 2 + (1 - u0 c), 0, 0, 384] := by revert c; decide
theorem dev1_eq (c : Dev nD) : (⟨k0_dev1 c, k0_dev1_lt c⟩ : Dev nD) = nb 0 c := by revert c; decide
theorem dev2_eq (c : Dev nD) : (⟨k0_dev2 c, k0_dev2_lt c⟩ : Dev nD) = nb 1 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = nb 0 c := by revert c; decide
theorem dev5_eq (c : Dev nD) : (⟨k0_dev5 c, k0_dev5_lt c⟩ : Dev nD) = nb 0 c := by revert c; decide
theorem dev6_eq (c : Dev nD) : (⟨k0_dev6 c, k0_dev6_lt c⟩ : Dev nD) = nb 1 c := by revert c; decide
theorem dev7_eq (c : Dev nD) : (⟨k0_dev7 c, k0_dev7_lt c⟩ : Dev nD) = nb 2 c := by revert c; decide
theorem dev8_eq (c : Dev nD) : (⟨k0_dev8 c, k0_dev8_lt c⟩ : Dev nD) = nb 2 c := by revert c; decide
theorem dev9_eq (c : Dev nD) : (⟨k0_dev9 c, k0_dev9_lt c⟩ : Dev nD) = nb 2 c := by revert c; decide
theorem dev10_eq (c : Dev nD) : (⟨k0_dev10 c, k0_dev10_lt c⟩ : Dev nD) = nb 1 c := by revert c; decide
theorem dev11_eq (c : Dev nD) : (⟨k0_dev11 c, k0_dev11_lt c⟩ : Dev nD) = nb 2 c := by revert c; decide
theorem dev12_eq (c : Dev nD) : (⟨k0_dev12 c, k0_dev12_lt c⟩ : Dev nD) = nb 1 c := by revert c; decide
theorem dev13_eq (c : Dev nD) : (⟨k0_dev13 c, k0_dev13_lt c⟩ : Dev nD) = nb 0 c := by revert c; decide
theorem dev14_eq (c : Dev nD) : (⟨k0_dev14 c, k0_dev14_lt c⟩ : Dev nD) = nb 1 c := by revert c; decide
theorem dev15_eq (c : Dev nD) : (⟨k0_dev15 c, k0_dev15_lt c⟩ : Dev nD) = nb 0 c := by revert c; decide
theorem dev16_eq (c : Dev nD) : (⟨k0_dev16 c, k0_dev16_lt c⟩ : Dev nD) = nb 2 c := by revert c; decide
theorem dev17_eq (c : Dev nD) : (⟨k0_dev17 c, k0_dev17_lt c⟩ : Dev nD) = nb 0 c := by revert c; decide
theorem dev18_eq (c : Dev nD) : (⟨k0_dev18 c, k0_dev18_lt c⟩ : Dev nD) = nb 2 c := by revert c; decide
theorem dev19_eq (c : Dev nD) : (⟨k0_dev19 c, k0_dev19_lt c⟩ : Dev nD) = nb 1 c := by revert c; decide

end Cert.KernelIdeal.Reduce
-- ==== Proof.Values.lean ====
/-
  What the buffers of the eight devices hold, as functions of the partial sums: every device starts with a partial
  sum `P c` of the whole result; the sums are added up dimension by dimension, rounded to bf16 whenever they travel.
-/
module

public import proofs.«01_k».proof.Proof.Places
public import Idealize.ShloMosaic.Lib.ValueIdxCore

@[expose] public section

noncomputable section

namespace Cert.KernelIdeal.Reduce

open Idealize.ShloMosaic Idealize.ShloMosaic.ValueIdx Cert.KernelIdeal Cert.KernelIdeal.Gen

variable {F : FTy → Type} [FloatOps F]

/-- A sum after one received term: the own value plus the other one, which travelled as bf16. -/
def addRnd (a b : FVec F S8x2x64x768 .f32) : FVec F S8x2x64x768 .f32 :=
  addf a (extf .f32 (truncf .bf16 b bitsLt_bf16_f32) bitsLt_bf16_f32)

/-- Pick by columns: the first 384 from `a`, the others from `b`. -/
def cols {α : Type} (a b : S8x2x64x768.Idx → α) : S8x2x64x768.Idx → α := fun j => if (j 3).val < 384 then a j else b j

/-- An index of the accumulator at chunk `i` (brought into range), batch, row and column. -/
abbrev at8 (i : ℕ) (b : Fin 2) (r : Fin 64) (k : ℕ) : S8x2x64x768.Idx :=
  ix4 ⟨i % 8, Nat.mod_lt _ (by decide)⟩ b r ⟨k % 768, Nat.mod_lt _ (by decide)⟩

variable (P : Dev nD → FVec F S8x2x64x768 .f32)

/-- After the exchange between halves; -/
def acc1 (c : Dev nD) : FVec F S8x2x64x768 .f32 := addRnd (P c) (P (nb 0 c))
/-- after the second exchange, along different dimensions for the two halves of the columns; -/
def acc2 (c : Dev nD) : FVec F S8x2x64x768 .f32 := addRnd (acc1 P c) (cols (acc1 P (nb 1 c)) (acc1 P (nb 2 c)))
/-- after the third. -/
def acc3 (c : Dev nD) : FVec F S8x2x64x768 .f32 := addRnd (acc2 P c) (cols (acc2 P (nb 2 c)) (acc2 P (nb 1 c)))

/-- A value about to travel. -/
def rnd (a : FVec F S8x2x64x768 .f32) : FVec F S8x2x64x768 .bf16 := truncf .bf16 a bitsLt_bf16_f32

/-- The buffers sent: four chunks for the other half, -/
def sb0 (c : Dev nD) : FVec F S4x2x64x768 .bf16 := fun j => rnd (P c) (at8 (sd c + (j 0).val) (j 1) (j 2) (j 3).val)
/-- then two and two, -/
def sA1 (c : Dev nD) : FVec F S2x2x64x384 .bf16 :=
  fun j => rnd (acc1 P c) (at8 (kp c + 2 * (1 - u1 c) + (j 0).val) (j 1) (j 2) (j 3).val)
def sB1 (c : Dev nD) : FVec F S2x2x64x384 .bf16 :=
  fun j => rnd (acc1 P c) (at8 (kp c + 2 * (j 0).val + (1 - u0 c)) (j 1) (j 2) (384 + (j 3).val))
/-- then one and one. -/
def sA2 (c : Dev nD) : FVec F S1x2x64x384 .bf16 :=
  fun j => rnd (acc2 P c) (at8 (kp c + 2 * u1 c + (1 - u0 c) + (j 0).val) (j 1) (j 2) (j 3).val)
def sB2 (c : Dev nD) : FVec F S1x2x64x384 .bf16 :=
  fun j => rnd (acc2 P c) (at8 (kp c + 2 * (1 - u1 c) + u0 c + (j 0).val) (j 1) (j 2) (384 + (j 3).val))

/-- Whose sum stands in slot `s` of part `t` of the gathered result. -/
def owner (t : Fin 3) (s : Fin 8) : Dev nD :=
  (![![0, 1, 3, 2, 4, 5, 7, 6], ![0, 3, 4, 7, 1, 2, 5, 6], ![0, 4, 1, 5, 3, 7, 2, 6]] : Fin 3 → Fin 8 → Dev nD) t s

theorem sg_owner (t : Fin 3) (s : Fin 8) : sg t (owner t s) = s.val := by revert t s; decide
theorem owner_sg (t : Fin 3) (c : Dev nD) (h : sg t c < 8) : owner t ⟨sg t c, h⟩ = c := by revert t c; decide
theorem sg_lt (t : Fin 3) (c : Dev nD) : sg t c < 8 := by revert t c; decide
theorem uu_lt (c : Dev nD) : uu c < 8 := by revert c; decide

/-- The gathered sums, the same on every device; -/
def gath : FVec F S3x8x2x64x256 .bf16 := fun j =>
  rnd (acc3 P (owner (j 0) (j 1))) (at8 (uu (owner (j 0) (j 1))) (j 2) (j 3) (256 * (j 0).val + (j 4).val))

/-- and the result. -/
def total : FVec F S2x512x768 .bf16 := fun j =>
  rnd (acc3 P (owner 0 ⟨(j 1).val / 64 % 8, Nat.mod_lt _ (by decide)⟩))
    (at8 ((j 1).val / 64) (j 0) ⟨(j 1).val % 64, Nat.mod_lt _ (by decide)⟩ (j 2).val)

end Cert.KernelIdeal.Reduce
-- ==== Proof.Proto.lean ====
/-
  The protocol: sixteen transfers per device and one barrier; who pays which semaphore, how much, and what comes with it.

  Transfer `x` of a device goes to its neighbour across dimension `cls x`: 0 and 1 the two batches of the exchange between
  halves, 2 to 6 the second and third exchanges, 7 to 15 the three rounds of the gathering, three parts each. Each transfer
  pays a send semaphore of the sender (the source comes back) and a receive semaphore of the receiver (the landing place
  comes back, filled). Before anything is sent a device tells each of its three neighbours that it has entered: with that
  signal go the landing places of all transfers that neighbour will make.
-/
module

public import proofs.«01_k».proof.Proof.Values
public import Idealize.ShloMosaic.Lib.Rounds
public import Idealize.ShloMosaic.Lib.Tactic
public import Idealize.ShloMosaic.Lib.Pipeline.Regions
public import Idealize.ShloMosaic.Lib.Pipeline.Kit
public import Idealize.ShloMosaic.PureOps

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds and this protocol's, whose duties are up to three per cell. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The transfers -/

/-- The dimension transfer `x` crosses; the device it goes to (and, the dimension being crossed both ways, comes from). -/
def cls : Fin 16 → Fin 3 := ![0, 0, 1, 2, 2, 2, 1, 2, 1, 0, 1, 0, 2, 0, 2, 1]
abbrev peer (x : Fin 16) (c : Dev nD) : Dev nD := nb (cls x) c
/-- Its semaphores. -/
def sndS : Fin 16 → DmaSem sig := ![6, 7, 10, 11, 12, 13, 14, 20, 23, 26, 21, 24, 27, 22, 25, 28]
def rcvS : Fin 16 → DmaSem sig := ![8, 9, 15, 16, 17, 18, 19, 29, 32, 35, 30, 33, 36, 31, 34, 37]
/-- What a semaphore is for: 0 nothing here, `1 + x` sending `x`, `17 + x` receiving it. -/
def kind (s : DmaSem sig) : ℕ :=
  (![0, 0, 0, 0, 0, 0, 1, 2, 17, 18, 3, 4, 5, 6, 7, 19, 20, 21, 22, 23, 8, 11, 14, 9, 12, 15, 10, 13, 16,
    24, 27, 30, 25, 28, 31, 26, 29, 32] : Fin 38 → ℕ) s
theorem kind_snd (x : Fin 16) : kind (sndS x) = 1 + x.val := by revert x; decide
theorem kind_rcv (x : Fin 16) : kind (rcvS x) = 17 + x.val := by revert x; decide
/-- The transfer a code names. -/
def xof (k : ℕ) : Fin 16 := ⟨(k + 15) % 16, Nat.mod_lt _ (by decide)⟩
theorem xof_snd (x : Fin 16) : xof (1 + x.val) = x := by revert x; decide
theorem xof_rcv (x : Fin 16) : xof (17 + x.val) = x := by revert x; decide

abbrev barS : Sem sig := sig.barrier 0 rfl
abbrev barCell (c : Dev nD) : GSem nD τ sig := ((c : Thread nD τ), .reg barS)
abbrev sndCell (x : Fin 16) (c : Dev nD) : GSem nD τ sig := ((c : Thread nD τ), .dma (sndS x))
abbrev rcvCell (x : Fin 16) (c : Dev nD) : GSem nD τ sig := ((c : Thread nD τ), .dma (rcvS x))

/-! ## The buffers -/

abbrev aX : Memref sig .tc .vmem S2x512x768 .bf16 := Memref.whole cc0_stg0_0
abbrev aWq : Memref sig .tc .vmem S768x512 .bf16 := Memref.whole cc0_stg1_0
abbrev aK : Memref sig .tc .vmem S2x512x512 .bf16 := Memref.whole cc0_stg2_0
abbrev aV : Memref sig .tc .vmem S2x512x512 .bf16 := Memref.whole cc0_stg3_0
abbrev aWo : Memref sig .tc .vmem S512x768 .bf16 := Memref.whole cc0_stg4_0
abbrev aOut : Memref sig .tc .vmem S2x512x768 .bf16 := Memref.whole cc0_stg5_0
abbrev aAcc : Memref sig .tc .vmem S8x2x64x768 .f32 := Memref.whole cc0_scratch0
abbrev aAg : Memref sig .tc .vmem S3x8x2x64x256 .bf16 := Memref.whole cc0_scratch1
abbrev aS0 : Memref sig .tc .vmem S4x2x64x768 .bf16 := Memref.whole cc0_scratch2
abbrev aR0 : Memref sig .tc .vmem S4x2x64x768 .bf16 := Memref.whole cc0_scratch3
abbrev aSA1 : Memref sig .tc .vmem S2x2x64x384 .bf16 := Memref.whole cc0_scratch4
abbrev aRA1 : Memref sig .tc .vmem S2x2x64x384 .bf16 := Memref.whole cc0_scratch5
abbrev aSB1 : Memref sig .tc .vmem S2x2x64x384 .bf16 := Memref.whole cc0_scratch6
abbrev aRB1 : Memref sig .tc .vmem S2x2x64x384 .bf16 := Memref.whole cc0_scratch7
abbrev aSA2 : Memref sig .tc .vmem S1x2x64x384 .bf16 := Memref.whole cc0_scratch8
abbrev aRA2 : Memref sig .tc .vmem S1x2x64x384 .bf16 := Memref.whole cc0_scratch9
abbrev aSB2 : Memref sig .tc .vmem S1x2x64x384 .bf16 := Memref.whole cc0_scratch10
abbrev aRB2 : Memref sig .tc .vmem S1x2x64x384 .bf16 := Memref.whole cc0_scratch11

/-- The buffer `b` of device `c` on the elements `I`, at `f`; and at some contents. -/
abbrev on (b : Ref sig .tc) (c : Dev nD) (I : Finset b.ty.shape.Idx) (f : b.ty.Contents (Elt F)) : sProp 𝕄 :=
  (c : Thread nD τ).loc b ↦[I]{fullShare} f
abbrev any (b : Ref sig .tc) (c : Dev nD) (I : Finset b.ty.shape.Idx) : sProp 𝕄 := iprop(∃ f, on (F := F) b c I f)

/-- One batch of the exchange between halves; one of the two chunks of the second exchange. -/
def batch (b : ℕ) : Finset S4x2x64x768.Idx := Finset.univ.filter fun i => (i 1).val = b
def chunk (k : ℕ) : Finset S2x2x64x384.Idx := Finset.univ.filter fun i => (i 0).val = k
/-- A set of slots of the gathered result. -/
def slotOf (i : S3x8x2x64x256.Idx) : Fin 3 × Fin 8 := (i 0, i 1)
def slotsOn (T : Finset (Fin 3 × Fin 8)) : Finset S3x8x2x64x256.Idx := Finset.univ.filter fun i => slotOf i ∈ T
/-- The slots of part `t` a device holds before round `r`, and sends in it. -/
def slots (r t : Fin 3) (c : Dev nD) : Finset (Fin 3 × Fin 8) :=
  Finset.univ.filter fun p => p.1 = t ∧ lo r t c ≤ p.2.val ∧ p.2.val < lo r t c + 2 ^ r.val

variable (P : Dev nD → FVec F S8x2x64x768 .f32)

abbrev agOn (c : Dev nD) (T : Finset (Fin 3 × Fin 8)) : sProp 𝕄 := on (F := F) cc0_scratch1 c (slotsOn T) (gath P)

/-! ## What is paid -/

/-- The landing place of transfer `x` INTO device `c`, at some contents; -/
def place (c : Dev nD) : Fin 16 → sProp 𝕄 :=
  ![any (F := F) cc0_scratch3 c (batch 0), any (F := F) cc0_scratch3 c (batch 1),
    any (F := F) cc0_scratch5 c Finset.univ, any (F := F) cc0_scratch7 c (chunk 0), any (F := F) cc0_scratch7 c (chunk 1),
    any (F := F) cc0_scratch9 c Finset.univ, any (F := F) cc0_scratch11 c Finset.univ,
    any (F := F) cc0_scratch1 c (slotsOn (slots 0 0 (nb 2 c))), any (F := F) cc0_scratch1 c (slotsOn (slots 0 1 (nb 1 c))),
    any (F := F) cc0_scratch1 c (slotsOn (slots 0 2 (nb 0 c))), any (F := F) cc0_scratch1 c (slotsOn (slots 1 0 (nb 1 c))),
    any (F := F) cc0_scratch1 c (slotsOn (slots 1 1 (nb 0 c))), any (F := F) cc0_scratch1 c (slotsOn (slots 1 2 (nb 2 c))),
    any (F := F) cc0_scratch1 c (slotsOn (slots 2 0 (nb 0 c))), any (F := F) cc0_scratch1 c (slotsOn (slots 2 1 (nb 2 c))),
    any (F := F) cc0_scratch1 c (slotsOn (slots 2 2 (nb 1 c)))]
/-- filled by that transfer; -/
def landed (c : Dev nD) : Fin 16 → sProp 𝕄 :=
  ![on cc0_scratch3 c (batch 0) (sb0 P (nb 0 c)), on cc0_scratch3 c (batch 1) (sb0 P (nb 0 c)),
    on cc0_scratch5 c Finset.univ (sA1 P (nb 1 c)), on cc0_scratch7 c (chunk 0) (sB1 P (nb 2 c)),
    on cc0_scratch7 c (chunk 1) (sB1 P (nb 2 c)),
    on cc0_scratch9 c Finset.univ (sA2 P (nb 2 c)), on cc0_scratch11 c Finset.univ (sB2 P (nb 1 c)),
    agOn P c (slots 0 0 (nb 2 c)), agOn P c (slots 0 1 (nb 1 c)), agOn P c (slots 0 2 (nb 0 c)),
    agOn P c (slots 1 0 (nb 1 c)), agOn P c (slots 1 1 (nb 0 c)), agOn P c (slots 1 2 (nb 2 c)),
    agOn P c (slots 2 0 (nb 0 c)), agOn P c (slots 2 1 (nb 2 c)), agOn P c (slots 2 2 (nb 1 c))]
/-- and the source of transfer `x` OUT of device `c`, given back. -/
def back (c : Dev nD) : Fin 16 → sProp 𝕄 :=
  ![any (F := F) cc0_scratch2 c (batch 0), any (F := F) cc0_scratch2 c (batch 1),
    any (F := F) cc0_scratch4 c Finset.univ, any (F := F) cc0_scratch6 c (chunk 0), any (F := F) cc0_scratch6 c (chunk 1),
    any (F := F) cc0_scratch8 c Finset.univ, any (F := F) cc0_scratch10 c Finset.univ,
    agOn P c (slots 0 0 c), agOn P c (slots 0 1 c), agOn P c (slots 0 2 c),
    agOn P c (slots 1 0 c), agOn P c (slots 1 1 c), agOn P c (slots 1 2 c),
    agOn P c (slots 2 0 c), agOn P c (slots 2 1 c), agOn P c (slots 2 2 c)]

theorem on_storable (b : Ref sig .tc) (c : Dev nD) (I : Finset b.ty.shape.Idx) (f : b.ty.Contents (Elt F)) :
    BI.Storable (upEmb : UEmb _ 𝕄) (on b c I f) := inferInstance
theorem any_storable (b : Ref sig .tc) (c : Dev nD) (I : Finset b.ty.shape.Idx) :
    BI.Storable (upEmb : UEmb _ 𝕄) (any (F := F) b c I) := inferInstance
instance place_storable (c : Dev nD) (x : Fin 16) : BI.Storable (upEmb : UEmb _ 𝕄) (place (F := F) c x) := by
  fin_cases x <;> exact any_storable _ _ _
instance landed_storable (c : Dev nD) (x : Fin 16) : BI.Storable (upEmb : UEmb _ 𝕄) (landed P c x) := by
  fin_cases x <;> exact on_storable _ _ _ _
instance back_storable (c : Dev nD) (x : Fin 16) : BI.Storable (upEmb : UEmb _ 𝕄) (back P c x) := by
  fin_cases x <;> first | exact any_storable _ _ _ | exact on_storable _ _ _ _

/-- What crosses a transfer, in the credit of its semaphores. -/
def N : Fin 16 → ℕ :=
  ![nS S4x64x768, nS S4x64x768, nS S2x2x64x384, nS S2x64x384, nS S2x64x384, nS S1x2x64x384, nS S1x2x64x384,
    nS S1x2x64x256, nS S1x2x64x256, nS S1x2x64x256, nS S2x2x64x256, nS S2x2x64x256, nS S2x2x64x256,
    nS S4x2x64x256, nS S4x2x64x256, nS S4x2x64x256]
where nS (s : Shape) : ℕ := sig.dmaCredit .tc (Kind.table .tc .vmem) aAg.view.buf s .bf16

end Cert.KernelIdeal.Reduce
-- ==== Proof.Sched.lean ====
/-
  The schedule of the protocol as a table, what a device owes others at each point, and the levels that order the waits:
  sending semaphores lowest, the barrier next, then the receive semaphores in the order of the transfers.
-/
module

public import proofs.«01_k».proof.Proof.Proto

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32)

theorem N_pos (x : Fin 16) : 0 < N x := by
  fin_cases x <;> exact sig.dmaCredit_pos _ _ _ _ _ (by decide)

/-- What the neighbour across dimension `d` hands device `c` when it signals: its landing places for `c`'s transfers. -/
def entry (c : Dev nD) (x : Fin 16) : sProp 𝕄 := iprop(place (F := F) (peer x c) x ∗ reached ER (rcvCell x (peer x c)) 0)
def barPay (d : Fin 3) (c : Dev nD) : sProp 𝕄 := bigSep (Finset.univ.filter fun x => cls x = d) (entry (F := F) c)

/-- One round. A barrier has three duties of one unit, every used copy semaphore one duty of the copy's credit. -/
def rd : Rounds.Schedule (GSem nD τ sig) (Fin 3) 𝕄 where
  duties g r := if r = 0 ∧ g.1.2 = .tc then
      (match g.2 with | .reg s => if s = barS then Finset.univ else ∅ | .dma s => if kind s = 0 then ∅ else {0})
    else ∅
  unitless _ := False
  amount g _ _ := match g.2 with | .reg _ => 1 | .dma s => N (xof (kind s))
  payload g _ d := match g.2 with
    | .reg _ => barPay (F := F) d g.1.1
    | .dma s => if kind s ≤ 16 then back P g.1.1 (xof (kind s)) else landed P g.1.1 (xof (kind s))
  amount_pos g _ _ _ := by
    rcases g with ⟨t, s | s⟩
    · exact Nat.one_pos
    · exact N_pos _

instance rd_storable (g : GSem nD τ sig) (r : ℕ) (d : Fin 3) : BI.Storable (upEmb : UEmb _ 𝕄) ((rd P).payload g r d) := by
  rcases g with ⟨t, s | s⟩
  · show BI.Storable upEmb (barPay (F := F) d t.1)
    unfold barPay entry; infer_instance
  · show BI.Storable upEmb (if kind s ≤ 16 then back P t.1 (xof (kind s)) else landed P t.1 (xof (kind s)))
    split <;> infer_instance

section Table

variable (x : Fin 16) (c : Dev nD)

theorem duties_bar : (rd P).duties (barCell c) 0 = Finset.univ := by
  show (if (0 = 0 ∧ (c : Thread nD τ).2 = .tc) then (if barS = barS then Finset.univ else ∅) else ∅) = Finset.univ
  rw [if_pos ⟨rfl, rfl⟩, if_pos rfl]
theorem duties_snd : (rd P).duties (sndCell x c) 0 = {0} := by
  show (if (0 = 0 ∧ (c : Thread nD τ).2 = .tc) then (if kind (sndS x) = 0 then (∅ : Finset (Fin 3)) else {0}) else ∅) = {0}
  rw [if_pos ⟨rfl, rfl⟩, if_neg (by rw [kind_snd]; omega)]
theorem duties_rcv : (rd P).duties (rcvCell x c) 0 = {0} := by
  show (if (0 = 0 ∧ (c : Thread nD τ).2 = .tc) then (if kind (rcvS x) = 0 then (∅ : Finset (Fin 3)) else {0}) else ∅) = {0}
  rw [if_pos ⟨rfl, rfl⟩, if_neg (by rw [kind_rcv]; omega)]
theorem duties_later (g : GSem nD τ sig) : ∀ r, 1 ≤ r → (rd P).duties g r = ∅ := fun r hr => by
  dsimp only [rd]; rw [if_neg (fun h => by omega)]

theorem amount_bar (d : Fin 3) : (rd P).amount (barCell c) 0 d = 1 := rfl
theorem amount_snd (d : Fin 3) : (rd P).amount (sndCell x c) 0 d = N x := by
  show N (xof (kind (sndS x))) = _; rw [kind_snd, xof_snd]
theorem amount_rcv (d : Fin 3) : (rd P).amount (rcvCell x c) 0 d = N x := by
  show N (xof (kind (rcvS x))) = _; rw [kind_rcv, xof_rcv]

theorem payload_bar (d : Fin 3) : (rd P).payload (barCell c) 0 d = barPay d c := rfl
theorem payload_snd (d : Fin 3) : (rd P).payload (sndCell x c) 0 d = back P c x := by
  show (if kind (sndS x) ≤ 16 then back P c (xof (kind (sndS x))) else _) = _
  rw [kind_snd, if_pos (by omega), xof_snd]
theorem payload_rcv (d : Fin 3) : (rd P).payload (rcvCell x c) 0 d = landed P c x := by
  show (if kind (rcvS x) ≤ 16 then _ else landed P c (xof (kind (rcvS x)))) = _
  rw [kind_rcv, if_neg (by omega), xof_rcv]

theorem expect_bar : (rd P).expect (barCell c) 0 = 3 := by
  unfold Schedule.expect Schedule.amountOf; rw [duties_bar]; rfl
theorem expect_snd : (rd P).expect (sndCell x c) 0 = N x := by
  unfold Schedule.expect Schedule.amountOf; rw [duties_snd, Finset.sum_singleton, amount_snd]
theorem expect_rcv : (rd P).expect (rcvCell x c) 0 = N x := by
  unfold Schedule.expect Schedule.amountOf; rw [duties_rcv, Finset.sum_singleton, amount_rcv]

theorem rest_bar : bigSep ((rd P).duties (barCell c) 0 \ ∅) (fun d => (rd P).payload (barCell c) 0 d)
    = bigSep Finset.univ fun d => barPay (F := F) d c := by
  rw [Finset.sdiff_empty, duties_bar]; exact bigSep_congr fun d _ => payload_bar P c d
theorem rest_snd : bigSep ((rd P).duties (sndCell x c) 0 \ ∅) (fun d => (rd P).payload (sndCell x c) 0 d) = back P c x := by
  rw [Finset.sdiff_empty, duties_snd, bigSep_singleton, payload_snd]
theorem rest_rcv : bigSep ((rd P).duties (rcvCell x c) 0 \ ∅) (fun d => (rd P).payload (rcvCell x c) 0 d) = landed P c x := by
  rw [Finset.sdiff_empty, duties_rcv, bigSep_singleton, payload_rcv]

end Table

/-! ## What a device owes; the levels -/

/-- The credit of the transfers from `n` on, owed to those who receive them; -/
def oweFrom (c : Dev nD) (n : ℕ) : CellTallies nD τ sig Unit :=
  ∑ x ∈ Finset.univ.filter (fun x : Fin 16 => n ≤ x.val), tallyAt (rcvCell x (peer x c)) () (N x)
/-- before that, a unit to each neighbour. -/
def oweBar (c : Dev nD) (n : ℕ) : CellTallies nD τ sig Unit :=
  ∑ d ∈ Finset.univ.filter (fun d : Fin 3 => n ≤ d.val), tallyAt (barCell (nb d c)) () 1
def owe₀ (c : Dev nD) : CellTallies nD τ sig Unit := oweFrom c 0 + oweBar c 0

theorem oweFrom_step (c : Dev nD) (x : Fin 16) :
    oweFrom c x.val = oweFrom c (x.val + 1) + tallyAt (rcvCell x (peer x c)) () (N x) := by
  unfold oweFrom
  rw [show (Finset.univ.filter fun y : Fin 16 => x.val ≤ y.val) = insert x (Finset.univ.filter fun y : Fin 16 => x.val + 1 ≤ y.val) from by
      ext y; simp only [Finset.mem_filter, Finset.mem_univ, true_and, Finset.mem_insert, Fin.ext_iff]; omega,
    Finset.sum_insert (by simp), add_comm]
theorem oweFrom_end (c : Dev nD) : oweFrom c 16 = 0 := by
  unfold oweFrom; rw [Finset.filter_eq_empty_iff.mpr fun x _ => by omega, Finset.sum_empty]
theorem oweBar_step (c : Dev nD) (d : Fin 3) :
    oweBar c d.val = oweBar c (d.val + 1) + tallyAt (barCell (nb d c)) () 1 := by
  unfold oweBar
  rw [show (Finset.univ.filter fun y : Fin 3 => d.val ≤ y.val) = insert d (Finset.univ.filter fun y : Fin 3 => d.val + 1 ≤ y.val) from by
      ext y; simp only [Finset.mem_filter, Finset.mem_univ, true_and, Finset.mem_insert, Fin.ext_iff]; omega,
    Finset.sum_insert (by simp), add_comm]
theorem oweBar_end (c : Dev nD) : oweBar c 3 = 0 := by
  unfold oweBar; rw [Finset.filter_eq_empty_iff.mpr fun x _ => by omega, Finset.sum_empty]

theorem sum_pos_mem {ι : Type} (S : Finset ι) (f : ι → CellTallies nD τ sig Unit) (g : GSem nD τ sig) (u : Unit)
    (h : 0 < (∑ i ∈ S, f i) g u) : ∃ i ∈ S, 0 < f i g u := by
  classical
  induction S using Finset.induction_on with
  | empty => exact absurd h (by simp)
  | insert a S ha ih =>
    rw [Finset.sum_insert ha, Pi.add_apply, Finsupp.add_apply] at h
    rcases Nat.add_pos_iff_pos_or_pos.mp h with h | h
    · exact ⟨a, Finset.mem_insert_self _ _, h⟩
    · obtain ⟨i, hi, h⟩ := ih h; exact ⟨i, Finset.mem_insert_of_mem hi, h⟩

theorem tally_pos {g g' : GSem nD τ sig} {u u' : Unit} {k : ℕ} (h : 0 < tallyAt g u k g' u') : g' = g := by
  rw [tallyAt_apply] at h
  split at h
  · next hg => exact hg.1
  · exact absurd h (Nat.lt_irrefl 0)

theorem oweFrom_pos {c : Dev nD} {n : ℕ} {g : GSem nD τ sig} {u : Unit} (h : 0 < oweFrom c n g u) :
    ∃ x : Fin 16, n ≤ x.val ∧ g = rcvCell x (peer x c) := by
  obtain ⟨x, hx, h⟩ := sum_pos_mem _ _ g u h
  exact ⟨x, (Finset.mem_filter.mp hx).2, tally_pos h⟩
theorem oweBar_pos {c : Dev nD} {n : ℕ} {g : GSem nD τ sig} {u : Unit} (h : 0 < oweBar c n g u) :
    ∃ d : Fin 3, g = barCell (nb d c) := by
  obtain ⟨x, hx, h⟩ := sum_pos_mem _ _ g u h
  exact ⟨x, tally_pos h⟩

def L (g : GSem nD τ sig) : Finset Unit := if g.1.2 = .tc then {()} else ∅
def lv (g : GSem nD τ sig) (_ : Unit) : ℕ := match g.2 with | .reg _ => 1 | .dma s => if kind s ≤ 16 then 0 else kind s

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) (u : Unit) : lv (barCell c) u = 1 := rfl
theorem lv_snd (x : Fin 16) (c : Dev nD) (u : Unit) : lv (sndCell x c) u = 0 := by
  show (if kind (sndS x) ≤ 16 then 0 else _) = 0; rw [kind_snd, if_pos (by omega)]
theorem lv_rcv (x : Fin 16) (c : Dev nD) (u : Unit) : lv (rcvCell x c) u = 17 + x.val := by
  show (if kind (rcvS x) ≤ 16 then 0 else _) = _; rw [kind_rcv, if_neg (by omega)]

theorem mayWait (c : Dev nD) (sm : SemLoc sig) (n b : ℕ) (hb : lv ((c : Thread nD τ), sm) () ≤ b) (hn : b < 17 + n) :
    (levAts L lv : sProp 𝕄) ⊢ MayWait (c : Thread nD τ) sm () (oweFrom c n) :=
  MayOwe.of_cut (L := L) (lev := lv) b (fun p hp => by rw [Finset.mem_singleton.mp hp, L_tc]; exact Finset.mem_singleton_self _)
    (fun g u hg => by obtain ⟨x, -, rfl⟩ := oweFrom_pos hg; rw [L_tc]; exact Finset.mem_singleton_self _)
    (fun p hp => by rw [Finset.mem_singleton.mp hp]; exact hb)
    (fun g u hg => by obtain ⟨x, hx, rfl⟩ := oweFrom_pos hg; rw [lv_rcv]; omega)

end Cert.KernelIdeal.Reduce
-- ==== Proof.Steps.lean ====
/-
  One step of the protocol at a time. The state of a device is how many transfers it has started (`n`) and for how many
  it has waited as sender (`s`) and as receiver (`r`): all three always go through the transfers in order.
-/
module

public import proofs.«01_k».proof.Proof.Sched
public import proofs.«01_k».proof.Proof.Gen.KernelIdeal.Skeleton

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ)

abbrev 𝒱₀ : Variants := Variants.none

/-- Every cell of the protocol: a barrier, sixteen sending and sixteen receiving semaphores per device. -/
def invs : sProp 𝕄 := iprop((bigSep Finset.univ fun c : Dev nD => cellInv ER (rd P) (κ (barCell c)) (barCell c))
  ∗ (bigSep Finset.univ fun p : Dev nD × Fin 16 => cellInv ER (rd P) (κ (sndCell p.2 p.1)) (sndCell p.2 p.1))
  ∗ (bigSep Finset.univ fun p : Dev nD × Fin 16 => cellInv ER (rd P) (κ (rcvCell p.2 p.1)) (rcvCell p.2 p.1))
  ∗ (bigSep Finset.univ fun c : Dev nD => reached ER (barCell c) 0))
instance invs_persistent : BI.Persistent (invs P κ) := by unfold invs; infer_instance

/-- What a device may consult at any time. -/
def ctx (c : Dev nD) : sProp 𝕄 := iprop(invs P κ ∗ levAts L lv
  ∗ (bigSep Finset.univ fun x : Fin 16 => reached ER (sndCell x c) 0) ∗ (bigSep Finset.univ fun x : Fin 16 => reached ER (rcvCell x c) 0))
instance ctx_persistent (c : Dev nD) : BI.Persistent (ctx P κ c) := by unfold ctx; infer_instance

theorem all_at {ι : Type} [Fintype ι] [DecidableEq ι] (Φ : ι → sProp 𝕄) (i : ι) : bigSep Finset.univ Φ ⊢ Φ i :=
  bigSep_elim (Finset.mem_univ i)
theorem ctx_bar (c c' : Dev nD) : ctx P κ c ⊢ cellInv ER (rd P) (κ (barCell c')) (barCell c') := by
  unfold ctx invs
  iintro ⟨⟨#H, -⟩, -⟩
  iapply (all_at (fun c : Dev nD => (cellInv ER (rd P) (κ (barCell c)) (barCell c) : sProp 𝕄)) c') $$ H
theorem ctx_snd (c c' : Dev nD) (x : Fin 16) : ctx P κ c ⊢ cellInv ER (rd P) (κ (sndCell x c')) (sndCell x c') := by
  unfold ctx invs
  iintro ⟨⟨-, #H, -⟩, -⟩
  iapply (all_at (fun p : Dev nD × Fin 16 => (cellInv ER (rd P) (κ (sndCell p.2 p.1)) (sndCell p.2 p.1) : sProp 𝕄)) (c', x)) $$ H
theorem ctx_rcv (c c' : Dev nD) (x : Fin 16) : ctx P κ c ⊢ cellInv ER (rd P) (κ (rcvCell x c')) (rcvCell x c') := by
  unfold ctx invs
  iintro ⟨⟨-, -, #H, -⟩, -⟩
  iapply (all_at (fun p : Dev nD × Fin 16 => (cellInv ER (rd P) (κ (rcvCell p.2 p.1)) (rcvCell p.2 p.1) : sProp 𝕄)) (c', x)) $$ H
theorem ctx_barR (c c' : Dev nD) : ctx P κ c ⊢ (reached ER (barCell c') 0 : sProp 𝕄) := by
  unfold ctx invs
  iintro ⟨⟨-, -, -, #H⟩, -⟩
  iapply (all_at (fun c : Dev nD => (reached ER (barCell c) 0 : sProp 𝕄)) c') $$ H
theorem ctx_lev (c : Dev nD) : ctx P κ c ⊢ (levAts L lv : sProp 𝕄) := by
  unfold ctx
  iintro ⟨-, #H, -⟩; iexact H
theorem ctx_sndR (c : Dev nD) (x : Fin 16) : ctx P κ c ⊢ (reached ER (sndCell x c) 0 : sProp 𝕄) := by
  unfold ctx
  iintro ⟨-, -, #H, -⟩
  iapply (all_at (fun x : Fin 16 => (reached ER (sndCell x c) 0 : sProp 𝕄)) x) $$ H
theorem ctx_rcvR (c : Dev nD) (x : Fin 16) : ctx P κ c ⊢ (reached ER (rcvCell x c) 0 : sProp 𝕄) := by
  unfold ctx
  iintro ⟨-, -, -, #H⟩
  iapply (all_at (fun x : Fin 16 => (reached ER (rcvCell x c) 0 : sProp 𝕄)) x) $$ H

/-- What device `c` needs to start transfer `x`. -/
def kit (c : Dev nD) (x : Fin 16) : sProp 𝕄 :=
  iprop(dutyTok ER (sndCell x c) 0 0 ∗ dutyTok ER (rcvCell x (peer x c)) 0 0 ∗ entry (F := F) c x)

/-- Where transfer `x` stands. -/
def sndAt (n s : ℕ) (c : Dev nD) (x : Fin 16) : sProp 𝕄 :=
  if x.val < s then atPos ER (sndCell x c) 1 ∅ 0
  else iprop(atPos ER (sndCell x c) 0 ∅ 0 ∗ if x.val < n then cred (tallyAt (sndCell x c) () (N x)) else kit c x)
def rcvAt (r : ℕ) (c : Dev nD) (x : Fin 16) : sProp 𝕄 :=
  if x.val < r then atPos ER (rcvCell x c) 1 ∅ 0
  else iprop(atPos ER (rcvCell x c) 0 ∅ 0 ∗ cred (tallyAt (rcvCell x c) () (N x)))

def owing (c : Dev nD) (O : CellTallies nD τ sig Unit) : sProp 𝕄 := iprop(∃ W, owes (c : Thread nD τ) O W)

/-- The state of device `c`. -/
def St (n s r : ℕ) (c : Dev nD) : sProp 𝕄 :=
  iprop(owing c (oweFrom c n) ∗ (bigSep Finset.univ (sndAt n s c)) ∗ bigSep Finset.univ (rcvAt (F := F) r c))

theorem sndAt_other {n n' s s' : ℕ} (c : Dev nD) (x : Fin 16)
    (h : ∀ y : Fin 16, y ≠ x → (y.val < n ↔ y.val < n') ∧ (y.val < s ↔ y.val < s')) :
    bigSep (Finset.univ.erase x) (sndAt (F := F) n s c) = bigSep (Finset.univ.erase x) (sndAt (F := F) n' s' c) :=
  bigSep_congr fun y hy => by
    obtain ⟨h1, h2⟩ := h y (Finset.ne_of_mem_erase hy)
    unfold sndAt; simp only [h1, h2]
theorem rcvAt_other {r r' : ℕ} (c : Dev nD) (x : Fin 16) (h : ∀ y : Fin 16, y ≠ x → (y.val < r ↔ y.val < r')) :
    bigSep (Finset.univ.erase x) (rcvAt (F := F) r c) = bigSep (Finset.univ.erase x) (rcvAt (F := F) r' c) :=
  bigSep_congr fun y hy => by unfold rcvAt; simp only [h y (Finset.ne_of_mem_erase hy)]

theorem snd_send (c : Dev nD) (x : Fin 16) (s : ℕ) (hs : s ≤ x.val) :
    bigSep Finset.univ (sndAt (F := F) x.val s c)
      ⊢ iprop(kit c x ∗ (cred (tallyAt (sndCell x c) () (N x)) -∗ bigSep Finset.univ (sndAt (x.val + 1) s c))) := by
  rw [bigSep_univ_at (sndAt x.val s c) x, bigSep_univ_at (sndAt (x.val + 1) s c) x,
    sndAt_other (n' := x.val + 1) (s' := s) c x fun y hy => ⟨by have := Fin.val_ne_of_ne hy; omega, Iff.rfl⟩]
  unfold sndAt
  rw [if_neg (Nat.not_lt.mpr hs), if_neg (Nat.lt_irrefl _), if_neg (Nat.not_lt.mpr hs), if_pos (Nat.lt_succ_self _)]
  iintro ⟨⟨Ha, Hk⟩, Hr⟩
  isplitl [Hk]; · iexact Hk
  iintro Hc
  isplitr [Hr]
  · isplitl [Ha] <;> iassumption
  · iexact Hr
theorem snd_wait (c : Dev nD) (x : Fin 16) (n : ℕ) (hn : x.val < n) :
    bigSep Finset.univ (sndAt (F := F) n x.val c)
      ⊢ iprop(atPos ER (sndCell x c) 0 ∅ 0 ∗ cred (tallyAt (sndCell x c) () (N x))
        ∗ (atPos ER (sndCell x c) 1 ∅ 0 -∗ bigSep Finset.univ (sndAt n (x.val + 1) c))) := by
  rw [bigSep_univ_at (sndAt n x.val c) x, bigSep_univ_at (sndAt n (x.val + 1) c) x,
    sndAt_other (n' := n) (s' := x.val + 1) c x fun y hy => ⟨Iff.rfl, by have := Fin.val_ne_of_ne hy; omega⟩]
  unfold sndAt
  rw [if_neg (Nat.lt_irrefl _), if_pos hn, if_pos (Nat.lt_succ_self _)]
  iintro ⟨⟨Ha, Hk⟩, Hr⟩
  isplitl [Ha]; · iexact Ha
  isplitl [Hk]; · iexact Hk
  iintro Hc
  isplitl [Hc] <;> iassumption
theorem rcv_wait (c : Dev nD) (x : Fin 16) :
    bigSep Finset.univ (rcvAt (F := F) x.val c)
      ⊢ iprop(atPos ER (rcvCell x c) 0 ∅ 0 ∗ cred (tallyAt (rcvCell x c) () (N x))
        ∗ (atPos ER (rcvCell x c) 1 ∅ 0 -∗ bigSep Finset.univ (rcvAt (x.val + 1) c))) := by
  rw [bigSep_univ_at (rcvAt x.val c) x, bigSep_univ_at (rcvAt (x.val + 1) c) x,
    rcvAt_other (r' := x.val + 1) c x fun y hy => by have := Fin.val_ne_of_ne hy; omega]
  unfold rcvAt
  rw [if_neg (Nat.lt_irrefl _), if_pos (Nat.lt_succ_self _)]
  iintro ⟨⟨Ha, Hk⟩, Hr⟩
  isplitl [Ha]; · iexact Ha
  isplitl [Hk]; · iexact Hk
  iintro Hc
  isplitl [Hc] <;> iassumption

variable {α : Type}

/-- Starting transfer `x`. -/
theorem step_send (c : Dev nD) (x : Fin 16) {s r : ℕ} (hs : s ≤ x.val) {c' : Dev nD} (hc : c' = peer x c)
    {sp : Space} {sh : Shape} {e : EltTy} {src dst : Memref sig .tc sp sh e} {sS sR : DmaSem sig} (hS : sS = sndS x) (hR : sR = rcvS x)
    {hsc : dst.view.ref.isScScratch = false} {hsrc : src.view.WordExact} {hdst : dst.view.WordExact}
    {hsem : DmaTarget.Typed sp (.dma sR : SemLoc sig) (.remote (c' : Thread nD τ) dst (.dma sS) hsc)}
    {fs : Buf (Elt F) (src.view.loc (c : Thread nD τ))}
    (hN : dst.view.dmaCredit = N x)
    (hpl : place (F := F) (peer x c) x ⊢ iprop(∃ fd, dst.view.loc (peer x c : Thread nD τ) ↦[dst.view.set]{fullShare} fd))
    (hback : (src.view.loc (c : Thread nD τ) ↦[src.view.set]{fullShare} fs) ⊢ back P c x)
    (hland : ∀ fd : Buf (Elt F) (dst.view.loc (peer x c : Thread nD τ)),
      (dst.view.loc (peer x c : Thread nD τ) ↦[dst.view.set]{fullShare} (dst.view.write (Elt F) fd (src.view.read (Elt F) fs) Finset.univ))
        ⊢ landed P (peer x c) x)
    {k : PUnit → Prog (TpuEff nD τ sig (Elt F) Λ₀ .tc) α} {Q : α → sProp 𝕄} :
    iprop(ctx P κ c ∗ St x.val s r c ∗ src.view.loc (c : Thread nD τ) ↦[src.view.set]{fullShare} fs)
      ⊢ iprop((St (x.val + 1) s r c -∗ wp frame (wpE (defs₀ (F := F)) 𝒱₀ c none) Set.univ (k ⟨⟩) Q)
        -∗ wp frame (wpE (defs₀ (F := F)) 𝒱₀ c none) Set.univ
          (.op (.enqueueDma src (.remote (c' : Thread nD τ) dst (.dma sS) hsc) (.dma sR) hsrc hdst hsem) k) Q) := by
  subst hc; subst hS; subst hR
  unfold St owing
  iintro ⟨#Hx, ⟨⟨%W, HO⟩, Hs, Hr⟩, Hsrc⟩ Hk
  ihave H := (snd_send (F := F) c x s hs) $$ Hs
  icases H with ⟨Hkit, Hs⟩
  unfold kit entry
  icases Hkit with ⟨HtS, HtR, Hpl, #HrR⟩
  ihave Hpl := hpl $$ Hpl
  icases Hpl with ⟨%fd, Hpl⟩
  iapply (Rounds.wp_send_pointsTo 𝒱₀ ER (rd P) (c : Thread nD τ) none (c' := (peer x c : Thread nD τ)) (src := src) (dst := dst)
      (sS := .dma (sndS x)) (sem := .dma (rcvS x)) (q := fullShare) (fs := fs) (κ₁ := κ (sndCell x c)) (κ₂ := κ (rcvCell x (peer x c)))
      (r₁ := 0) (r₂ := 0) (d₁ := 0) (d₂ := 0) (fd := fd)
      (by rw [duties_snd]; exact Finset.mem_singleton_self _) (by rw [duties_rcv]; exact Finset.mem_singleton_self _)
      () () (N x) hN (amount_snd P x c 0) (amount_rcv P x (peer x c) 0) (oweFrom c (x.val + 1)) (oweFrom_step c x) (W := W)
      (by rw [payload_snd]; exact hback)
      (by rw [payload_rcv]; exact hland fd)) $$ [Hsrc Hpl HO HtS HtR]
  · isplitr; · iapply (ctx_snd P κ c c x); iexact Hx
    isplitr; · iapply (ctx_rcv P κ c (peer x c) x); iexact Hx
    isplitl [Hsrc]; · iexact Hsrc
    isplitl [Hpl]; · iexact Hpl
    isplitl [HO]; · iexact HO
    isplitl [HtS]; · iexact HtS
    isplitr; · iapply (ctx_sndR P κ c x); iexact Hx
    isplitl [HtR]; · iexact HtR
    iexact HrR
  iintro ⟨Hc, HO⟩
  iapply Hk
  isplitl [HO]; · iexists W; iexact HO
  isplitr [Hr]
  · iapply Hs; iexact Hc
  · iexact Hr

/-- Waiting, as its sender, for transfer `x`. -/
theorem step_wait_snd (c : Dev nD) (x : Fin 16) {n r : ℕ} (hn : x.val < n) {sS : DmaSem sig} (hS : sS = sndS x)
    {sp sp' : Space} {sh sh' : Shape} {e e' : EltTy} {src : Memref sig .tc sp' sh' e'} {dst : Memref sig .tc sp sh e}
    {hsrc : src.view.WordExact} {hdst : dst.view.WordExact} (hN : dst.view.dmaCredit = N x)
    {k : PUnit → Prog (TpuEff nD τ sig (Elt F) Λ₀ .tc) α} {Q : α → sProp 𝕄} :
    iprop(ctx P κ c ∗ St n x.val r c)
      ⊢ iprop(((St n (x.val + 1) r c ∗ back P c x) -∗ wp frame (wpE (defs₀ (F := F)) 𝒱₀ c none) Set.univ (k ⟨⟩) Q)
        -∗ wp frame (wpE (defs₀ (F := F)) 𝒱₀ c none) Set.univ (.op (.waitDma2 sS src dst hsrc hdst) k) Q) := by
  subst hS
  unfold St owing
  iintro ⟨#Hx, ⟨%W, HO⟩, Hs, Hr⟩ Hk
  ihave H := (snd_wait (F := F) c x n hn) $$ Hs
  icases H with ⟨Hat, Hc, Hs⟩
  iapply (Rounds.wp_wait_rest_token 𝒱₀ ER (rd P) (c : Thread nD τ) none (κ := κ (sndCell x c))
      (wpE_waitDma2_eq 𝒱₀ (c : Thread nD τ) none Set.univ) (Set.mem_univ _) () (O := oweFrom c n) (W := W) (R := 0) (m := 0) (T := ∅)
      ((Nat.zero_add _).trans (hN.trans (expect_snd P x c).symm))) $$ [Hc HO Hat]
  · isplitr; · iapply (ctx_snd P κ c c x); iexact Hx
    isplitl [Hc]; · rw [hN]; iexact Hc
    isplitl [HO]; · iexact HO
    isplitr
    · iapply (mayWait c (.dma (sndS x)) n 0 (lv_snd x c ()).le (by omega)); iapply (ctx_lev P κ c); iexact Hx
    iexact Hat
  iintro ⟨HO, Hat, -, Hpay⟩
  ihave Hp := (Entails.of_eq (rest_snd P x c)) $$ Hpay
  iapply Hk
  isplitr [Hp]
  · isplitl [HO]; · iexists _; iexact HO
    isplitr [Hr]
    · iapply Hs; iexact Hat
    · iexact Hr
  · iexact Hp

/-- Waiting, as its receiver, for transfer `x`. -/
theorem step_wait_rcv (c : Dev nD) (x : Fin 16) {n s : ℕ} (hn : x.val < n) {sR : DmaSem sig} (hR : sR = rcvS x)
    {sp sp' : Space} {sh sh' : Shape} {e e' : EltTy} {src : Memref sig .tc sp' sh' e'} {dst : Memref sig .tc sp sh e}
    {hsrc : src.view.WordExact} {hdst : dst.view.WordExact} (hN : dst.view.dmaCredit = N x)
    {k : PUnit → Prog (TpuEff nD τ sig (Elt F) Λ₀ .tc) α} {Q : α → sProp 𝕄} :
    iprop(ctx P κ c ∗ St n s x.val c)
      ⊢ iprop(((St n s (x.val + 1) c ∗ landed P c x) -∗ wp frame (wpE (defs₀ (F := F)) 𝒱₀ c none) Set.univ (k ⟨⟩) Q)
        -∗ wp frame (wpE (defs₀ (F := F)) 𝒱₀ c none) Set.univ (.op (.waitDma2 sR src dst hsrc hdst) k) Q) := by
  subst hR
  unfold St owing
  iintro ⟨#Hx, ⟨%W, HO⟩, Hs, Hr⟩ Hk
  ihave H := (rcv_wait (F := F) c x) $$ Hr
  icases H with ⟨Hat, Hc, Hr⟩
  iapply (Rounds.wp_wait_rest_token 𝒱₀ ER (rd P) (c : Thread nD τ) none (κ := κ (rcvCell x c))
      (wpE_waitDma2_eq 𝒱₀ (c : Thread nD τ) none Set.univ) (Set.mem_univ _) () (O := oweFrom c n) (W := W) (R := 0) (m := 0) (T := ∅)
      ((Nat.zero_add _).trans (hN.trans (expect_rcv P x c).symm))) $$ [Hc HO Hat]
  · isplitr; · iapply (ctx_rcv P κ c c x); iexact Hx
    isplitl [Hc]; · rw [hN]; iexact Hc
    isplitl [HO]; · iexact HO
    isplitr
    · iapply (mayWait c (.dma (rcvS x)) n (17 + x.val) (lv_rcv x c ()).le (by omega)); iapply (ctx_lev P κ c); iexact Hx
    iexact Hat
  iintro ⟨HO, Hat, -, Hpay⟩
  ihave Hp := (Entails.of_eq (rest_rcv P x c)) $$ Hpay
  iapply Hk
  isplitr [Hp]
  · isplitl [HO]; · iexists _; iexact HO
    isplitl [Hs]; · iexact Hs
    iapply Hr; iexact Hat
  · iexact Hp

end Cert.KernelIdeal.Reduce
-- ==== Proof.Local.lean ====
/-
  Loads and stores of a rectangle of a buffer, what a landed copy leaves, and the barrier with its three signals.
-/
module

public import proofs.«01_k».proof.Proof.Steps
public import Idealize.ShloMosaic.Lib.Writes
public import Idealize.ShloMosaic.Lib.Pipeline.ValueKit.Geometry

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type}

/-- A load of a rectangle inside the elements held reads the contents there. -/
theorem step_load (c : Dev nD) {i : Fin (sig.nNear .tc .vmem)} {h : _} (I : Finset (⟨.vmem, i, h⟩ : Ref sig .tc).ty.shape.Idx) (f : (⟨.vmem, i, h⟩ : Ref sig .tc).ty.Contents (Elt F)) {r : Rect (⟨.vmem, i, h⟩ : Ref sig .tc).ty.shape}
    {hl : (Memref.whole (⟨.vmem, i, h⟩ : Ref sig .tc)).view.LoadsAt r.toLoadRect} (hI : r.set ⊆ I)
    {k : (r.shape.Idx → Elt F (⟨.vmem, i, h⟩ : Ref sig .tc).ty.elt) → Prog (TpuEff nD τ sig (Elt F) Λ₀ .tc) α} {Q : α → sProp 𝕄} :
    on (⟨.vmem, i, h⟩ : Ref sig .tc) c I f ⊢ iprop((on (⟨.vmem, i, h⟩ : Ref sig .tc) c I f -∗ wp frame (wpE (defs₀ (F := F)) 𝒱₀ c none) Set.univ (k fun x => f (r.emb x)) Q)
      -∗ wp frame (wpE (defs₀ (F := F)) 𝒱₀ c none) Set.univ (.op (.load (Memref.whole (⟨.vmem, i, h⟩ : Ref sig .tc)) r.toLoadRect hl) k) Q) :=
  wp_load_rect 𝒱₀ (c : Thread nD τ) none Set.univ (m := Memref.whole (⟨.vmem, i, h⟩ : Ref sig .tc)) (r := r)
    (by rw [show ((Memref.whole (⟨.vmem, i, h⟩ : Ref sig .tc)).access r).set = r.set from View.set_slice_whole (⟨.vmem, i, h⟩ : Ref sig .tc) r]; exact hI)

/-- A store to a rectangle inside the elements held leaves any contents that are the stored values on it and the old ones off it. -/
theorem step_store (c : Dev nD) {i : Fin (sig.nNear .tc .vmem)} {h : _} (I : Finset (⟨.vmem, i, h⟩ : Ref sig .tc).ty.shape.Idx) (f g : (⟨.vmem, i, h⟩ : Ref sig .tc).ty.Contents (Elt F)) {r : Rect (⟨.vmem, i, h⟩ : Ref sig .tc).ty.shape}
    {w : r.shape.Idx → Elt F (⟨.vmem, i, h⟩ : Ref sig .tc).ty.elt} {hx : ((Memref.whole (⟨.vmem, i, h⟩ : Ref sig .tc)).access r).Stores Finset.univ}
    {hm : Finset.univ = Finset.univ ∨ ∀ a, r.stride a = 1} (hI : r.set ⊆ I)
    (hg : ∀ x, g (r.emb x) = w x) (hr : ∀ j ∈ I, j ∉ r.set → g j = f j)
    {k : PUnit → Prog (TpuEff nD τ sig (Elt F) Λ₀ .tc) α} {Q : α → sProp 𝕄} :
    on (⟨.vmem, i, h⟩ : Ref sig .tc) c I f ⊢ iprop((on (⟨.vmem, i, h⟩ : Ref sig .tc) c I g -∗ wp frame (wpE (defs₀ (F := F)) 𝒱₀ c none) Set.univ (k ⟨⟩) Q)
      -∗ wp frame (wpE (defs₀ (F := F)) 𝒱₀ c none) Set.univ (.op (.store (Memref.whole (⟨.vmem, i, h⟩ : Ref sig .tc)) r w Finset.univ hx hm) k) Q) := by
  have e : (on (⟨.vmem, i, h⟩ : Ref sig .tc) c I g : sProp 𝕄) = on (⟨.vmem, i, h⟩ : Ref sig .tc) c I (((Memref.whole (⟨.vmem, i, h⟩ : Ref sig .tc)).access r).write (Elt F) f w Finset.univ) := by
    refine pointsTo_congr fun j hi => ?_
    by_cases hj : j ∈ r.set
    · rw [← Rect.map_emb_univ] at hj
      obtain ⟨x, -, rfl⟩ := Finset.mem_map.mp hj
      rw [hg x]
      exact (View.write_emb_of_mem (v := (Memref.whole (⟨.vmem, i, h⟩ : Ref sig .tc)).access r) f w (Finset.mem_univ x)).symm
    · rw [hr j hi hj]
      exact (View.write_of_not_mem (v := (Memref.whole (⟨.vmem, i, h⟩ : Ref sig .tc)).access r) f w Finset.univ
        (by rw [View.setOn_univ, show ((Memref.whole (⟨.vmem, i, h⟩ : Ref sig .tc)).access r).set = r.set from View.set_slice_whole (⟨.vmem, i, h⟩ : Ref sig .tc) r]; exact hj)).symm
  rw [e]
  exact wp_store 𝒱₀ (c : Thread nD τ) none Set.univ (m := Memref.whole (⟨.vmem, i, h⟩ : Ref sig .tc)) (r := r) (Mk := Finset.univ) (f := f) (w := w)
    (by rw [View.setOn_univ, show ((Memref.whole (⟨.vmem, i, h⟩ : Ref sig .tc)).access r).set = r.set from View.set_slice_whole (⟨.vmem, i, h⟩ : Ref sig .tc) r]; exact hI)

/-- What a copy leaves at its destination is any contents that agree there with what was read at the source. -/
theorem landed_congr (c' : Dev nD) {sp : Space} {sh : Shape} {e : EltTy} (src dst : Memref sig .tc sp sh e)
    (fs : src.view.ty.Contents (Elt F)) (fd g : dst.view.ty.Contents (Elt F)) (h : ∀ y, src.view.read (Elt F) fs y = dst.view.read (Elt F) g y) :
    (dst.view.loc (c' : Thread nD τ) ↦[dst.view.set]{fullShare} (dst.view.write (Elt F) fd (src.view.read (Elt F) fs) Finset.univ) : sProp 𝕄)
      = (dst.view.loc (c' : Thread nD τ) ↦[dst.view.set]{fullShare} g) := by
  refine pointsTo_congr fun i hi => ?_
  obtain ⟨y, -, rfl⟩ := Finset.mem_map.mp hi
  refine (View.write_emb_of_mem (v := dst.view) fd _ (Finset.mem_univ y)).trans ?_
  rw [h y, View.read_apply, _root_.cast_cast, _root_.cast_eq]

variable (P : Dev nD → FVec F S8x2x64x768 .f32) (κ : GSem nD τ sig → ℕ)

/-- Signalling the neighbour across dimension `d`, the own landing places for its transfers handed over. -/
theorem step_signal (c : Dev nD) (d : Fin 3) {c' : Dev nD} (hc : c' = nb d c)
    {k : PUnit → Prog (TpuEff nD τ sig (Elt F) Λ₀ .tc) α} {Q : α → sProp 𝕄} :
    iprop(ctx P κ c ∗ owing (F := F) c (oweFrom c 0 + oweBar c d.val) ∗ dutyTok ER (barCell (nb d c)) 0 d
        ∗ bigSep (Finset.univ.filter fun x => cls x = d) (place (F := F) c))
      ⊢ iprop((owing c (oweFrom c 0 + oweBar c (d.val + 1)) -∗ wp frame (wpE (defs₀ (F := F)) 𝒱₀ c none) Set.univ (k ⟨⟩) Q)
        -∗ wp frame (wpE (defs₀ (F := F)) 𝒱₀ c none) Set.univ (.op (.semSignal (c' : Thread nD τ) barS (1#32).toInt) k) Q) := by
  subst hc
  unfold owing
  rw [show (1#32).toInt = ((1 : ℕ) : Int) from rfl]
  iintro ⟨#Hx, ⟨%W, HO⟩, Htok, Hpl⟩ Hk
  have hpay : iprop(ctx P κ c ∗ bigSep (Finset.univ.filter fun x => cls x = d) (place (F := F) c)) ⊢ barPay d (nb d c) := by
    unfold barPay
    refine bigSep_with_persistent (R := ctx P κ c) fun x hx => ?_
    unfold entry
    obtain rfl := (Finset.mem_filter.mp hx).2
    rw [show peer x (nb (cls x) c) = c from nb_nb _ _]
    iintro ⟨#Hx, Hp⟩
    isplitl [Hp]; · iexact Hp
    iapply (ctx_rcvR P κ c x); iexact Hx
  iapply (Rounds.wp_signal 𝒱₀ ER (rd P) (c : Thread nD τ) none (dst := (nb d c : Thread nD τ)) (sem := barS) (r := 0) (d := d) (κ := κ (barCell (nb d c)))
      (by rw [duties_bar]; exact Finset.mem_univ _) (amount_bar P (nb d c) d) () (O₀ := oweFrom c 0 + oweBar c d.val) (oweFrom c 0 + oweBar c (d.val + 1))
      (by rw [oweBar_step c d, add_assoc])) $$ [HO Htok Hpl]
  · isplitr; · iapply (ctx_bar P κ c (nb d c)); iexact Hx
    isplitl [HO]; · iexact HO
    isplitl [Htok]; · iexact Htok
    isplitl [Hpl]
    · rw [payload_bar]; iapply hpay
      isplitr; · iexact Hx
      iexact Hpl
    · iapply (ctx_barR P κ c (nb d c)); iexact Hx
  iintro HO
  iapply Hk
  iexists W; iexact HO

/-- Waiting on the barrier: every neighbour's landing places come. -/
theorem step_barrier (c : Dev nD) {k : PUnit → Prog (TpuEff nD τ sig (Elt F) Λ₀ .tc) α} {Q : α → sProp 𝕄} :
    iprop(ctx P κ c ∗ owing (F := F) c (oweFrom c 0) ∗ atPos ER (barCell c) 0 ∅ 0 ∗ cred (tallyAt (barCell c) () 3))
      ⊢ iprop(((owing c (oweFrom c 0) ∗ atPos ER (barCell c) 1 ∅ 0 ∗ bigSep Finset.univ (entry (F := F) c))
          -∗ wp frame (wpE (defs₀ (F := F)) 𝒱₀ c none) Set.univ (k ⟨⟩) Q)
        -∗ wp frame (wpE (defs₀ (F := F)) 𝒱₀ c none) Set.univ (.op (.semWait barS (3#32).toInt) k) Q) := by
  unfold owing
  rw [show (3#32).toInt = ((3 : ℕ) : Int) from rfl]
  iintro ⟨#Hx, ⟨%W, HO⟩, Hat, Hc⟩ Hk
  iapply (Rounds.wp_wait_rest_token 𝒱₀ ER (rd P) (c : Thread nD τ) none (κ := κ (barCell c))
      (wpE_semWait_eq 𝒱₀ (c : Thread nD τ) none Set.univ) (Set.mem_univ _) () (O := oweFrom c 0) (W := W) (R := 0) (m := 0) (T := ∅)
      ((Nat.zero_add _).trans (expect_bar P c).symm)) $$ [Hc HO Hat]
  · isplitr; · iapply (ctx_bar P κ c c); iexact Hx
    isplitl [Hc]; · iexact Hc
    isplitl [HO]; · iexact HO
    isplitr
    · iapply (mayWait c (.reg barS) 0 1 (lv_bar c ()).le (by omega)); iapply (ctx_lev P κ c); iexact Hx
    iexact Hat
  iintro ⟨HO, Hat, -, Hpay⟩
  ihave Hp := (Entails.of_eq (rest_bar P c)) $$ Hpay
  iapply Hk
  isplitl [HO]; · iexists _; iexact HO
  isplitl [Hat]; · iexact Hat
  rw [bigSep_fiberwise Finset.univ cls (entry (F := F) c), show Finset.univ.image cls = Finset.univ from by decide]
  iexact Hp

end Cert.KernelIdeal.Reduce
-- ==== Proof.Blocks.lean ====
/-
  The attention block every device computes four times (two batches of two halves of the rows), and the partial sum it
  makes of them; the kernel's own chains of values are this block.
-/
module

public import proofs.«01_k».proof.Proof.Values
public import proofs.«01_k».proof.Proof.Gen.KernelIdeal.Skeleton

@[expose] public section

noncomputable section

namespace Cert.KernelIdeal.Reduce

open Idealize.ShloMosaic Idealize.ShloMosaic.ValueIdx Cert.KernelIdeal Cert.KernelIdeal.Gen

variable {F : FTy → Type} [FloatOps F]

/-- Words divided by 64, rounded down. -/
def fdiv64 (v : IVec S256x512 32) : IVec S256x512 32 :=
  select (andi (cmpi .ne (subi (extui 32 (cmpi .sgt v (broadcast S256x512 0#32)) natLt_1_32) (extui 32 (cmpi .slt v (broadcast S256x512 0#32)) natLt_1_32))
      (broadcast S256x512 (Scalar.subi (Scalar.extui (Scalar.cmpi .sgt 64#32 0#32)) (Scalar.extui (Scalar.cmpi .slt 64#32 0#32)))))
    (cmpi .ne (remsi v (broadcast S256x512 64#32)) (broadcast S256x512 0#32)))
    (subi (divsi v (broadcast S256x512 64#32)) (broadcast S256x512 1#32)) (divsi v (broadcast S256x512 64#32))

/-- The word three, as the kernel guards it against zero; and remainders modulo three, never negative. -/
def three : BitVec 32 := Scalar.select (Scalar.cmpi .eq 3#32 0#32) 1#32 3#32
def fmod3 (v : IVec S256x512 32) : IVec S256x512 32 :=
  select (andi (xori (cmpi .slt (remsi v (broadcast S256x512 three)) (broadcast S256x512 0#32))
      (broadcastTo S256x512 (broadcast S256x512 (Scalar.cmpi .slt three 0#32)) broadcasts_S256x512_S256x512))
    (cmpi .ne (remsi v (broadcast S256x512 three)) (broadcast S256x512 0#32)))
    (addi (remsi v (broadcast S256x512 three)) (broadcast S256x512 three)) (remsi v (broadcast S256x512 three))

/-- The block of a query row, the rows starting at word `w`; the block of a key column. -/
def qblk (w : BitVec 32) : IVec S256x512 32 := fdiv64 (addi (iota .tc S256x512 32 [0] iota_S256x512_d0_w32) (broadcast S256x512 w))
def kblk : IVec S256x512 32 := fdiv64 (iota .tc S256x512 32 [1] iota_S256x512_d1_w32)
/-- Which keys a query sees. -/
def seen (w : BitVec 32) : IVec S256x512 1 :=
  ori (ori (cmpi .eq (qblk w) kblk) (cmpi .eq kblk (broadcast S256x512 0#32)))
    (cmpi .eq (fmod3 (addi (qblk w) kblk)) (broadcast S256x512 0#32))

/-- The weights of one head before they are divided by their sum, -/
def weights (off : Fin 2 → ℕ) (hq : S256x512.Slices off S256x64) (hk : S512x512.Slices off S512x64)
    (m : IVec S256x512 1) (q : FVec F S256x512 .bf16) (k : FVec F S512x512 .bf16) : FVec F S256x512 .f32 :=
  exp (select m (matmul dot_S256x64_S512x64_S256x512_1_1_0_0_n_n none (extractStridedSlice S256x64 off q hq) (extractStridedSlice S512x64 off k hk)
    (constant S256x512 .f32 0x00000000#32)) (broadcast S256x512 (Scalar.ofBits .f32 0xCE6E6B28#32)))
/-- and the head: the weighted sum of the values, times one over the sum of the weights. -/
def head (off : Fin 2 → ℕ) (hq : S256x512.Slices off S256x64) (hk : S512x512.Slices off S512x64)
    (m : IVec S256x512 1) (q : FVec F S256x512 .bf16) (k v : FVec F S512x512 .bf16) : FVec F S256x64 .f32 :=
  mulf (matmul dot_S256x512_S512x64_S256x64_1_0_0_1_n_n none (truncf .bf16 (weights off hq hk m q k) bitsLt_bf16_f32)
      (extractStridedSlice S512x64 off v hk) (constant S256x64 .f32 0x00000000#32))
    (broadcastTo S256x64 (divf (broadcast S256x1 (Scalar.ofBits .f32 0x3F800000#32))
      (shapeCast S256x1 (multiReduction .add [1] S256 (weights off hq hk m q k) 0x00000000#32 reduces_S256x512_S256 (.inl rfl) rfl) shapeCasts_S256_S256x1))
      broadcasts_S256x1_S256x64)

/-- The eight heads side by side, rounded, times the output weights. -/
def attn (m : IVec S256x512 1) (q : FVec F S256x512 .bf16) (k v : FVec F S512x512 .bf16) (wo : FVec F S512x768 .bf16) : FVec F S256x768 .f32 :=
  matmul dot_S256x512_S512x768_S256x768_1_0_0_1_n_n none
    (truncf .bf16 (concatenate S256x512 1
      [⟨S256x64, head ![0, 0] slices_S256x512_o0_0_S256x64 slices_S512x512_o0_0_S512x64 m q k v⟩,
       ⟨S256x64, head ![0, 64] slices_S256x512_o0_64_S256x64 slices_S512x512_o0_64_S512x64 m q k v⟩,
       ⟨S256x64, head ![0, 128] slices_S256x512_o0_128_S256x64 slices_S512x512_o0_128_S512x64 m q k v⟩,
       ⟨S256x64, head ![0, 192] slices_S256x512_o0_192_S256x64 slices_S512x512_o0_192_S512x64 m q k v⟩,
       ⟨S256x64, head ![0, 256] slices_S256x512_o0_256_S256x64 slices_S512x512_o0_256_S512x64 m q k v⟩,
       ⟨S256x64, head ![0, 320] slices_S256x512_o0_320_S256x64 slices_S512x512_o0_320_S512x64 m q k v⟩,
       ⟨S256x64, head ![0, 384] slices_S256x512_o0_384_S256x64 slices_S512x512_o0_384_S512x64 m q k v⟩,
       ⟨S256x64, head ![0, 448] slices_S256x512_o0_448_S256x64 slices_S512x512_o0_448_S512x64 m q k v⟩]
      concatenates_S256x64_S256x64_S256x64_S256x64_S256x64_S256x64_S256x64_S256x64_S256x512_d1) bitsLt_bf16_f32)
    wo (constant S256x768 .f32 0x00000000#32)

/-- The query weights scaled, and the queries of 256 rows. -/
def scaled (wq : FVec F S768x512 .bf16) : FVec F S768x512 .bf16 :=
  mulf (shapeCast S768x512 wq shapeCasts_S768x512_S768x512) (broadcast S768x512 (Scalar.ofBits .bf16 0x3E00#16))
def queries (x : FVec F S1x256x768 .bf16) (wq : FVec F S768x512 .bf16) : FVec F S256x512 .bf16 :=
  truncf .bf16 (matmul dot_S256x768_S768x512_S256x512_1_0_0_1_n_n none (shapeCast S256x768 x shapeCasts_S1x256x768_S256x768) (scaled wq)
    (constant S256x512 .f32 0x00000000#32)) bitsLt_bf16_f32

/-- The block. -/
def block (w : BitVec 32) (x : FVec F S1x256x768 .bf16) (wq : FVec F S768x512 .bf16) (k v : FVec F S1x512x512 .bf16) (wo : FVec F S512x768 .bf16) :
    FVec F S4x1x64x768 .f32 :=
  shapeCast S4x1x64x768 (shapeCast S4x64x768
    (attn (seen w) (queries x wq) (shapeCast S512x512 k shapeCasts_S1x512x512_S512x512) (shapeCast S512x512 v shapeCasts_S1x512x512_S512x512)
      (shapeCast S512x768 wo shapeCasts_S512x768_S512x768)) shapeCasts_S256x768_S4x64x768) shapeCasts_S4x64x768_S4x1x64x768

variable (w : BitVec 32) (x : FVec F S1x256x768 .bf16) (wq : FVec F S768x512 .bf16) (k v k' v' : FVec F S1x512x512 .bf16) (wo : FVec F S512x768 .bf16)

theorem chain0 :
    let v79 := k0_pay6 k; let v83 := k0_pay8 v; let v93 := k0_pay10 wq x
    let v149 := k0_pay17 (k0_pay11 w) 64#32 (k0_pay12 w) (k0_pay13 w) (k0_pay14 w)
    let v150 := k0_pay18 (k0_pay11 w) 64#32 (k0_pay12 w) (k0_pay13 w) (k0_pay14 w)
    let v169 := k0_pay19 v149 v150 3#32 0#32
    k0_pay39 (k0_pay5 wo) (k0_pay20 v79 v83 v93 v149 v150 3#32 0#32)
      (k0_pay25 (k0_pay22 v79 v93 v149 v150 3#32 0#32) (k0_pay23 v79 v93 v149 v150 3#32 0#32) (k0_pay24 v83))
      (k0_pay26 v79 v83 v93 v169) (k0_pay27 v79 v83 v93 v169) (k0_pay32 (k0_pay29 v79 v93 v169) (k0_pay30 v79 v93 v169) (k0_pay31 v83))
      (k0_pay33 v79 v83 v93 v169) (k0_pay34 v79 v83 v93 v169) (k0_pay36 v79 v93 v169) (k0_pay37 v79 v93 v169) (k0_pay38 v83)
    = block (Scalar.muli (Scalar.subi 1#32 w) 256#32) x wq k v wo := rfl

theorem chain1 :
    let v81 := k0_pay7 k; let v85 := k0_pay9 v; let v338 := k0_pay41 (k0_pay4 wq) x
    let v394 := k0_pay48 (k0_pay43 w) (k0_pay44 w) (k0_pay45 w)
    let v397 := Scalar.select (Scalar.cmpi .eq 3#32 0#32) 1#32 3#32
    let v399 := k0_pay49 (k0_pay43 w) (k0_pay44 w) (k0_pay45 w)
    let v401 := k0_pay50 (k0_pay43 w) (k0_pay44 w) (k0_pay45 w)
    let v403 := k0_pay51 (k0_pay43 w) (k0_pay44 w) (k0_pay45 w)
    let v414 := k0_pay53 v394 v397 v399 v401 v403 k0_pay52
    k0_pay64 (k0_pay63 (k0_pay5 wo) v81 v85 v338 v414 (k0_pay54 v81 v85 v338 v394 v397 v399 v401 v403 k0_pay52)
      (k0_pay55 v81 v85 v338 v394 v397 v399 v401 v403 k0_pay52)
      (k0_pay58 v85 (k0_pay56 v81 v338 v394 v397 v399 v401 v403 k0_pay52) (k0_pay57 v81 v338 v394 v397 v399 v401 v403 k0_pay52))
      (k0_pay59 v81 v85 v338 v414) (k0_pay60 v81 v85 v338 v414) (k0_pay61 v81 v338 v414) (k0_pay62 v81 v338 v414))
    = block w x wq k v wo := rfl

theorem chain2 :
    let v79 := k0_pay6 k; let v83 := k0_pay8 v; let v583 := k0_pay66 (k0_pay4 wq) x
    let v659 := k0_pay71 (k0_pay67 w) (iota .tc S256x512 32 [1] iota_S256x512_d1_w32) 64#32 k0_pay68 k0_pay69 k0_pay70
    k0_pay85 (k0_pay84 (k0_pay5 wo) v79 v83 v583 v659 (k0_pay74 v83 v659 (k0_pay72 v79 v583) k0_pay73) (k0_pay75 v79 v83 v583 v659)
      (k0_pay76 v79 v83 v583 v659) (k0_pay79 v83 v659 (k0_pay77 v79 v583) k0_pay78) (k0_pay80 v79 v83 v583 v659) (k0_pay81 v79 v83 v583 v659)
      (k0_pay82 v79 v583) k0_pay83)
    = block w x wq k v wo := rfl

theorem chain3 :
    let v81 := k0_pay7 k; let v85 := k0_pay9 v; let v809 := k0_pay86 (k0_pay4 wq) x
    let v885 := k0_pay90 (k0_pay87 w) (iota .tc S256x512 32 [1] iota_S256x512_d1_w32) 64#32 k0_pay88 k0_pay89
    let z : FVec F S256x512 .f32 := constant S256x512 .f32 0x00000000#32
    k0_pay104 (k0_pay103 (k0_pay5 wo) v81 v85 v809 v885 (k0_pay93 v85 v885 (k0_pay91 v809) (k0_pay92 v81) z) (k0_pay94 v81 v85 v809 v885)
      (k0_pay95 v81 v85 v809 v885) (k0_pay98 v85 v885 (k0_pay96 v809) (k0_pay97 v81) z) (k0_pay99 v81 v85 v809 v885) (k0_pay100 v81 v85 v809 v885)
      (k0_pay101 v809) (k0_pay102 v81) z)
    = block w x wq k v wo := rfl

/-- What a device is given: its copy of the inputs as they stand in its memory. -/
structure Ins (F : FTy → Type) where
  x : FVec F S2x512x768 .bf16
  wq : FVec F S768x512 .bf16
  k : FVec F S2x512x512 .bf16
  v : FVec F S2x512x512 .bf16
  wo : FVec F S512x768 .bf16

/-- One batch of keys or values; 256 rows of one batch of the input from row `r` on. -/
def bat (f : FVec F S2x512x512 .bf16) (b : Fin 2) : FVec F S1x512x512 .bf16 := fun i => f (ix3 b (i 1) (i 2))
def rows (f : FVec F S2x512x768 .bf16) (b : Fin 2) (r : ℕ) : FVec F S1x256x768 .bf16 :=
  fun i => f (ix3 b ⟨(r + (i 1).val) % 512, Nat.mod_lt _ (by decide)⟩ (i 2))

/-- The block of a device for batch `b` and the four chunks from `h` on; its partial sum. -/
def blockOf (I : Ins F) (h : ℕ) (b : Fin 2) : FVec F S4x1x64x768 .f32 :=
  block (BitVec.ofNat 32 (64 * h)) (rows I.x b (64 * h)) I.wq (bat I.k b) (bat I.v b) I.wo
def part (I : Ins F) : FVec F S8x2x64x768 .f32 := fun j =>
  blockOf I (4 * ((j 0).val / 4)) (j 1) (ix4 ⟨(j 0).val % 4, Nat.mod_lt _ (by decide)⟩ 0 (j 2) (j 3))

end Cert.KernelIdeal.Reduce
-- ==== Proof.Boxes.lean ====
/-
  The kernel's parts at its own buffers, and the rectangles they read, write and send as sets of elements.
-/
module

public import proofs.«01_k».proof.Proof.Local
public import proofs.«01_k».proof.Proof.Blocks
public import Idealize.ShloMosaic.Lib.Pipeline.Value

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the kernel's buffers and semaphores. -/
abbrev app {β : Type 1} (k : (arg0 : Memref sig .tc .vmem S2x512x768 .bf16) → arg0.IsWhole → (arg1 : Memref sig .tc .vmem S768x512 .bf16) → arg1.IsWhole
    → (arg2 : Memref sig .tc .vmem S2x512x512 .bf16) → arg2.IsWhole → (arg3 : Memref sig .tc .vmem S2x512x512 .bf16) → arg3.IsWhole
    → (arg4 : Memref sig .tc .vmem S512x768 .bf16) → arg4.IsWhole → (arg5 : Memref sig .tc .vmem S2x512x768 .bf16) → arg5.IsWhole
    → (arg6 : Memref sig .tc .vmem S8x2x64x768 .f32) → arg6.IsWhole → (arg7 : Memref sig .tc .vmem S3x8x2x64x256 .bf16) → arg7.IsWhole
    → (arg8 : Memref sig .tc .vmem S4x2x64x768 .bf16) → arg8.IsWhole → (arg9 : Memref sig .tc .vmem S4x2x64x768 .bf16) → arg9.IsWhole
    → (arg10 : Memref sig .tc .vmem S2x2x64x384 .bf16) → arg10.IsWhole → (arg11 : Memref sig .tc .vmem S2x2x64x384 .bf16) → arg11.IsWhole
    → (arg12 : Memref sig .tc .vmem S2x2x64x384 .bf16) → arg12.IsWhole → (arg13 : Memref sig .tc .vmem S2x2x64x384 .bf16) → arg13.IsWhole
    → (arg14 : Memref sig .tc .vmem S1x2x64x384 .bf16) → arg14.IsWhole → (arg15 : Memref sig .tc .vmem S1x2x64x384 .bf16) → arg15.IsWhole
    → (arg16 : Memref sig .tc .vmem S1x2x64x384 .bf16) → arg16.IsWhole → (arg17 : Memref sig .tc .vmem S1x2x64x384 .bf16) → arg17.IsWhole
    → DmaSems sig S2 → DmaSems sig S2 → DmaSems sig S5 → DmaSems sig S5 → DmaSems sig S3x3 → DmaSems sig S3x3 → β) : β :=
  k aX (Memref.isWhole_whole _) aWq (Memref.isWhole_whole _) aK (Memref.isWhole_whole _) aV (Memref.isWhole_whole _)
    aWo (Memref.isWhole_whole _) aOut (Memref.isWhole_whole _) aAcc (Memref.isWhole_whole _) aAg (Memref.isWhole_whole _)
    aS0 (Memref.isWhole_whole _) aR0 (Memref.isWhole_whole _) aSA1 (Memref.isWhole_whole _) aRA1 (Memref.isWhole_whole _)
    aSB1 (Memref.isWhole_whole _) aRB1 (Memref.isWhole_whole _) aSA2 (Memref.isWhole_whole _) aRA2 (Memref.isWhole_whole _)
    aSB2 (Memref.isWhole_whole _) aRB2 (Memref.isWhole_whole _)
    cc0_scratch12 cc0_scratch13 cc0_scratch14 cc0_scratch15 cc0_scratch16 cc0_scratch17

/-- Running a program on the core of device `c`. -/
abbrev run {α : Type} (c : Dev nD) (p : Prog (TpuEff nD τ sig (Elt F) Λ₀ .tc) α) (Q : α → sProp 𝕄) : sProp 𝕄 :=
  wp frame (wpE (defs₀ (F := F)) 𝒱₀ c none) Set.univ p Q

/-- Four chunks of one batch of the accumulator. -/
def box (h b : ℕ) : Finset S8x2x64x768.Idx :=
  Finset.univ.filter fun j => h ≤ (j 0).val ∧ (j 0).val < h + 4 ∧ (j 1).val = b

/-- Two indices of rank four are one when their coordinates are. -/
theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  refine Fin.ext ?_
  fin_cases a
  exacts [h0, h1, h2, h3]

theorem at8_ext {j : S8x2x64x768.Idx} {i k : ℕ} {b : Fin 2} {r : Fin 64} (h0 : (j 0).val = i) (h1 : (j 1).val = b.val) (h2 : (j 2).val = r.val)
    (h3 : (j 3).val = k) : j = at8 i b r k := by
  have l0 : (j 0).val < 8 := (j 0).isLt
  have l3 : (j 3).val < 768 := (j 3).isLt
  refine ext4 ?_ h1 h2 ?_
  · show (j 0).val = i % 8
    rw [← h0, Nat.mod_eq_of_lt l0]
  · show (j 3).val = k % 768
    rw [← h3, Nat.mod_eq_of_lt l3]

variable (P : Dev nD → FVec F S8x2x64x768 .f32) (κ : GSem nD τ sig → ℕ) (c : Dev nD)

theorem box_set {h b : ℕ} {off : Fin 4 → ℕ} {inb} (e : off = ![h, b, 0, 0]) :
    (Rect.unit (s := S8x2x64x768) off S4x1x64x768.size inb).set = box h b := by
  subst e
  ext j
  have l2 : (j 2).val < 64 := (j 2).isLt
  have l3 : (j 3).val < 768 := (j 3).isLt
  rw [Rect.mem_set_unit, box, Finset.mem_filter]
  refine ⟨fun H => ⟨Finset.mem_univ _, ?_⟩, fun H a => ?_⟩
  · have h0 := H 0
    have h1 := H 1
    simp at h0 h1
    omega
  · fin_cases a <;> simp <;> omega

/-- The rectangle's elements, by coordinates. -/
theorem emb4 {n0 n1 n2 n3 o0 o1 o2 o3 : ℕ} {off size : Fin 4 → ℕ} {inb} (e : off = ![o0, o1, o2, o3])
    (x : (Rect.unit (s := ⟨4, ![n0, n1, n2, n3]⟩) off size inb).shape.Idx) :
    ((Rect.unit (s := ⟨4, ![n0, n1, n2, n3]⟩) off size inb).emb x 0).val = o0 + (x 0).val
    ∧ ((Rect.unit (s := ⟨4, ![n0, n1, n2, n3]⟩) off size inb).emb x 1).val = o1 + (x 1).val
    ∧ ((Rect.unit (s := ⟨4, ![n0, n1, n2, n3]⟩) off size inb).emb x 2).val = o2 + (x 2).val
    ∧ ((Rect.unit (s := ⟨4, ![n0, n1, n2, n3]⟩) off size inb).emb x 3).val = o3 + (x 3).val := by
  subst e
  exact ⟨ValueKit.rect_emb_unit_val _ _ _ _ _, ValueKit.rect_emb_unit_val _ _ _ _ _, ValueKit.rect_emb_unit_val _ _ _ _ _,
    ValueKit.rect_emb_unit_val _ _ _ _ _⟩

/-- Rounding between two reshapes that undo each other. -/
theorem trunc_between {s t : Shape} (v : FVec F s .f32) (h : s.ShapeCasts t) (h' : t.ShapeCasts s) :
    shapeCast s (truncf .bf16 (shapeCast t v h) bitsLt_bf16_f32) h' = truncf .bf16 v bitsLt_bf16_f32 := by
  rw [show truncf .bf16 (shapeCast t v h) bitsLt_bf16_f32 = shapeCast t (truncf .bf16 v bitsLt_bf16_f32) h from rfl, shapeCast_shapeCast]

theorem batch_set {b : ℕ} {inb} : (Rect.unit (s := S4x2x64x768) ![0, b, 0, 0] S4x1x64x768.size inb).set = batch b := by
  ext j
  have l0 : (j 0).val < 4 := (j 0).isLt
  have l2 : (j 2).val < 64 := (j 2).isLt
  have l3 : (j 3).val < 768 := (j 3).isLt
  rw [Rect.mem_set_unit, batch, Finset.mem_filter]
  refine ⟨fun H => ⟨Finset.mem_univ _, ?_⟩, fun H a => ?_⟩
  · have h1 := H 1
    simp at h1
    omega
  · fin_cases a <;> simp <;> omega

/-- The elements of a rectangle of a whole buffer, its unit dimensions dropped. -/
theorem squeeze_set {sp : Space} {i : Fin (sig.nNear .tc sp)} {h : _} (r : Rect (⟨sp, i, h⟩ : Ref sig .tc).ty.shape) (hs) {S : Shape} (sq) :
    (((Memref.whole (⟨sp, i, h⟩ : Ref sig .tc)).slice r hs).squeeze S sq).view.set = r.set :=
  (View.set_reshape _ _).trans (View.set_slice_whole _ _)

/-- Starting transfer `x` from elements held of one buffer to elements of another. -/
theorem step_move (c : Dev nD) (x : Fin 16) {s r : ℕ} (hs : s ≤ x.val) {c' : Dev nD} (hc : c' = peer x c)
    {sp : Space} {sh : Shape} {e : EltTy} {src dst : Memref sig .tc sp sh e} {sS sR : DmaSem sig} (hS : sS = sndS x) (hR : sR = rcvS x)
    {hsc : dst.view.ref.isScScratch = false} {hsrc : src.view.WordExact} {hdst : dst.view.WordExact}
    {hsem : DmaTarget.Typed sp (.dma sR : SemLoc sig) (.remote (c' : Thread nD τ) dst (.dma sS) hsc)}
    {I : Finset src.view.ref.ty.shape.Idx} {J : Finset dst.view.ref.ty.shape.Idx} (hI : src.view.set = I) (hJ : dst.view.set = J)
    (fs : src.view.ref.ty.Contents (Elt F)) (g : dst.view.ref.ty.Contents (Elt F))
    (hN : dst.view.dmaCredit = N x) (hpl : place (F := F) (peer x c) x = any dst.view.ref (peer x c) J)
    (hback : on src.view.ref c I fs ⊢ back P c x) (hland : landed P (peer x c) x = on dst.view.ref (peer x c) J g)
    (hval : ∀ y, src.view.read (Elt F) fs y = dst.view.read (Elt F) g y)
    {α : Type} {k : PUnit → Prog (TpuEff nD τ sig (Elt F) Λ₀ .tc) α} {Q : α → sProp 𝕄} :
    iprop(ctx P κ c ∗ St x.val s r c ∗ on src.view.ref c I fs)
      ⊢ iprop((St (x.val + 1) s r c -∗ wp frame (wpE (defs₀ (F := F)) 𝒱₀ c none) Set.univ (k ⟨⟩) Q)
        -∗ wp frame (wpE (defs₀ (F := F)) 𝒱₀ c none) Set.univ
          (.op (.enqueueDma src (.remote (c' : Thread nD τ) dst (.dma sS) hsc) (.dma sR) hsrc hdst hsem) k) Q) := by
  subst hI; subst hJ
  exact step_send P κ c x hs hc hS hR (fs := fs) hN (by rw [hpl]) hback
    (fun fd => by rw [hland]; exact Entails.of_eq (landed_congr (peer x c) src dst fs fd g hval))

/-- A store of rounded chunks into the buffer sent first. -/
theorem sb0_at (b : Fin 2) {off : Fin 4 → ℕ} {inb inb'} (e : off = ![sd c, b.val, 0, 0]) {pay : FVec F S4x1x64x768 .bf16}
    (hp : pay = truncf .bf16 (fun i => P c ((Rect.unit (s := S8x2x64x768) off S4x1x64x768.size inb).emb i)) bitsLt_bf16_f32)
    (x : S4x1x64x768.Idx) : sb0 P c ((Rect.unit (s := S4x2x64x768) ![0, b.val, 0, 0] S4x1x64x768.size inb').emb x) = pay x := by
  subst hp
  refine congrArg (rnd (P c)) ?_
  obtain ⟨a0, a1, a2, a3⟩ := emb4 (inb := inb) e x
  obtain ⟨b0, b1, b2, b3⟩ := emb4 (inb := inb') rfl x
  refine (at8_ext ?_ ?_ ?_ ?_).symm
  · rw [a0, b0, Nat.zero_add]
  · rw [a1, b1]
  · rw [a2, b2]
  · rw [a3, b3]

theorem sd_le (c : Dev nD) : sd c ≤ 4 := by revert c; decide
theorem kp_le (c : Dev nD) : kp c ≤ 4 := by revert c; decide

theorem toAny (b : Ref sig .tc) (c : Dev nD) (I : Finset b.ty.shape.Idx) (f : b.ty.Contents (Elt F)) : (on b c I f : sProp 𝕄) ⊢ any b c I := by
  iintro H; iexists f; iexact H

theorem inb0 (b : Fin 2) : ∀ a, (![0, b.val, 0, 0] : Fin 4 → ℕ) a + S4x1x64x768.size a ≤ S4x2x64x768.size a := by revert b; decide

/-- Batch `b` of the buffers of the exchange between halves. -/
abbrev bufS0 (b : Fin 2) : Memref sig .tc .vmem S4x64x768 .bf16 :=
  (aS0.slice (Rect.unit (s := S4x2x64x768) ![0, b.val, 0, 0] S4x1x64x768.size (inb0 b)) (fun _ => rfl)).squeeze S4x64x768 squeezes_S4x1x64x768_S4x64x768
abbrev bufR0 (b : Fin 2) : Memref sig .tc .vmem S4x64x768 .bf16 :=
  (aR0.slice (Rect.unit (s := S4x2x64x768) ![0, b.val, 0, 0] S4x1x64x768.size (inb0 b)) (fun _ => rfl)).squeeze S4x64x768 squeezes_S4x1x64x768_S4x64x768

/-- A load, the value read given in closed form. -/
theorem step_read (c : Dev nD) {i : Fin (sig.nNear .tc .vmem)} {h : _} (I : Finset (⟨.vmem, i, h⟩ : Ref sig .tc).ty.shape.Idx)
    (f : (⟨.vmem, i, h⟩ : Ref sig .tc).ty.Contents (Elt F)) {r : Rect (⟨.vmem, i, h⟩ : Ref sig .tc).ty.shape}
    {hl : (Memref.whole (⟨.vmem, i, h⟩ : Ref sig .tc)).view.LoadsAt r.toLoadRect} (hI : r.set ⊆ I)
    {w : r.shape.Idx → Elt F (⟨.vmem, i, h⟩ : Ref sig .tc).ty.elt} (hw : (fun x => f (r.emb x)) = w)
    {α : Type} {k : (r.shape.Idx → Elt F (⟨.vmem, i, h⟩ : Ref sig .tc).ty.elt) → Prog (TpuEff nD τ sig (Elt F) Λ₀ .tc) α} {Q : α → sProp 𝕄} :
    on (⟨.vmem, i, h⟩ : Ref sig .tc) c I f ⊢ iprop((on (⟨.vmem, i, h⟩ : Ref sig .tc) c I f -∗ wp frame (wpE (defs₀ (F := F)) 𝒱₀ c none) Set.univ (k w) Q)
      -∗ wp frame (wpE (defs₀ (F := F)) 𝒱₀ c none) Set.univ (.op (.load (Memref.whole (⟨.vmem, i, h⟩ : Ref sig .tc)) r.toLoadRect hl) k) Q) := by
  subst hw
  exact step_load c I f hI

/-- A load whose value is dropped and a store of the same rectangle. -/
theorem step_put (c : Dev nD) {i : Fin (sig.nNear .tc .vmem)} {h : _} (I : Finset (⟨.vmem, i, h⟩ : Ref sig .tc).ty.shape.Idx)
    (f g : (⟨.vmem, i, h⟩ : Ref sig .tc).ty.Contents (Elt F)) {r : Rect (⟨.vmem, i, h⟩ : Ref sig .tc).ty.shape}
    {hl : (Memref.whole (⟨.vmem, i, h⟩ : Ref sig .tc)).view.LoadsAt r.toLoadRect}
    {w : r.shape.Idx → Elt F (⟨.vmem, i, h⟩ : Ref sig .tc).ty.elt} {hx : ((Memref.whole (⟨.vmem, i, h⟩ : Ref sig .tc)).access r).Stores Finset.univ}
    {hm : Finset.univ = Finset.univ ∨ ∀ a, r.stride a = 1} (hI : r.set ⊆ I)
    (hg : ∀ x, g (r.emb x) = w x) (hr : ∀ j ∈ I, j ∉ r.set → g j = f j)
    {α : Type} {k : PUnit → Prog (TpuEff nD τ sig (Elt F) Λ₀ .tc) α} {Q : α → sProp 𝕄} :
    on (⟨.vmem, i, h⟩ : Ref sig .tc) c I f ⊢ iprop((on (⟨.vmem, i, h⟩ : Ref sig .tc) c I g -∗ wp frame (wpE (defs₀ (F := F)) 𝒱₀ c none) Set.univ (k ⟨⟩) Q)
      -∗ wp frame (wpE (defs₀ (F := F)) 𝒱₀ c none) Set.univ (.op (.load (Memref.whole (⟨.vmem, i, h⟩ : Ref sig .tc)) r.toLoadRect hl)
        fun _ => .op (.store (Memref.whole (⟨.vmem, i, h⟩ : Ref sig .tc)) r w Finset.univ hx hm) k) Q) := by
  iintro Ha Hk
  iapply (step_load c I f hI) $$ Ha
  iintro Ha
  iapply (step_store c I f g hI hg hr) $$ Ha
  iexact Hk

/-- The same when the rectangle is all that is held. -/
theorem step_fill (c : Dev nD) {i : Fin (sig.nNear .tc .vmem)} {h : _} {I : Finset (⟨.vmem, i, h⟩ : Ref sig .tc).ty.shape.Idx}
    (f g : (⟨.vmem, i, h⟩ : Ref sig .tc).ty.Contents (Elt F)) {r : Rect (⟨.vmem, i, h⟩ : Ref sig .tc).ty.shape}
    {hl : (Memref.whole (⟨.vmem, i, h⟩ : Ref sig .tc)).view.LoadsAt r.toLoadRect}
    {w : r.shape.Idx → Elt F (⟨.vmem, i, h⟩ : Ref sig .tc).ty.elt} {hx : ((Memref.whole (⟨.vmem, i, h⟩ : Ref sig .tc)).access r).Stores Finset.univ}
    {hm : Finset.univ = Finset.univ ∨ ∀ a, r.stride a = 1} (hI : r.set = I) (hg : ∀ x, g (r.emb x) = w x)
    {α : Type} {k : PUnit → Prog (TpuEff nD τ sig (Elt F) Λ₀ .tc) α} {Q : α → sProp 𝕄} :
    on (⟨.vmem, i, h⟩ : Ref sig .tc) c I f ⊢ iprop((on (⟨.vmem, i, h⟩ : Ref sig .tc) c I g -∗ wp frame (wpE (defs₀ (F := F)) 𝒱₀ c none) Set.univ (k ⟨⟩) Q)
      -∗ wp frame (wpE (defs₀ (F := F)) 𝒱₀ c none) Set.univ (.op (.load (Memref.whole (⟨.vmem, i, h⟩ : Ref sig .tc)) r.toLoadRect hl)
        fun _ => .op (.store (Memref.whole (⟨.vmem, i, h⟩ : Ref sig .tc)) r w Finset.univ hx hm) k) Q) :=
  step_put c I f g hI.subset hg (fun j hj hn => absurd (hI.symm ▸ hj) hn)

/-- A batch of keys or values, as loaded; a whole buffer, as loaded. -/
theorem bat_at (X : FVec F S2x512x512 .bf16) (b : Fin 2) {inb} :
    (fun i => X ((Rect.unit (s := S2x512x512) ![b.val, 0, 0] S1x512x512.size inb).emb i)) = bat X b := by
  funext i
  refine congrArg X ?_
  funext a
  refine Fin.ext ?_
  have h := ValueKit.rect_emb_unit_val (s := S2x512x512) ![b.val, 0, 0] S1x512x512.size inb i a
  fin_cases a
  · exact h.trans (by show b.val + (i 0).val = b.val; have : (i 0).val < 1 := (i 0).isLt; omega)
  · exact h.trans (Nat.zero_add _)
  · exact h.trans (Nat.zero_add _)
theorem full_emb {s : Shape} {off : Fin s.rank → ℕ} {inb} (h : ∀ a, off a = 0) (i : s.Idx) : (Rect.unit (s := s) off s.size inb).emb i = i := by
  funext a
  exact Fin.ext ((ValueKit.rect_emb_unit_val off s.size inb i a).trans (by rw [h a, Nat.zero_add]))
theorem full_set {s : Shape} {off : Fin s.rank → ℕ} {inb} (h : ∀ a, off a = 0) : (Rect.unit (s := s) off s.size inb).set = Finset.univ :=
  Finset.eq_univ_iff_forall.mpr fun j => by
    rw [← Rect.map_emb_univ]
    exact Finset.mem_map.mpr ⟨j, Finset.mem_univ _, full_emb h j⟩
theorem full_at {s : Shape} {α : Type} (X : s.Idx → α) {off : Fin s.rank → ℕ} {inb} (h : ∀ a, off a = 0) :
    (fun i => X ((Rect.unit (s := s) off s.size inb).emb i)) = X := funext fun i => congrArg X (full_emb h i)
theorem zeros2 : ∀ a, (![0, 0] : Fin 2 → ℕ) a = 0 := by decide
theorem zeros4 : ∀ a, (![0, 0, 0, 0] : Fin 4 → ℕ) a = 0 := by decide

/-- Rows of the input, as loaded. -/
theorem rows_at (X : FVec F S2x512x768 .bf16) (b : Fin 2) (r : ℕ) (hr : r + 256 ≤ 512) {off : Fin 3 → ℕ} {inb} (e : off = ![b.val, r, 0]) :
    (fun i => X ((Rect.unit (s := S2x512x768) off S1x256x768.size inb).emb i)) = rows X b r := by
  subst e
  funext i
  refine congrArg X ?_
  have l1 : (i 1).val < 256 := (i 1).isLt
  funext a
  refine Fin.ext ?_
  have h := ValueKit.rect_emb_unit_val (s := S2x512x768) ![b.val, r, 0] S1x256x768.size inb i a
  fin_cases a
  · exact h.trans (by have := (i 0).isLt; show b.val + (i 0).val = b.val; have : (i 0).val < 1 := (i 0).isLt; omega)
  · exact h.trans (by show r + (i 1).val = (r + (i 1).val) % 512; rw [Nat.mod_eq_of_lt (by omega)])
  · exact h.trans (Nat.zero_add _)

end Cert.KernelIdeal.Reduce
-- ==== Proof.PartsA.lean ====
/-
  The kernel's parts up to the end of its own partial sum: the first exchange is started on the way.
-/
module

public import proofs.«01_k».proof.Proof.Boxes

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

/-- The five buffers a device is given, as staged. -/
def inputs (c : Dev nD) (I : Ins F) : sProp 𝕄 :=
  iprop(on cc0_stg0_0 c Finset.univ I.x ∗ on cc0_stg1_0 c Finset.univ I.wq ∗ on cc0_stg2_0 c Finset.univ I.k ∗ on cc0_stg3_0 c Finset.univ I.v
    ∗ on cc0_stg4_0 c Finset.univ I.wo)

theorem bigSep_univ3 (Φ : Fin 3 → sProp 𝕄) : bigSep Finset.univ Φ = iprop(Φ 0 ∗ Φ 1 ∗ Φ 2) := by
  rw [show (Finset.univ : Finset (Fin 3)) = insert 0 (insert 1 {2}) from rfl, bigSep_insert (by decide), bigSep_insert (by decide), bigSep_singleton]
  rfl

/-- The number the kernel computes of a device's half, and the two row offsets it derives from it. -/
theorem half_word (w : BitVec 32) (c : Dev nD) (h : w = BitVec.ofNat 32 (u2 c)) :
    Scalar.muli (Scalar.subi 1#32 w) 256#32 = BitVec.ofNat 32 (64 * sd c) ∧ Scalar.muli w 256#32 = BitVec.ofNat 32 (64 * kp c) := by
  subst h; revert c; decide

theorem part1 {K : _ → sProp 𝕄} (R : sProp 𝕄)
    (hK : ∀ v2 v3 v4 v5 v22 v39, v22 = BitVec.ofNat 32 (u2 c) → R ⊢ K ⟨c, v2, v3, v4, v5, v22, v39⟩) :
    R ⊢ run c (app (k0_part1 (F := F))) K := by
  rw [k0_part1_eq_skeleton]
  simp only [app, k0_part1_skel, Prog.bind_op, Prog.bind_ret, Prog.lift, Prog.pure_eq_ret, wp_deviceId]
  rw [wp_ret]
  refine (hK _ _ _ _ _ _ ?_).trans fupd_intro
  clear hK; revert c; decide

theorem part2 {K : _ → sProp 𝕄} {v2 v3 v4 v5 v22 v39} (R : sProp 𝕄)
    (hK : ∀ v49 v60 v64, iprop(R ∗ owing (F := F) c (oweFrom c 0)) ⊢ K ⟨v49, v60, v64, SemArray.scalar (sig.barrier 0 rfl)⟩) :
    iprop(ctx P κ c ∗ R ∗ owing (F := F) c (owe₀ c) ∗ (bigSep Finset.univ fun d : Fin 3 => dutyTok ER (barCell (nb d c)) 0 d)
      ∗ bigSep Finset.univ (place (F := F) c))
    ⊢ run c (app (k0_part2 (F := F)) c v2 v3 v4 v5 v22 v39) K := by
  rw [k0_part2_eq_skeleton, bigSep_fiberwise Finset.univ cls (place (F := F) c), show Finset.univ.image cls = Finset.univ from by decide]
  simp only [app, k0_part2_skel, semSignalWord, Prog.bind_op, Prog.bind_ret, Prog.lift, Prog.pure_eq_ret, bigSep_univ3, bigSep_univ3]
  unfold owe₀
  iintro ⟨#Hx, HR, HO, ⟨Ht0, Ht1, Ht2⟩, Hp0, Hp1, Hp2⟩
  iapply (step_signal P κ c 0 (dev1_eq c)) $$ [HO Ht0 Hp0]
  · isplitr; · iexact Hx
    isplitl [HO]; · iexact HO
    isplitl [Ht0]; · iexact Ht0
    iexact Hp0
  iintro HO
  iapply (step_signal P κ c 1 (dev2_eq c)) $$ [HO Ht1 Hp1]
  · isplitr; · iexact Hx
    isplitl [HO]; · iexact HO
    isplitl [Ht1]; · iexact Ht1
    iexact Hp1
  iintro HO
  iapply (step_signal P κ c 2 (dev3_eq c)) $$ [HO Ht2 Hp2]
  · isplitr; · iexact Hx
    isplitl [HO]; · iexact HO
    isplitl [Ht2]; · iexact Ht2
    iexact Hp2
  iintro HO
  rw [wp_ret]
  imodintro
  iapply (hK _ _ _)
  isplitl [HR]; · iexact HR
  iapply (Entails.of_eq (congrArg (owing (F := F) c) (show oweFrom c 0 + oweBar c ((2 : Fin 3).val + 1) = oweFrom c 0 from by
    rw [show ((2 : Fin 3).val + 1) = 3 from rfl, oweBar_end, add_zero])))
  iexact HO

theorem part3 {K : _ → sProp 𝕄} {v22} (I : Ins F) :
    iprop(ctx P κ c ∗ owing (F := F) c (oweFrom c 0) ∗ atPos ER (barCell c) 0 ∅ 0 ∗ cred (tallyAt (barCell c) () 3) ∗ inputs c I
      ∗ ((owing (F := F) c (oweFrom c 0) ∗ atPos ER (barCell c) 1 ∅ 0 ∗ bigSep Finset.univ (entry (F := F) c) ∗ inputs c I)
        -∗ K ⟨k0_pay4 I.wq, k0_pay5 I.wo, k0_pay6 (bat I.k 0), k0_pay7 (bat I.k 1), k0_pay8 (bat I.v 0), k0_pay9 (bat I.v 1),
          Scalar.muli (Scalar.subi 1#32 v22) 256#32, Scalar.muli v22 256#32, k0_pay10 I.wq (rows I.x 0 (64 * sd c)),
          k0_pay11 v22, 64#32, k0_pay12 v22, k0_pay13 v22, k0_pay14 v22⟩))
    ⊢ run c (app (k0_part3 (F := F)) c v22 (SemArray.scalar (sig.barrier 0 rfl))) K := by
  rw [k0_part3_eq_skeleton]
  simp only [app, k0_part3_skel, semWaitWord, Prog.bind_op, Prog.bind_ret, Prog.lift, Prog.pure_eq_ret]
  unfold inputs
  iintro ⟨#Hx, HO, Hat, Hc, ⟨HX, Hq, HK, HV, Ho⟩, Hk⟩
  iapply (step_barrier P κ c) $$ [HO Hat Hc]
  · isplitr; · iexact Hx
    isplitl [HO]; · iexact HO
    isplitl [Hat]; · iexact Hat
    iexact Hc
  iintro ⟨HO, Hat, He⟩
  iapply (step_read (i := 1) (h := rfl) c Finset.univ I.wq (Finset.subset_univ _) (full_at (s := S768x512) I.wq zeros2)) $$ Hq
  iintro Hq
  iapply (step_read (i := 4) (h := rfl) c Finset.univ I.wo (Finset.subset_univ _) (full_at (s := S512x768) I.wo zeros2)) $$ Ho
  iintro Ho
  iapply (step_read (i := 2) (h := rfl) c Finset.univ I.k (Finset.subset_univ _) (bat_at I.k 0)) $$ HK
  iintro HK
  iapply (step_read (i := 2) (h := rfl) c Finset.univ I.k (Finset.subset_univ _) (bat_at I.k 1)) $$ HK
  iintro HK
  iapply (step_read (i := 3) (h := rfl) c Finset.univ I.v (Finset.subset_univ _) (bat_at I.v 0)) $$ HV
  iintro HV
  iapply (step_read (i := 3) (h := rfl) c Finset.univ I.v (Finset.subset_univ _) (bat_at I.v 1)) $$ HV
  iintro HV
  iapply (step_load (i := 0) (h := rfl) c Finset.univ I.x (Finset.subset_univ _)) $$ HX
  iintro HX
  rw [wp_ret]
  imodintro
  rw [rows_at I.x 0 (64 * sd c) (by have := sd_le c; omega) (off1_eq c)]
  iapply Hk
  isplitl [HO]; · iexact HO
  isplitl [Hat]; · iexact Hat
  isplitl [He]; · iexact He
  isplitl [HX]; · iexact HX
  isplitl [Hq]; · iexact Hq
  isplitl [HK]; · iexact HK
  isplitl [HV]; · iexact HV
  iexact Ho

theorem part8 {K : PUnit → sProp 𝕄} {v22 v77 v87 v184 v199 v214 v229 v244 v259 v274 v284 v285 v286}
    (hP : ∀ x, P c ((Rect.unit (s := S8x2x64x768) (k0_off2 c) S4x1x64x768.size (k0_off2_inb c)).emb x)
      = k0_pay39 (F := F) v77 v184 v199 v214 v229 v244 v259 v274 v284 v285 v286 x) :
    iprop(any (F := F) cc0_scratch0 c (box (sd c) 0) ∗ any (F := F) cc0_scratch2 c (batch 0)
      ∗ ((on cc0_scratch0 c (box (sd c) 0) (P c) ∗ on cc0_scratch2 c (batch 0) (sb0 P c)) -∗ K ⟨⟩))
    ⊢ run c (app (k0_part8 (F := F)) c v22 v77 v87 v184 v199 v214 v229 v244 v259 v274 v284 v285 v286) K := by
  rw [k0_part8_eq_skeleton]
  simp only [app, k0_part8_skel, Prog.bind_op, Prog.bind_ret, Prog.lift, Prog.pure_eq_ret]
  iintro ⟨⟨%f, Ha⟩, ⟨%g, Hs⟩, Hk⟩
  iapply (step_fill (i := 6) (h := rfl) c f (P c) (box_set (off2_eq c)) hP) $$ Ha
  iintro Ha
  iapply (step_load (i := 6) (h := rfl) c (box (sd c) 0) (P c) (box_set (off3_eq c)).subset) $$ Ha
  iintro Ha
  iapply (step_fill (i := 8) (h := rfl) (I := batch 0) c g (sb0 P c) (batch_set (b := 0)) (sb0_at P c 0 (off3_eq c) (trunc_between _ _ _))) $$ Hs
  iintro Hs
  rw [wp_ret]
  imodintro
  iapply Hk
  isplitl [Ha]; · iexact Ha
  iexact Hs

theorem part9 {K : _ → sProp 𝕄} {v3 v75 v87} (X : FVec F S2x512x768 .bf16) :
    iprop(ctx P κ c ∗ St 0 0 0 c ∗ on cc0_scratch2 c (batch 0) (sb0 P c) ∗ on cc0_stg0_0 c Finset.univ X
      ∗ ((St 1 0 0 c ∗ on cc0_stg0_0 c Finset.univ X) -∗ K ⟨k0_pay41 v75 (rows X 1 (64 * sd c)), k0_pay43 v87, k0_pay44 v87, k0_pay45 v87⟩))
    ⊢ run c (app (k0_part9 (F := F)) c v3 v75 v87) K := by
  rw [k0_part9_eq_skeleton]
  simp only [app, k0_part9_skel, Prog.bind_op, Prog.bind_ret, Prog.lift, Prog.pure_eq_ret]
  iintro ⟨#Hx, Hst, Hs, HX, Hk⟩
  iapply (step_move P κ c 0 (s := 0) (r := 0) (Nat.le_refl 0) (dev4_eq c) (src := bufS0 0) (dst := bufR0 0) rfl rfl (I := batch 0) (J := batch 0)
    ((squeeze_set _ _ _).trans batch_set) ((squeeze_set _ _ _).trans batch_set) (sb0 P c) (sb0 P (nb 0 (nb 0 c))) rfl rfl
    (toAny _ _ _ _) rfl (fun y => by rw [nb_nb]; rfl)) $$ [Hst Hs]
  · isplitr; · iexact Hx
    isplitl [Hst]; · iexact Hst
    iexact Hs
  iintro Hst
  iapply (step_load (i := 0) (h := rfl) c Finset.univ X (Finset.subset_univ _)) $$ HX
  iintro HX
  rw [wp_ret]
  imodintro
  rw [rows_at X 1 (64 * sd c) (by have := sd_le c; omega) (off4_eq c)]
  iapply Hk
  isplitl [Hst]; · iexact Hst
  iexact HX

theorem part14 {K : PUnit → sProp 𝕄} {v3 v22 v87 v538 c64 v539 v541 c0}
    (hP : ∀ x, P c ((Rect.unit (s := S8x2x64x768) (k0_off5 c) S4x1x64x768.size (k0_off5_inb c)).emb x)
      = k0_pay64 (F := F) v538 x) :
    iprop(any (F := F) cc0_scratch0 c (box (sd c) 1) ∗ any (F := F) cc0_scratch2 c (batch 1)
      ∗ ((on cc0_scratch0 c (box (sd c) 1) (P c) ∗ on cc0_scratch2 c (batch 1) (sb0 P c)) -∗ K ⟨⟩))
    ⊢ run c (app (k0_part14 (F := F)) c v3 v22 v87 v538 c64 v539 v541 c0) K := by
  rw [k0_part14_eq_skeleton]
  simp only [app, k0_part14_skel, Prog.bind_op, Prog.bind_ret, Prog.lift, Prog.pure_eq_ret]
  iintro ⟨⟨%f, Ha⟩, ⟨%g, Hs⟩, Hk⟩
  iapply (step_fill (i := 6) (h := rfl) c f (P c) (box_set (off5_eq c)) hP) $$ Ha
  iintro Ha
  iapply (step_load (i := 6) (h := rfl) c (box (sd c) 1) (P c) (box_set (off6_eq c)).subset) $$ Ha
  iintro Ha
  iapply (step_fill (i := 8) (h := rfl) (I := batch 1) c g (sb0 P c) (batch_set (b := 1)) (sb0_at P c 1 (off6_eq c) (trunc_between _ _ _))) $$ Hs
  iintro Hs
  rw [wp_ret]
  imodintro
  iapply Hk
  isplitl [Ha]; · iexact Ha
  iexact Hs

theorem part15 {K : _ → sProp 𝕄} {v75 v88} (X : FVec F S2x512x768 .bf16) :
    iprop(ctx P κ c ∗ St 1 0 0 c ∗ on cc0_scratch2 c (batch 1) (sb0 P c) ∗ on cc0_stg0_0 c Finset.univ X
      ∗ ((St 2 0 0 c ∗ on cc0_stg0_0 c Finset.univ X) -∗ K ⟨k0_pay66 v75 (rows X 0 (64 * kp c)), k0_pay67 v88, iota .tc S256x512 32 [1] iota_S256x512_d1_w32, 64#32,
        k0_pay68, k0_pay69, k0_pay70⟩))
    ⊢ run c (app (k0_part15 (F := F)) c v75 v88) K := by
  rw [k0_part15_eq_skeleton]
  simp only [app, k0_part15_skel, Prog.bind_op, Prog.bind_ret, Prog.lift, Prog.pure_eq_ret]
  iintro ⟨#Hx, Hst, Hs, HX, Hk⟩
  iapply (step_move P κ c 1 (s := 0) (r := 0) (Nat.zero_le _) (dev5_eq c) (src := bufS0 1) (dst := bufR0 1) rfl rfl (I := batch 1) (J := batch 1)
    ((squeeze_set _ _ _).trans batch_set) ((squeeze_set _ _ _).trans batch_set) (sb0 P c) (sb0 P (nb 0 (nb 0 c))) rfl rfl
    (toAny _ _ _ _) rfl (fun y => by rw [nb_nb]; rfl)) $$ [Hst Hs]
  · isplitr; · iexact Hx
    isplitl [Hst]; · iexact Hst
    iexact Hs
  iintro Hst
  iapply (step_load (i := 0) (h := rfl) c Finset.univ X (Finset.subset_univ _)) $$ HX
  iintro HX
  rw [wp_ret]
  imodintro
  rw [rows_at X 0 (64 * kp c) (by have := kp_le c; omega) (off7_eq c)]
  iapply Hk
  isplitl [Hst]; · iexact Hst
  iexact HX

theorem part20 {K : _ → sProp 𝕄} {v75 v88 v783 v784 v798} (X : FVec F S2x512x768 .bf16)
    (hP : ∀ x, P c ((Rect.unit (s := S8x2x64x768) (k0_off8 c) S4x1x64x768.size (k0_off8_inb c)).emb x) = k0_pay85 (F := F) v783 x) :
    iprop(any (F := F) cc0_scratch0 c (box (kp c) 0) ∗ on cc0_stg0_0 c Finset.univ X
      ∗ ((on cc0_scratch0 c (box (kp c) 0) (P c) ∗ on cc0_stg0_0 c Finset.univ X)
        -∗ K ⟨k0_pay86 v75 (rows X 1 (64 * kp c)), k0_pay87 v88, iota .tc S256x512 32 [1] iota_S256x512_d1_w32, 64#32, k0_pay88, k0_pay89⟩))
    ⊢ run c (app (k0_part20 (F := F)) c v75 v88 v783 v784 v798) K := by
  rw [k0_part20_eq_skeleton]
  simp only [app, k0_part20_skel, Prog.bind_op, Prog.bind_ret, Prog.lift, Prog.pure_eq_ret]
  iintro ⟨⟨%f, Ha⟩, HX, Hk⟩
  iapply (step_fill (i := 6) (h := rfl) c f (P c) (box_set (off8_eq c)) hP) $$ Ha
  iintro Ha
  iapply (step_load (i := 0) (h := rfl) c Finset.univ X (Finset.subset_univ _)) $$ HX
  iintro HX
  rw [wp_ret]
  imodintro
  rw [rows_at X 1 (64 * kp c) (by have := kp_le c; omega) (off9_eq c)]
  iapply Hk
  isplitl [Ha]; · iexact Ha
  iexact HX

theorem part25 {K : _ → sProp 𝕄} {v3 v1009 v1010 v1021 v1022}
    (hP : ∀ x, P c ((Rect.unit (s := S8x2x64x768) (k0_off10 c) S4x1x64x768.size (k0_off10_inb c)).emb x) = k0_pay104 (F := F) v1009 x) :
    iprop(ctx P κ c ∗ St 2 0 0 c ∗ any (F := F) cc0_scratch0 c (box (kp c) 1)
      ∗ ((St 2 1 1 c ∗ on cc0_scratch0 c (box (kp c) 1) (P c) ∗ back P c 0 ∗ landed P c 0) -∗ K ⟨⟩))
    ⊢ run c (app (k0_part25 (F := F)) c v3 v1009 v1010 v1021 v1022) K := by
  rw [k0_part25_eq_skeleton]
  simp only [app, k0_part25_skel, Prog.bind_op, Prog.bind_ret, Prog.lift, Prog.pure_eq_ret]
  iintro ⟨#Hx, Hst, ⟨%f, Ha⟩, Hk⟩
  iapply (step_fill (i := 6) (h := rfl) c f (P c) (box_set (off10_eq c)) hP) $$ Ha
  iintro Ha
  iapply (step_wait_snd P κ c 0 (n := 2) (r := 0) (by decide) rfl rfl) $$ [Hst]
  · isplitr; · iexact Hx
    iexact Hst
  iintro ⟨Hst, Hb⟩
  iapply (step_wait_rcv P κ c 0 (n := 2) (s := 1) (by decide) rfl rfl) $$ [Hst]
  · isplitr; · iexact Hx
    iexact Hst
  iintro ⟨Hst, Hl⟩
  rw [wp_ret]
  imodintro
  iapply Hk
  isplitl [Hst]; · iexact Hst
  isplitl [Ha]; · iexact Ha
  isplitl [Hb]; · iexact Hb
  iexact Hl

end Cert.KernelIdeal.Reduce
-- ==== Proof.Chain.lean ====
/-
  How the accumulator changes from one exchange to the next, box by box, and what the kernel's steps on it do.
-/
module

public import proofs.«01_k».proof.Proof.Boxes

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem u1_lt (c : Dev nD) : u1 c < 2 := by revert c; decide
theorem u0_lt (c : Dev nD) : u0 c < 2 := by revert c; decide
theorem nb0_sd (c : Dev nD) : sd (nb 0 c) = kp c := by revert c; decide
theorem nb1_facts (c : Dev nD) : kp (nb 1 c) = kp c ∧ u1 (nb 1 c) = 1 - u1 c ∧ u0 (nb 1 c) = u0 c := by revert c; decide
theorem nb2_facts (c : Dev nD) : kp (nb 2 c) = kp c ∧ u1 (nb 2 c) = u1 c ∧ u0 (nb 2 c) = 1 - u0 c := by revert c; decide

/-- Chunks `i` to `i + n` and columns `lo` to `lo + w` replaced. -/
def upd (i n lo w : ℕ) (g f : FVec F S8x2x64x768 .f32) : FVec F S8x2x64x768 .f32 :=
  fun j => if i ≤ (j 0).val ∧ (j 0).val < i + n ∧ lo ≤ (j 3).val ∧ (j 3).val < lo + w then g j else f j
theorem upd_in {i n lo w : ℕ} {g f : FVec F S8x2x64x768 .f32} {j : S8x2x64x768.Idx}
    (h : i ≤ (j 0).val ∧ (j 0).val < i + n ∧ lo ≤ (j 3).val ∧ (j 3).val < lo + w) : upd i n lo w g f j = g j := if_pos h
theorem upd_out {i n lo w : ℕ} {g f : FVec F S8x2x64x768 .f32} {j : S8x2x64x768.Idx}
    (h : ¬ (i ≤ (j 0).val ∧ (j 0).val < i + n ∧ lo ≤ (j 3).val ∧ (j 3).val < lo + w)) : upd i n lo w g f j = f j := if_neg h

/-- Off the rectangle the old contents stay. -/
theorem upd_rest {i n lo w : ℕ} {g f : FVec F S8x2x64x768 .f32} {off : Fin 4 → ℕ} {inb} (e : off = ![i, 0, 0, lo]) (j : S8x2x64x768.Idx)
    (hj : j ∉ (Rect.unit (s := S8x2x64x768) off ![n, 2, 64, w] inb).set) : upd i n lo w g f j = f j := by
  subst e
  refine upd_out fun H => hj ?_
  rw [Rect.mem_set_unit]
  have l1 : (j 1).val < 2 := (j 1).isLt
  have l2 : (j 2).val < 64 := (j 2).isLt
  intro a
  fin_cases a <;> simp <;> omega

/-- On it there is the sum of what was there and what came, rounded, from elsewhere. -/
theorem upd_sum {i n lo w : ℕ} {f A B : FVec F S8x2x64x768 .f32} {off : Fin 4 → ℕ} {inb} (e : off = ![i, 0, 0, lo])
    {v : FVec F ⟨4, ![n, 2, 64, w]⟩ .bf16} {h : (⟨4, ![n, 2, 64, w]⟩ : Shape).ShapeCasts ⟨4, ![n, 2, 64, w]⟩}
    (hA : ∀ x, f ((Rect.unit (s := S8x2x64x768) off ![n, 2, 64, w] inb).emb x) = A ((Rect.unit (s := S8x2x64x768) off ![n, 2, 64, w] inb).emb x))
    (hB : ∀ x, v x = rnd B ((Rect.unit (s := S8x2x64x768) off ![n, 2, 64, w] inb).emb x)) (x : (⟨4, ![n, 2, 64, w]⟩ : Shape).Idx) :
    upd i n lo w (addRnd A B) f ((Rect.unit (s := S8x2x64x768) off ![n, 2, 64, w] inb).emb x)
      = shapeCast ⟨4, ![n, 2, 64, w]⟩ (addf (fun x => f ((Rect.unit (s := S8x2x64x768) off ![n, 2, 64, w] inb).emb x)) (extf .f32 v bitsLt_bf16_f32)) h x := by
  obtain ⟨a0, -, -, a3⟩ := emb4 (inb := inb) e x
  have x0 : (x 0).val < n := (x 0).isLt
  have x3 : (x 3).val < w := (x 3).isLt
  rw [upd_in ⟨by omega, by omega, by omega, by omega⟩]
  refine Eq.trans ?_ (congrFun (shapeCast_self _ _) x).symm
  exact congrArg₂ FloatOps.addf (hA x).symm (congrArg (FloatOps.extf .f32 bitsLt_bf16_f32) (hB x).symm)

variable (P : Dev nD → FVec F S8x2x64x768 .f32) (κ : GSem nD τ sig → ℕ) (c : Dev nD)

/-- The accumulator after each of the ten additions. -/
abbrev f1 : FVec F S8x2x64x768 .f32 := upd (kp c + 2 * (1 - u1 c)) 2 0 768 (acc1 P c) (P c)
abbrev f2 : FVec F S8x2x64x768 .f32 := upd (kp c + 2 * u1 c + (1 - u0 c)) 1 384 384 (acc1 P c) (f1 P c)
abbrev f3 : FVec F S8x2x64x768 .f32 := upd (kp c + 2 * u1 c + u0 c) 1 0 768 (acc1 P c) (f2 P c)
abbrev f4 : FVec F S8x2x64x768 .f32 := upd (kp c + 2 * u1 c + (1 - u0 c)) 1 0 384 (acc1 P c) (f3 P c)
abbrev f5 : FVec F S8x2x64x768 .f32 := upd (kp c + 2 * u1 c + (1 - u0 c)) 1 0 384 (acc2 P c) (f4 P c)
abbrev f6 : FVec F S8x2x64x768 .f32 := upd (kp c + 2 * (1 - u1 c) + u0 c) 1 384 384 (acc2 P c) (f5 P c)
abbrev f7 : FVec F S8x2x64x768 .f32 := upd (kp c + 2 * u1 c + u0 c) 1 0 384 (acc2 P c) (f6 P c)
abbrev f8 : FVec F S8x2x64x768 .f32 := upd (kp c + 2 * u1 c + u0 c) 1 384 384 (acc2 P c) (f7 P c)
abbrev f9 : FVec F S8x2x64x768 .f32 := upd (kp c + 2 * u1 c + u0 c) 1 0 384 (acc3 P c) (f8 P c)
abbrev f10 : FVec F S8x2x64x768 .f32 := upd (kp c + 2 * u1 c + u0 c) 1 384 384 (acc3 P c) (f9 P c)

/-- What the buffers received hold, by the place of the accumulator it belongs to. -/
theorem r0_at {j : S8x2x64x768.Idx} {y : S4x2x64x768.Idx} (h0 : (j 0).val = kp c + (y 0).val) (h1 : (j 1).val = (y 1).val)
    (h2 : (j 2).val = (y 2).val) (h3 : (j 3).val = (y 3).val) : sb0 P (nb 0 c) y = rnd (P (nb 0 c)) j :=
  congrArg (rnd (P (nb 0 c))) (at8_ext (by rw [h0, nb0_sd]) h1 h2 h3).symm
theorem rnd_congr {A B : FVec F S8x2x64x768 .f32} {j : S8x2x64x768.Idx} (h : A j = B j) : rnd A j = rnd B j :=
  congrArg (FloatOps.truncf .bf16 bitsLt_bf16_f32) h
theorem rnd_cols_lo {A B : FVec F S8x2x64x768 .f32} {j : S8x2x64x768.Idx} (h : (j 3).val < 384) : rnd (cols A B) j = rnd A j :=
  rnd_congr (if_pos h)
theorem rnd_cols_hi {A B : FVec F S8x2x64x768 .f32} {j : S8x2x64x768.Idx} (h : ¬ (j 3).val < 384) : rnd (cols A B) j = rnd B j :=
  rnd_congr (if_neg h)
theorem rA1_at {j : S8x2x64x768.Idx} {y : S2x2x64x384.Idx} (h0 : (j 0).val = kp c + 2 * u1 c + (y 0).val) (h1 : (j 1).val = (y 1).val)
    (h2 : (j 2).val = (y 2).val) (h3 : (j 3).val = (y 3).val) : sA1 P (nb 1 c) y = rnd (cols (acc1 P (nb 1 c)) (acc1 P (nb 2 c))) j := by
  have y3 : (y 3).val < 384 := (y 3).isLt
  have := u1_lt c
  obtain ⟨e1, e2, e3⟩ := nb1_facts c
  rw [rnd_cols_lo (by omega)]
  exact congrArg (rnd (acc1 P (nb 1 c))) (at8_ext (by rw [h0, e1, e2]; omega) h1 h2 h3).symm
theorem rB1_at {j : S8x2x64x768.Idx} {y : S2x2x64x384.Idx} (h0 : (j 0).val = kp c + 2 * (y 0).val + u0 c) (h1 : (j 1).val = (y 1).val)
    (h2 : (j 2).val = (y 2).val) (h3 : (j 3).val = 384 + (y 3).val) : sB1 P (nb 2 c) y = rnd (cols (acc1 P (nb 1 c)) (acc1 P (nb 2 c))) j := by
  have := u0_lt c
  obtain ⟨e1, e2, e3⟩ := nb2_facts c
  rw [rnd_cols_hi (by omega)]
  exact congrArg (rnd (acc1 P (nb 2 c))) (at8_ext (by rw [h0, e1, e3]; omega) h1 h2 h3).symm
theorem rA2_at {j : S8x2x64x768.Idx} {y : S1x2x64x384.Idx} (h0 : (j 0).val = kp c + 2 * u1 c + u0 c + (y 0).val) (h1 : (j 1).val = (y 1).val)
    (h2 : (j 2).val = (y 2).val) (h3 : (j 3).val = (y 3).val) : sA2 P (nb 2 c) y = rnd (cols (acc2 P (nb 2 c)) (acc2 P (nb 1 c))) j := by
  have y3 : (y 3).val < 384 := (y 3).isLt
  have := u0_lt c
  obtain ⟨e1, e2, e3⟩ := nb2_facts c
  rw [rnd_cols_lo (by omega)]
  exact congrArg (rnd (acc2 P (nb 2 c))) (at8_ext (by rw [h0, e1, e2, e3]; omega) h1 h2 h3).symm
theorem rB2_at {j : S8x2x64x768.Idx} {y : S1x2x64x384.Idx} (h0 : (j 0).val = kp c + 2 * u1 c + u0 c + (y 0).val) (h1 : (j 1).val = (y 1).val)
    (h2 : (j 2).val = (y 2).val) (h3 : (j 3).val = 384 + (y 3).val) : sB2 P (nb 1 c) y = rnd (cols (acc2 P (nb 2 c)) (acc2 P (nb 1 c))) j := by
  have := u1_lt c
  obtain ⟨e1, e2, e3⟩ := nb1_facts c
  rw [rnd_cols_hi (by omega)]
  exact congrArg (rnd (acc2 P (nb 1 c))) (at8_ext (by rw [h0, e1, e2, e3]; omega) h1 h2 h3).symm

/-- What the accumulator holds on each rectangle when it is read there. -/

theorem at13 {inb} (x : (⟨4, ![1, 2, 64, 384]⟩ : Shape).Idx) :
    f1 P c ((Rect.unit (s := S8x2x64x768) (k0_off13 c) ![1, 2, 64, 384] inb).emb x) = P c ((Rect.unit (s := S8x2x64x768) (k0_off13 c) ![1, 2, 64, 384] inb).emb x) := by
  obtain ⟨a0, -, -, a3⟩ := emb4 (o0 := kp c + 2 * u1 c + (1 - u0 c)) (o1 := 0) (o2 := 0) (o3 := 384) (inb := inb) (off13_eq c) x
  have x0 : (x 0).val < 1 := (x 0).isLt
  have x3 : (x 3).val < 384 := (x 3).isLt
  have h1 := u1_lt c
  have h0 := u0_lt c
  exact upd_out (by omega)

theorem at15 {inb} (x : (⟨4, ![2, 2, 64, 384]⟩ : Shape).Idx) :
    f2 P c ((Rect.unit (s := S8x2x64x768) (k0_off15 c) ![2, 2, 64, 384] inb).emb x) = acc1 P c ((Rect.unit (s := S8x2x64x768) (k0_off15 c) ![2, 2, 64, 384] inb).emb x) := by
  obtain ⟨a0, -, -, a3⟩ := emb4 (o0 := kp c + 2 * (1 - u1 c)) (o1 := 0) (o2 := 0) (o3 := 0) (inb := inb) (off15_eq c) x
  have x0 : (x 0).val < 2 := (x 0).isLt
  have x3 : (x 3).val < 384 := (x 3).isLt
  have h1 := u1_lt c
  have h0 := u0_lt c
  exact (upd_out (by omega)).trans (upd_in (by omega))

theorem at16_0 {inb} (x : (⟨4, ![1, 2, 64, 384]⟩ : Shape).Idx) :
    f2 P c ((Rect.unit (s := S8x2x64x768) (k0_off16 c 0#32) ![1, 2, 64, 384] inb).emb x) = acc1 P c ((Rect.unit (s := S8x2x64x768) (k0_off16 c 0#32) ![1, 2, 64, 384] inb).emb x) := by
  obtain ⟨a0, -, -, a3⟩ := emb4 (o0 := kp c + 0 + (1 - u0 c)) (o1 := 0) (o2 := 0) (o3 := 384) (inb := inb) (off16_0_eq c) x
  have x0 : (x 0).val < 1 := (x 0).isLt
  have x3 : (x 3).val < 384 := (x 3).isLt
  have h1 := u1_lt c
  have h0 := u0_lt c
  by_cases hu : u1 c = 0
  · exact upd_in (by omega)
  · exact (upd_out (by omega)).trans (upd_in (by omega))

theorem at16_2 {inb} (x : (⟨4, ![1, 2, 64, 384]⟩ : Shape).Idx) :
    f2 P c ((Rect.unit (s := S8x2x64x768) (k0_off16 c 2#32) ![1, 2, 64, 384] inb).emb x) = acc1 P c ((Rect.unit (s := S8x2x64x768) (k0_off16 c 2#32) ![1, 2, 64, 384] inb).emb x) := by
  obtain ⟨a0, -, -, a3⟩ := emb4 (o0 := kp c + 2 + (1 - u0 c)) (o1 := 0) (o2 := 0) (o3 := 384) (inb := inb) (off16_2_eq c) x
  have x0 : (x 0).val < 1 := (x 0).isLt
  have x3 : (x 3).val < 384 := (x 3).isLt
  have h1 := u1_lt c
  have h0 := u0_lt c
  by_cases hu : u1 c = 1
  · exact upd_in (by omega)
  · exact (upd_out (by omega)).trans (upd_in (by omega))

theorem at17 {inb} (x : (⟨4, ![1, 2, 64, 768]⟩ : Shape).Idx) :
    f2 P c ((Rect.unit (s := S8x2x64x768) (k0_off17 c) ![1, 2, 64, 768] inb).emb x) = P c ((Rect.unit (s := S8x2x64x768) (k0_off17 c) ![1, 2, 64, 768] inb).emb x) := by
  obtain ⟨a0, -, -, a3⟩ := emb4 (o0 := kp c + 2 * u1 c + u0 c) (o1 := 0) (o2 := 0) (o3 := 0) (inb := inb) (off17_eq c) x
  have x0 : (x 0).val < 1 := (x 0).isLt
  have x3 : (x 3).val < 768 := (x 3).isLt
  have h1 := u1_lt c
  have h0 := u0_lt c
  exact (upd_out (by omega)).trans (upd_out (by omega))

theorem at19 {inb} (x : (⟨4, ![1, 2, 64, 384]⟩ : Shape).Idx) :
    f3 P c ((Rect.unit (s := S8x2x64x768) (k0_off19 c) ![1, 2, 64, 384] inb).emb x) = P c ((Rect.unit (s := S8x2x64x768) (k0_off19 c) ![1, 2, 64, 384] inb).emb x) := by
  obtain ⟨a0, -, -, a3⟩ := emb4 (o0 := kp c + 2 * u1 c + (1 - u0 c)) (o1 := 0) (o2 := 0) (o3 := 0) (inb := inb) (off19_eq c) x
  have x0 : (x 0).val < 1 := (x 0).isLt
  have x3 : (x 3).val < 384 := (x 3).isLt
  have h1 := u1_lt c
  have h0 := u0_lt c
  exact (upd_out (by omega)).trans ((upd_out (by omega)).trans (upd_out (by omega)))

theorem at19' {inb} (x : (⟨4, ![1, 2, 64, 384]⟩ : Shape).Idx) :
    f4 P c ((Rect.unit (s := S8x2x64x768) (k0_off19 c) ![1, 2, 64, 384] inb).emb x) = acc1 P c ((Rect.unit (s := S8x2x64x768) (k0_off19 c) ![1, 2, 64, 384] inb).emb x) := by
  obtain ⟨a0, -, -, a3⟩ := emb4 (o0 := kp c + 2 * u1 c + (1 - u0 c)) (o1 := 0) (o2 := 0) (o3 := 0) (inb := inb) (off19_eq c) x
  have x0 : (x 0).val < 1 := (x 0).isLt
  have x3 : (x 3).val < 384 := (x 3).isLt
  have h1 := u1_lt c
  have h0 := u0_lt c
  exact upd_in (by omega)

theorem at22 {inb} (x : (⟨4, ![1, 2, 64, 384]⟩ : Shape).Idx) :
    f5 P c ((Rect.unit (s := S8x2x64x768) (k0_off22 c) ![1, 2, 64, 384] inb).emb x) = acc1 P c ((Rect.unit (s := S8x2x64x768) (k0_off22 c) ![1, 2, 64, 384] inb).emb x) := by
  obtain ⟨a0, -, -, a3⟩ := emb4 (o0 := kp c + 2 * (1 - u1 c) + u0 c) (o1 := 0) (o2 := 0) (o3 := 384) (inb := inb) (off22_eq c) x
  have x0 : (x 0).val < 1 := (x 0).isLt
  have x3 : (x 3).val < 384 := (x 3).isLt
  have h1 := u1_lt c
  have h0 := u0_lt c
  exact (upd_out (by omega)).trans ((upd_out (by omega)).trans ((upd_out (by omega)).trans ((upd_out (by omega)).trans (upd_in (by omega)))))

theorem at19'' {inb} (x : (⟨4, ![1, 2, 64, 384]⟩ : Shape).Idx) :
    f6 P c ((Rect.unit (s := S8x2x64x768) (k0_off19 c) ![1, 2, 64, 384] inb).emb x) = acc2 P c ((Rect.unit (s := S8x2x64x768) (k0_off19 c) ![1, 2, 64, 384] inb).emb x) := by
  obtain ⟨a0, -, -, a3⟩ := emb4 (o0 := kp c + 2 * u1 c + (1 - u0 c)) (o1 := 0) (o2 := 0) (o3 := 0) (inb := inb) (off19_eq c) x
  have x0 : (x 0).val < 1 := (x 0).isLt
  have x3 : (x 3).val < 384 := (x 3).isLt
  have h1 := u1_lt c
  have h0 := u0_lt c
  exact (upd_out (by omega)).trans (upd_in (by omega))

theorem at22' {inb} (x : (⟨4, ![1, 2, 64, 384]⟩ : Shape).Idx) :
    f6 P c ((Rect.unit (s := S8x2x64x768) (k0_off22 c) ![1, 2, 64, 384] inb).emb x) = acc2 P c ((Rect.unit (s := S8x2x64x768) (k0_off22 c) ![1, 2, 64, 384] inb).emb x) := by
  obtain ⟨a0, -, -, a3⟩ := emb4 (o0 := kp c + 2 * (1 - u1 c) + u0 c) (o1 := 0) (o2 := 0) (o3 := 384) (inb := inb) (off22_eq c) x
  have x0 : (x 0).val < 1 := (x 0).isLt
  have x3 : (x 3).val < 384 := (x 3).isLt
  have h1 := u1_lt c
  have h0 := u0_lt c
  exact upd_in (by omega)

theorem at24 {inb} (x : (⟨4, ![1, 2, 64, 384]⟩ : Shape).Idx) :
    f6 P c ((Rect.unit (s := S8x2x64x768) (k0_off24 c) ![1, 2, 64, 384] inb).emb x) = acc1 P c ((Rect.unit (s := S8x2x64x768) (k0_off24 c) ![1, 2, 64, 384] inb).emb x) := by
  obtain ⟨a0, -, -, a3⟩ := emb4 (o0 := kp c + 2 * u1 c + u0 c) (o1 := 0) (o2 := 0) (o3 := 0) (inb := inb) (off24_eq c) x
  have x0 : (x 0).val < 1 := (x 0).isLt
  have x3 : (x 3).val < 384 := (x 3).isLt
  have h1 := u1_lt c
  have h0 := u0_lt c
  exact (upd_out (by omega)).trans ((upd_out (by omega)).trans ((upd_out (by omega)).trans (upd_in (by omega))))

theorem at26 {inb} (x : (⟨4, ![1, 2, 64, 384]⟩ : Shape).Idx) :
    f7 P c ((Rect.unit (s := S8x2x64x768) (k0_off26 c) ![1, 2, 64, 384] inb).emb x) = acc1 P c ((Rect.unit (s := S8x2x64x768) (k0_off26 c) ![1, 2, 64, 384] inb).emb x) := by
  obtain ⟨a0, -, -, a3⟩ := emb4 (o0 := kp c + 2 * u1 c + u0 c) (o1 := 0) (o2 := 0) (o3 := 384) (inb := inb) (off26_eq c) x
  have x0 : (x 0).val < 1 := (x 0).isLt
  have x3 : (x 3).val < 384 := (x 3).isLt
  have h1 := u1_lt c
  have h0 := u0_lt c
  exact (upd_out (by omega)).trans ((upd_out (by omega)).trans ((upd_out (by omega)).trans ((upd_out (by omega)).trans (upd_in (by omega)))))

theorem at24' {inb} (x : (⟨4, ![1, 2, 64, 384]⟩ : Shape).Idx) :
    f8 P c ((Rect.unit (s := S8x2x64x768) (k0_off24 c) ![1, 2, 64, 384] inb).emb x) = acc2 P c ((Rect.unit (s := S8x2x64x768) (k0_off24 c) ![1, 2, 64, 384] inb).emb x) := by
  obtain ⟨a0, -, -, a3⟩ := emb4 (o0 := kp c + 2 * u1 c + u0 c) (o1 := 0) (o2 := 0) (o3 := 0) (inb := inb) (off24_eq c) x
  have x0 : (x 0).val < 1 := (x 0).isLt
  have x3 : (x 3).val < 384 := (x 3).isLt
  have h1 := u1_lt c
  have h0 := u0_lt c
  exact (upd_out (by omega)).trans (upd_in (by omega))

theorem at26' {inb} (x : (⟨4, ![1, 2, 64, 384]⟩ : Shape).Idx) :
    f9 P c ((Rect.unit (s := S8x2x64x768) (k0_off26 c) ![1, 2, 64, 384] inb).emb x) = acc2 P c ((Rect.unit (s := S8x2x64x768) (k0_off26 c) ![1, 2, 64, 384] inb).emb x) := by
  obtain ⟨a0, -, -, a3⟩ := emb4 (o0 := kp c + 2 * u1 c + u0 c) (o1 := 0) (o2 := 0) (o3 := 384) (inb := inb) (off26_eq c) x
  have x0 : (x 0).val < 1 := (x 0).isLt
  have x3 : (x 3).val < 384 := (x 3).isLt
  have h1 := u1_lt c
  have h0 := u0_lt c
  exact (upd_out (by omega)).trans (upd_in (by omega))

theorem at17' {inb} (x : (⟨4, ![1, 2, 64, 768]⟩ : Shape).Idx) :
    f10 P c ((Rect.unit (s := S8x2x64x768) (k0_off17 c) ![1, 2, 64, 768] inb).emb x) = acc3 P c ((Rect.unit (s := S8x2x64x768) (k0_off17 c) ![1, 2, 64, 768] inb).emb x) := by
  obtain ⟨a0, -, -, a3⟩ := emb4 (o0 := kp c + 2 * u1 c + u0 c) (o1 := 0) (o2 := 0) (o3 := 0) (inb := inb) (off17_eq c) x
  have x0 : (x 0).val < 1 := (x 0).isLt
  have x3 : (x 3).val < 768 := (x 3).isLt
  by_cases hu : (x 3).val < 384
  · exact (upd_out (by omega)).trans (upd_in (by omega))
  · exact upd_in (by omega)

/-- The ten additions. -/

theorem sum1 {inb inb' h} (x : (⟨4, ![2, 2, 64, 768]⟩ : Shape).Idx) :
    upd (kp c + 2 * (1 - u1 c)) 2 0 768 (acc1 P c) (P c) ((Rect.unit (s := S8x2x64x768) (k0_off11 c) ![2, 2, 64, 768] inb).emb x)
      = shapeCast ⟨4, ![2, 2, 64, 768]⟩ (addf (fun x => (P c) ((Rect.unit (s := S8x2x64x768) (k0_off11 c) ![2, 2, 64, 768] inb).emb x))
          (extf .f32 (fun x => sb0 P (nb 0 c) ((Rect.unit (s := S4x2x64x768) (k0_off12 c) ![2, 2, 64, 768] inb').emb x)) bitsLt_bf16_f32)) h x := by
  refine upd_sum (A := P c) (B := P (nb 0 c)) (i := kp c + 2 * (1 - u1 c)) (off11_eq c) (fun _ => rfl) (fun x => ?_) x
  obtain ⟨a0, a1, a2, a3⟩ := emb4 (o0 := kp c + 2 * (1 - u1 c)) (o1 := 0) (o2 := 0) (o3 := 0) (inb := inb) (off11_eq c) x
  obtain ⟨b0, b1, b2, b3⟩ := emb4 (o0 := 2 * (1 - u1 c)) (o1 := 0) (o2 := 0) (o3 := 0) (inb := inb') (off12_eq c) x
  have x0 : (x 0).val < 2 := (x 0).isLt
  have h1 := u1_lt c
  have h0 := u0_lt c
  exact r0_at P c (by omega) (by omega) (by omega) (by omega)

theorem sum2 {inb inb' h} (x : (⟨4, ![1, 2, 64, 384]⟩ : Shape).Idx) :
    upd (kp c + 2 * u1 c + (1 - u0 c)) 1 384 384 (acc1 P c) (f1 P c) ((Rect.unit (s := S8x2x64x768) (k0_off13 c) ![1, 2, 64, 384] inb).emb x)
      = shapeCast ⟨4, ![1, 2, 64, 384]⟩ (addf (fun x => (f1 P c) ((Rect.unit (s := S8x2x64x768) (k0_off13 c) ![1, 2, 64, 384] inb).emb x))
          (extf .f32 (fun x => sb0 P (nb 0 c) ((Rect.unit (s := S4x2x64x768) (k0_off14 c) ![1, 2, 64, 384] inb').emb x)) bitsLt_bf16_f32)) h x := by
  refine upd_sum (A := P c) (B := P (nb 0 c)) (i := kp c + 2 * u1 c + (1 - u0 c)) (off13_eq c) (at13 P c) (fun x => ?_) x
  obtain ⟨a0, a1, a2, a3⟩ := emb4 (o0 := kp c + 2 * u1 c + (1 - u0 c)) (o1 := 0) (o2 := 0) (o3 := 384) (inb := inb) (off13_eq c) x
  obtain ⟨b0, b1, b2, b3⟩ := emb4 (o0 := 2 * u1 c + (1 - u0 c)) (o1 := 0) (o2 := 0) (o3 := 384) (inb := inb') (off14_eq c) x
  have x0 : (x 0).val < 1 := (x 0).isLt
  have h1 := u1_lt c
  have h0 := u0_lt c
  exact r0_at P c (by omega) (by omega) (by omega) (by omega)

theorem sum3 {inb inb' h} (x : (⟨4, ![1, 2, 64, 768]⟩ : Shape).Idx) :
    upd (kp c + 2 * u1 c + u0 c) 1 0 768 (acc1 P c) (f2 P c) ((Rect.unit (s := S8x2x64x768) (k0_off17 c) ![1, 2, 64, 768] inb).emb x)
      = shapeCast ⟨4, ![1, 2, 64, 768]⟩ (addf (fun x => (f2 P c) ((Rect.unit (s := S8x2x64x768) (k0_off17 c) ![1, 2, 64, 768] inb).emb x))
          (extf .f32 (fun x => sb0 P (nb 0 c) ((Rect.unit (s := S4x2x64x768) (k0_off18 c) ![1, 2, 64, 768] inb').emb x)) bitsLt_bf16_f32)) h x := by
  refine upd_sum (A := P c) (B := P (nb 0 c)) (i := kp c + 2 * u1 c + u0 c) (off17_eq c) (at17 P c) (fun x => ?_) x
  obtain ⟨a0, a1, a2, a3⟩ := emb4 (o0 := kp c + 2 * u1 c + u0 c) (o1 := 0) (o2 := 0) (o3 := 0) (inb := inb) (off17_eq c) x
  obtain ⟨b0, b1, b2, b3⟩ := emb4 (o0 := 2 * u1 c + u0 c) (o1 := 0) (o2 := 0) (o3 := 0) (inb := inb') (off18_eq c) x
  have x0 : (x 0).val < 1 := (x 0).isLt
  have h1 := u1_lt c
  have h0 := u0_lt c
  exact r0_at P c (by omega) (by omega) (by omega) (by omega)

theorem sum4 {inb inb' h} (x : (⟨4, ![1, 2, 64, 384]⟩ : Shape).Idx) :
    upd (kp c + 2 * u1 c + (1 - u0 c)) 1 0 384 (acc1 P c) (f3 P c) ((Rect.unit (s := S8x2x64x768) (k0_off19 c) ![1, 2, 64, 384] inb).emb x)
      = shapeCast ⟨4, ![1, 2, 64, 384]⟩ (addf (fun x => (f3 P c) ((Rect.unit (s := S8x2x64x768) (k0_off19 c) ![1, 2, 64, 384] inb).emb x))
          (extf .f32 (fun x => sb0 P (nb 0 c) ((Rect.unit (s := S4x2x64x768) (k0_off20 c) ![1, 2, 64, 384] inb').emb x)) bitsLt_bf16_f32)) h x := by
  refine upd_sum (A := P c) (B := P (nb 0 c)) (i := kp c + 2 * u1 c + (1 - u0 c)) (off19_eq c) (at19 P c) (fun x => ?_) x
  obtain ⟨a0, a1, a2, a3⟩ := emb4 (o0 := kp c + 2 * u1 c + (1 - u0 c)) (o1 := 0) (o2 := 0) (o3 := 0) (inb := inb) (off19_eq c) x
  obtain ⟨b0, b1, b2, b3⟩ := emb4 (o0 := 2 * u1 c + (1 - u0 c)) (o1 := 0) (o2 := 0) (o3 := 0) (inb := inb') (off20_eq c) x
  have x0 : (x 0).val < 1 := (x 0).isLt
  have h1 := u1_lt c
  have h0 := u0_lt c
  exact r0_at P c (by omega) (by omega) (by omega) (by omega)

theorem sum5 {inb inb' h} (x : (⟨4, ![1, 2, 64, 384]⟩ : Shape).Idx) :
    upd (kp c + 2 * u1 c + (1 - u0 c)) 1 0 384 (acc2 P c) (f4 P c) ((Rect.unit (s := S8x2x64x768) (k0_off19 c) ![1, 2, 64, 384] inb).emb x)
      = shapeCast ⟨4, ![1, 2, 64, 384]⟩ (addf (fun x => (f4 P c) ((Rect.unit (s := S8x2x64x768) (k0_off19 c) ![1, 2, 64, 384] inb).emb x))
          (extf .f32 (fun x => sA1 P (nb 1 c) ((Rect.unit (s := S2x2x64x384) (k0_off21 c) ![1, 2, 64, 384] inb').emb x)) bitsLt_bf16_f32)) h x := by
  refine upd_sum (A := acc1 P c) (B := cols (acc1 P (nb 1 c)) (acc1 P (nb 2 c))) (i := kp c + 2 * u1 c + (1 - u0 c)) (off19_eq c) (at19' P c) (fun x => ?_) x
  obtain ⟨a0, a1, a2, a3⟩ := emb4 (o0 := kp c + 2 * u1 c + (1 - u0 c)) (o1 := 0) (o2 := 0) (o3 := 0) (inb := inb) (off19_eq c) x
  obtain ⟨b0, b1, b2, b3⟩ := emb4 (o0 := 1 - u0 c) (o1 := 0) (o2 := 0) (o3 := 0) (inb := inb') (off21_eq c) x
  have x0 : (x 0).val < 1 := (x 0).isLt
  have h1 := u1_lt c
  have h0 := u0_lt c
  exact rA1_at P c (by omega) (by omega) (by omega) (by omega)

theorem sum6 {inb inb' h} (x : (⟨4, ![1, 2, 64, 384]⟩ : Shape).Idx) :
    upd (kp c + 2 * (1 - u1 c) + u0 c) 1 384 384 (acc2 P c) (f5 P c) ((Rect.unit (s := S8x2x64x768) (k0_off22 c) ![1, 2, 64, 384] inb).emb x)
      = shapeCast ⟨4, ![1, 2, 64, 384]⟩ (addf (fun x => (f5 P c) ((Rect.unit (s := S8x2x64x768) (k0_off22 c) ![1, 2, 64, 384] inb).emb x))
          (extf .f32 (fun x => sB1 P (nb 2 c) ((Rect.unit (s := S2x2x64x384) (k0_off23 c) ![1, 2, 64, 384] inb').emb x)) bitsLt_bf16_f32)) h x := by
  refine upd_sum (A := acc1 P c) (B := cols (acc1 P (nb 1 c)) (acc1 P (nb 2 c))) (i := kp c + 2 * (1 - u1 c) + u0 c) (off22_eq c) (at22 P c) (fun x => ?_) x
  obtain ⟨a0, a1, a2, a3⟩ := emb4 (o0 := kp c + 2 * (1 - u1 c) + u0 c) (o1 := 0) (o2 := 0) (o3 := 384) (inb := inb) (off22_eq c) x
  obtain ⟨b0, b1, b2, b3⟩ := emb4 (o0 := 1 - u1 c) (o1 := 0) (o2 := 0) (o3 := 0) (inb := inb') (off23_eq c) x
  have x0 : (x 0).val < 1 := (x 0).isLt
  have h1 := u1_lt c
  have h0 := u0_lt c
  exact rB1_at P c (by omega) (by omega) (by omega) (by omega)

theorem sum7 {inb inb' h} (x : (⟨4, ![1, 2, 64, 384]⟩ : Shape).Idx) :
    upd (kp c + 2 * u1 c + u0 c) 1 0 384 (acc2 P c) (f6 P c) ((Rect.unit (s := S8x2x64x768) (k0_off24 c) ![1, 2, 64, 384] inb).emb x)
      = shapeCast ⟨4, ![1, 2, 64, 384]⟩ (addf (fun x => (f6 P c) ((Rect.unit (s := S8x2x64x768) (k0_off24 c) ![1, 2, 64, 384] inb).emb x))
          (extf .f32 (fun x => sA1 P (nb 1 c) ((Rect.unit (s := S2x2x64x384) (k0_off25 c) ![1, 2, 64, 384] inb').emb x)) bitsLt_bf16_f32)) h x := by
  refine upd_sum (A := acc1 P c) (B := cols (acc1 P (nb 1 c)) (acc1 P (nb 2 c))) (i := kp c + 2 * u1 c + u0 c) (off24_eq c) (at24 P c) (fun x => ?_) x
  obtain ⟨a0, a1, a2, a3⟩ := emb4 (o0 := kp c + 2 * u1 c + u0 c) (o1 := 0) (o2 := 0) (o3 := 0) (inb := inb) (off24_eq c) x
  obtain ⟨b0, b1, b2, b3⟩ := emb4 (o0 := u0 c) (o1 := 0) (o2 := 0) (o3 := 0) (inb := inb') (off25_eq c) x
  have x0 : (x 0).val < 1 := (x 0).isLt
  have h1 := u1_lt c
  have h0 := u0_lt c
  exact rA1_at P c (by omega) (by omega) (by omega) (by omega)

theorem sum8 {inb inb' h} (x : (⟨4, ![1, 2, 64, 384]⟩ : Shape).Idx) :
    upd (kp c + 2 * u1 c + u0 c) 1 384 384 (acc2 P c) (f7 P c) ((Rect.unit (s := S8x2x64x768) (k0_off26 c) ![1, 2, 64, 384] inb).emb x)
      = shapeCast ⟨4, ![1, 2, 64, 384]⟩ (addf (fun x => (f7 P c) ((Rect.unit (s := S8x2x64x768) (k0_off26 c) ![1, 2, 64, 384] inb).emb x))
          (extf .f32 (fun x => sB1 P (nb 2 c) ((Rect.unit (s := S2x2x64x384) (k0_off27 c) ![1, 2, 64, 384] inb').emb x)) bitsLt_bf16_f32)) h x := by
  refine upd_sum (A := acc1 P c) (B := cols (acc1 P (nb 1 c)) (acc1 P (nb 2 c))) (i := kp c + 2 * u1 c + u0 c) (off26_eq c) (at26 P c) (fun x => ?_) x
  obtain ⟨a0, a1, a2, a3⟩ := emb4 (o0 := kp c + 2 * u1 c + u0 c) (o1 := 0) (o2 := 0) (o3 := 384) (inb := inb) (off26_eq c) x
  obtain ⟨b0, b1, b2, b3⟩ := emb4 (o0 := u1 c) (o1 := 0) (o2 := 0) (o3 := 0) (inb := inb') (off27_eq c) x
  have x0 : (x 0).val < 1 := (x 0).isLt
  have h1 := u1_lt c
  have h0 := u0_lt c
  exact rB1_at P c (by omega) (by omega) (by omega) (by omega)

theorem sum9 {inb inb' h} (x : (⟨4, ![1, 2, 64, 384]⟩ : Shape).Idx) :
    upd (kp c + 2 * u1 c + u0 c) 1 0 384 (acc3 P c) (f8 P c) ((Rect.unit (s := S8x2x64x768) (k0_off24 c) ![1, 2, 64, 384] inb).emb x)
      = shapeCast ⟨4, ![1, 2, 64, 384]⟩ (addf (fun x => (f8 P c) ((Rect.unit (s := S8x2x64x768) (k0_off24 c) ![1, 2, 64, 384] inb).emb x))
          (extf .f32 (fun x => sA2 P (nb 2 c) ((Rect.unit (s := S1x2x64x384) (![0, 0, 0, 0]) ![1, 2, 64, 384] inb').emb x)) bitsLt_bf16_f32)) h x := by
  refine upd_sum (A := acc2 P c) (B := cols (acc2 P (nb 2 c)) (acc2 P (nb 1 c))) (i := kp c + 2 * u1 c + u0 c) (off24_eq c) (at24' P c) (fun x => ?_) x
  obtain ⟨a0, a1, a2, a3⟩ := emb4 (o0 := kp c + 2 * u1 c + u0 c) (o1 := 0) (o2 := 0) (o3 := 0) (inb := inb) (off24_eq c) x
  obtain ⟨b0, b1, b2, b3⟩ := emb4 (o0 := 0) (o1 := 0) (o2 := 0) (o3 := 0) (inb := inb') (rfl) x
  have x0 : (x 0).val < 1 := (x 0).isLt
  have h1 := u1_lt c
  have h0 := u0_lt c
  exact rA2_at P c (by omega) (by omega) (by omega) (by omega)

theorem sum10 {inb inb' h} (x : (⟨4, ![1, 2, 64, 384]⟩ : Shape).Idx) :
    upd (kp c + 2 * u1 c + u0 c) 1 384 384 (acc3 P c) (f9 P c) ((Rect.unit (s := S8x2x64x768) (k0_off26 c) ![1, 2, 64, 384] inb).emb x)
      = shapeCast ⟨4, ![1, 2, 64, 384]⟩ (addf (fun x => (f9 P c) ((Rect.unit (s := S8x2x64x768) (k0_off26 c) ![1, 2, 64, 384] inb).emb x))
          (extf .f32 (fun x => sB2 P (nb 1 c) ((Rect.unit (s := S1x2x64x384) (![0, 0, 0, 0]) ![1, 2, 64, 384] inb').emb x)) bitsLt_bf16_f32)) h x := by
  refine upd_sum (A := acc2 P c) (B := cols (acc2 P (nb 2 c)) (acc2 P (nb 1 c))) (i := kp c + 2 * u1 c + u0 c) (off26_eq c) (at26' P c) (fun x => ?_) x
  obtain ⟨a0, a1, a2, a3⟩ := emb4 (o0 := kp c + 2 * u1 c + u0 c) (o1 := 0) (o2 := 0) (o3 := 384) (inb := inb) (off26_eq c) x
  obtain ⟨b0, b1, b2, b3⟩ := emb4 (o0 := 0) (o1 := 0) (o2 := 0) (o3 := 0) (inb := inb') (rfl) x
  have x0 : (x 0).val < 1 := (x 0).isLt
  have h1 := u1_lt c
  have h0 := u0_lt c
  exact rB2_at P c (by omega) (by omega) (by omega) (by omega)

/-- What is rounded into the buffers sent. -/

theorem sndA1 {inb inb'} {h : (⟨4, ![2, 2, 64, 384]⟩ : Shape).ShapeCasts ⟨4, ![2, 2, 64, 384]⟩} (x : (⟨4, ![2, 2, 64, 384]⟩ : Shape).Idx) :
    sA1 P c ((Rect.unit (s := S2x2x64x384) ![0, 0, 0, 0] ![2, 2, 64, 384] inb').emb x)
      = shapeCast ⟨4, ![2, 2, 64, 384]⟩ (truncf .bf16 (fun x => (f2 P c) ((Rect.unit (s := S8x2x64x768) (k0_off15 c) ![2, 2, 64, 384] inb).emb x)) bitsLt_bf16_f32) h x := by
  refine Eq.trans ?_ (congrFun (shapeCast_self _ _) x).symm
  show _ = rnd (f2 P c) _
  obtain ⟨a0, a1, a2, a3⟩ := emb4 (o0 := kp c + 2 * (1 - u1 c)) (o1 := 0) (o2 := 0) (o3 := 0) (inb := inb) (off15_eq c) x
  obtain ⟨b0, b1, b2, b3⟩ := emb4 (o0 := 0) (o1 := 0) (o2 := 0) (o3 := 0) (inb := inb') rfl x
  have x0 : (x 0).val < 2 := (x 0).isLt
  have e : rnd (f2 P c) ((Rect.unit (s := S8x2x64x768) (k0_off15 c) ![2, 2, 64, 384] inb).emb x) = rnd (acc1 P c) ((Rect.unit (s := S8x2x64x768) (k0_off15 c) ![2, 2, 64, 384] inb).emb x) :=
    rnd_congr (at15 P c x)
  rw [e]
  exact congrArg (rnd (acc1 P c)) (at8_ext (by omega) (by omega) (by omega) (by omega)).symm

theorem sndB1_0 {inb inb'} {h h'} (x : (⟨4, ![1, 2, 64, 384]⟩ : Shape).Idx) :
    sB1 P c ((Rect.unit (s := S2x2x64x384) ![0, 0, 0, 0] ![1, 2, 64, 384] inb').emb x)
      = shapeCast ⟨4, ![1, 2, 64, 384]⟩ (truncf .bf16 (shapeCast S2x64x384 (fun x => (f2 P c) ((Rect.unit (s := S8x2x64x768) (k0_off16 c 0#32) ![1, 2, 64, 384] inb).emb x)) h) bitsLt_bf16_f32) h' x := by
  refine Eq.trans ?_ (congrFun (trunc_between _ _ _) x).symm
  show _ = rnd (f2 P c) _
  obtain ⟨a0, a1, a2, a3⟩ := emb4 (o0 := kp c + 0 + (1 - u0 c)) (o1 := 0) (o2 := 0) (o3 := 384) (inb := inb) (off16_0_eq c) x
  obtain ⟨b0, b1, b2, b3⟩ := emb4 (o0 := 0) (o1 := 0) (o2 := 0) (o3 := 0) (inb := inb') rfl x
  have x0 : (x 0).val < 1 := (x 0).isLt
  have e : rnd (f2 P c) ((Rect.unit (s := S8x2x64x768) (k0_off16 c 0#32) ![1, 2, 64, 384] inb).emb x) = rnd (acc1 P c) ((Rect.unit (s := S8x2x64x768) (k0_off16 c 0#32) ![1, 2, 64, 384] inb).emb x) :=
    rnd_congr (at16_0 P c x)
  rw [e]
  exact congrArg (rnd (acc1 P c)) (at8_ext (by omega) (by omega) (by omega) (by omega)).symm

theorem sndB1_1 {inb inb'} {h h'} (x : (⟨4, ![1, 2, 64, 384]⟩ : Shape).Idx) :
    sB1 P c ((Rect.unit (s := S2x2x64x384) ![1, 0, 0, 0] ![1, 2, 64, 384] inb').emb x)
      = shapeCast ⟨4, ![1, 2, 64, 384]⟩ (truncf .bf16 (shapeCast S2x64x384 (fun x => (f2 P c) ((Rect.unit (s := S8x2x64x768) (k0_off16 c 2#32) ![1, 2, 64, 384] inb).emb x)) h) bitsLt_bf16_f32) h' x := by
  refine Eq.trans ?_ (congrFun (trunc_between _ _ _) x).symm
  show _ = rnd (f2 P c) _
  obtain ⟨a0, a1, a2, a3⟩ := emb4 (o0 := kp c + 2 + (1 - u0 c)) (o1 := 0) (o2 := 0) (o3 := 384) (inb := inb) (off16_2_eq c) x
  obtain ⟨b0, b1, b2, b3⟩ := emb4 (o0 := 1) (o1 := 0) (o2 := 0) (o3 := 0) (inb := inb') rfl x
  have x0 : (x 0).val < 1 := (x 0).isLt
  have e : rnd (f2 P c) ((Rect.unit (s := S8x2x64x768) (k0_off16 c 2#32) ![1, 2, 64, 384] inb).emb x) = rnd (acc1 P c) ((Rect.unit (s := S8x2x64x768) (k0_off16 c 2#32) ![1, 2, 64, 384] inb).emb x) :=
    rnd_congr (at16_2 P c x)
  rw [e]
  exact congrArg (rnd (acc1 P c)) (at8_ext (by omega) (by omega) (by omega) (by omega)).symm

theorem sndA2 {inb inb'} {h : (⟨4, ![1, 2, 64, 384]⟩ : Shape).ShapeCasts ⟨4, ![1, 2, 64, 384]⟩} (x : (⟨4, ![1, 2, 64, 384]⟩ : Shape).Idx) :
    sA2 P c ((Rect.unit (s := S1x2x64x384) ![0, 0, 0, 0] ![1, 2, 64, 384] inb').emb x)
      = shapeCast ⟨4, ![1, 2, 64, 384]⟩ (truncf .bf16 (fun x => (f6 P c) ((Rect.unit (s := S8x2x64x768) (k0_off19 c) ![1, 2, 64, 384] inb).emb x)) bitsLt_bf16_f32) h x := by
  refine Eq.trans ?_ (congrFun (shapeCast_self _ _) x).symm
  show _ = rnd (f6 P c) _
  obtain ⟨a0, a1, a2, a3⟩ := emb4 (o0 := kp c + 2 * u1 c + (1 - u0 c)) (o1 := 0) (o2 := 0) (o3 := 0) (inb := inb) (off19_eq c) x
  obtain ⟨b0, b1, b2, b3⟩ := emb4 (o0 := 0) (o1 := 0) (o2 := 0) (o3 := 0) (inb := inb') rfl x
  have x0 : (x 0).val < 1 := (x 0).isLt
  have e : rnd (f6 P c) ((Rect.unit (s := S8x2x64x768) (k0_off19 c) ![1, 2, 64, 384] inb).emb x) = rnd (acc2 P c) ((Rect.unit (s := S8x2x64x768) (k0_off19 c) ![1, 2, 64, 384] inb).emb x) :=
    rnd_congr (at19'' P c x)
  rw [e]
  exact congrArg (rnd (acc2 P c)) (at8_ext (by omega) (by omega) (by omega) (by omega)).symm

theorem sndB2 {inb inb'} {h : (⟨4, ![1, 2, 64, 384]⟩ : Shape).ShapeCasts ⟨4, ![1, 2, 64, 384]⟩} (x : (⟨4, ![1, 2, 64, 384]⟩ : Shape).Idx) :
    sB2 P c ((Rect.unit (s := S1x2x64x384) ![0, 0, 0, 0] ![1, 2, 64, 384] inb').emb x)
      = shapeCast ⟨4, ![1, 2, 64, 384]⟩ (truncf .bf16 (fun x => (f6 P c) ((Rect.unit (s := S8x2x64x768) (k0_off22 c) ![1, 2, 64, 384] inb).emb x)) bitsLt_bf16_f32) h x := by
  refine Eq.trans ?_ (congrFun (shapeCast_self _ _) x).symm
  show _ = rnd (f6 P c) _
  obtain ⟨a0, a1, a2, a3⟩ := emb4 (o0 := kp c + 2 * (1 - u1 c) + u0 c) (o1 := 0) (o2 := 0) (o3 := 384) (inb := inb) (off22_eq c) x
  obtain ⟨b0, b1, b2, b3⟩ := emb4 (o0 := 0) (o1 := 0) (o2 := 0) (o3 := 0) (inb := inb') rfl x
  have x0 : (x 0).val < 1 := (x 0).isLt
  have e : rnd (f6 P c) ((Rect.unit (s := S8x2x64x768) (k0_off22 c) ![1, 2, 64, 384] inb).emb x) = rnd (acc2 P c) ((Rect.unit (s := S8x2x64x768) (k0_off22 c) ![1, 2, 64, 384] inb).emb x) :=
    rnd_congr (at22' P c x)
  rw [e]
  exact congrArg (rnd (acc2 P c)) (at8_ext (by omega) (by omega) (by omega) (by omega)).symm

end Cert.KernelIdeal.Reduce
-- ==== Proof.PartsB.lean ====
/-
  The kernel's parts from the end of its own partial sum to the complete sum of its own chunk.
-/
module

public import proofs.«01_k».proof.Proof.Chain

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

/-- Adding a received rectangle to one of the accumulator. -/
theorem step_acc {i : Fin (sig.nNear .tc .vmem)} {h : _} (g : (⟨.vmem, i, h⟩ : Ref sig .tc).ty.Contents (Elt F)) (f f' : FVec F S8x2x64x768 .f32)
    {r : Rect S8x2x64x768} {r' : Rect (⟨.vmem, i, h⟩ : Ref sig .tc).ty.shape} {hl hl' hl''}
    (pay : (r.shape.Idx → Elt F .f32) → (r'.shape.Idx → Elt F (⟨.vmem, i, h⟩ : Ref sig .tc).ty.elt) → r.shape.Idx → Elt F .f32)
    {hx : (aAcc.access r).Stores Finset.univ} {hm : Finset.univ = Finset.univ ∨ ∀ a, r.stride a = 1}
    (hf : ∀ x, f' (r.emb x) = pay (fun x => f (r.emb x)) (fun x => g (r'.emb x)) x) (hr : ∀ j, j ∉ r.set → f' j = f j)
    {α : Type} {k : PUnit → Prog (TpuEff nD τ sig (Elt F) Λ₀ .tc) α} {Q : α → sProp 𝕄} :
    iprop(on cc0_scratch0 c Finset.univ f ∗ on (⟨.vmem, i, h⟩ : Ref sig .tc) c Finset.univ g)
      ⊢ iprop(((on cc0_scratch0 c Finset.univ f' ∗ on (⟨.vmem, i, h⟩ : Ref sig .tc) c Finset.univ g)
          -∗ wp frame (wpE (defs₀ (F := F)) 𝒱₀ c none) Set.univ (k ⟨⟩) Q)
        -∗ wp frame (wpE (defs₀ (F := F)) 𝒱₀ c none) Set.univ (.op (.load aAcc r.toLoadRect hl)
          fun v => .op (.load (Memref.whole (⟨.vmem, i, h⟩ : Ref sig .tc)) r'.toLoadRect hl')
          fun w => .op (.load aAcc r.toLoadRect hl'') fun _ => .op (.store aAcc r (pay v w) Finset.univ hx hm) k) Q) := by
  iintro ⟨Ha, Hg⟩ Hk
  iapply (step_load (i := 6) (h := rfl) c Finset.univ f (Finset.subset_univ _)) $$ Ha
  iintro Ha
  iapply (step_load c Finset.univ g (Finset.subset_univ _)) $$ Hg
  iintro Hg
  iapply (step_put (i := 6) (h := rfl) c Finset.univ f f' (Finset.subset_univ _) hf (fun j _ hj => hr j hj)) $$ Ha
  iintro Ha
  iapply Hk
  isplitl [Ha]; · iexact Ha
  iexact Hg

theorem inb1 (k : Fin 2) : ∀ a, (![k.val, 0, 0, 0] : Fin 4 → ℕ) a + S1x2x64x384.size a ≤ S2x2x64x384.size a := by revert k; decide
theorem chunk_set {k : ℕ} {inb} : (Rect.unit (s := S2x2x64x384) ![k, 0, 0, 0] S1x2x64x384.size inb).set = chunk k := by
  ext j
  have l1 : (j 1).val < 2 := (j 1).isLt
  have l2 : (j 2).val < 64 := (j 2).isLt
  have l3 : (j 3).val < 384 := (j 3).isLt
  rw [Rect.mem_set_unit, chunk, Finset.mem_filter]
  refine ⟨fun H => ⟨Finset.mem_univ _, ?_⟩, fun H a => ?_⟩
  · have h0 := H 0
    simp at h0
    omega
  · fin_cases a <;> simp <;> omega

/-- Chunk `k` of the buffers of the second exchange. -/
abbrev bufSB1 (k : Fin 2) : Memref sig .tc .vmem S2x64x384 .bf16 :=
  (aSB1.slice (Rect.unit (s := S2x2x64x384) ![k.val, 0, 0, 0] S1x2x64x384.size (inb1 k)) (fun _ => rfl)).squeeze S2x64x384 squeezes_S1x2x64x384_S2x64x384
abbrev bufRB1 (k : Fin 2) : Memref sig .tc .vmem S2x64x384 .bf16 :=
  (aRB1.slice (Rect.unit (s := S2x2x64x384) ![k.val, 0, 0, 0] S1x2x64x384.size (inb1 k)) (fun _ => rfl)).squeeze S2x64x384 squeezes_S1x2x64x384_S2x64x384

/-- The halves of a buffer exchanged in two transfers, and the whole of it. -/
theorem batches_disjoint : Disjoint (batch 0) (batch 1) :=
  Finset.disjoint_left.mpr fun j h0 h1 => by
    have := (Finset.mem_filter.mp h0).2; have := (Finset.mem_filter.mp h1).2; omega
theorem batches_univ : batch 0 ∪ batch 1 = Finset.univ :=
  Finset.eq_univ_iff_forall.mpr fun j => by
    have l1 : (j 1).val < 2 := (j 1).isLt
    rw [Finset.mem_union, batch, batch, Finset.mem_filter, Finset.mem_filter]
    simp; omega
theorem chunks_disjoint : Disjoint (chunk 0) (chunk 1) :=
  Finset.disjoint_left.mpr fun j h0 h1 => by
    have := (Finset.mem_filter.mp h0).2; have := (Finset.mem_filter.mp h1).2; omega
theorem chunks_univ : chunk 0 ∪ chunk 1 = Finset.univ :=
  Finset.eq_univ_iff_forall.mpr fun j => by
    have l0 : (j 0).val < 2 := (j 0).isLt
    rw [Finset.mem_union, chunk, chunk, Finset.mem_filter, Finset.mem_filter]
    simp; omega
theorem join_on {b : Ref sig .tc} {I J K : Finset b.ty.shape.Idx} (hd : Disjoint I J) (hK : I ∪ J = K) (f : b.ty.Contents (Elt F)) :
    iprop(on b c I f ∗ on b c J f) ⊢ (on b c K f : sProp 𝕄) := by
  subst hK
  exact (pointsTo_union hd).2

/-- What is read of the accumulator and of a received buffer at the ends of parts. -/
abbrev ld105 : FVec F S2x2x64x768 .f32 := fun x => P c ((Rect.unit (s := S8x2x64x768) (k0_off11 c) S2x2x64x768.size (k0_off11_inb c)).emb x)
abbrev ld105' : FVec F S2x2x64x768 .bf16 := fun x => sb0 P (nb 0 c) ((Rect.unit (s := S4x2x64x768) (k0_off12 c) S2x2x64x768.size (k0_off12_inb c)).emb x)
abbrev ld110 : FVec F S1x2x64x384 .f32 := fun x => f2 P c ((Rect.unit (s := S8x2x64x768) (k0_off16 c 2#32) S1x2x64x384.size (k0_off16_inb c 1)).emb x)
abbrev ld115 : FVec F S1x2x64x384 .f32 := fun x => f5 P c ((Rect.unit (s := S8x2x64x768) (k0_off22 c) S1x2x64x384.size (k0_off22_inb c)).emb x)
abbrev ld115' : FVec F S1x2x64x384 .bf16 := fun x => sB1 P (nb 2 c) ((Rect.unit (s := S2x2x64x384) (k0_off23 c) S1x2x64x384.size (k0_off23_inb c)).emb x)

theorem part26 {K : _ → sProp 𝕄} {v3 v22 v49} :
    iprop(ctx P κ c ∗ St 2 1 1 c ∗ landed P c 0 ∗ on cc0_scratch0 c Finset.univ (P c)
      ∗ (∀ w, (St 2 2 2 c ∗ back P c 1 ∗ on cc0_scratch3 c Finset.univ (sb0 P (nb 0 c)) ∗ on cc0_scratch0 c Finset.univ (P c)) -∗ K ⟨w, (k0_pay105 (ld105 P c) (ld105' P c))⟩))
    ⊢ run c (app (k0_part26 (F := F)) c v3 v22 v49) K := by
  rw [k0_part26_eq_skeleton]
  simp only [app, k0_part26_skel, Prog.bind_op, Prog.bind_ret, Prog.lift, Prog.pure_eq_ret]
  iintro ⟨#Hx, Hst, Hl, Ha, Hk⟩
  iapply (step_wait_snd P κ c 1 (n := 2) (r := 1) (by decide) rfl rfl) $$ [Hst]
  · isplitr; · iexact Hx
    iexact Hst
  iintro ⟨Hst, Hb⟩
  iapply (step_wait_rcv P κ c 1 (n := 2) (s := 2) (by decide) rfl rfl) $$ [Hst]
  · isplitr; · iexact Hx
    iexact Hst
  iintro ⟨Hst, Hl'⟩
  ihave Hr := (show iprop(landed P c 0 ∗ landed P c 1) ⊢ on cc0_scratch3 c Finset.univ (sb0 P (nb 0 c)) from join_on (b := cc0_scratch3) c batches_disjoint batches_univ (sb0 P (nb 0 c))) $$ [Hl Hl']
  · isplitl [Hl]; · iexact Hl
    iexact Hl'
  iapply (step_read (i := 6) (h := rfl) c Finset.univ (P c) (Finset.subset_univ _) (w := ld105 P c) rfl) $$ Ha
  iintro Ha
  iapply (step_read (i := 9) (h := rfl) c Finset.univ (sb0 P (nb 0 c)) (Finset.subset_univ _) (w := ld105' P c) rfl) $$ Hr
  iintro Hr
  iapply (step_load (i := 6) (h := rfl) c Finset.univ (P c) (Finset.subset_univ _)) $$ Ha
  iintro Ha
  rw [wp_ret]
  imodintro
  ihave Hk := Hk $$ %_
  iapply Hk
  isplitl [Hst]; · iexact Hst
  isplitl [Hb]; · iexact Hb
  isplitl [Hr]; · iexact Hr
  iexact Ha

theorem part27 {K : PUnit → sProp 𝕄} {v4 v22 v49 v60 v1059} :
    iprop(on cc0_scratch0 c Finset.univ (P c) ∗ on cc0_scratch3 c Finset.univ (sb0 P (nb 0 c)) ∗ any (F := F) cc0_scratch4 c Finset.univ
      ∗ ((on cc0_scratch0 c Finset.univ (f2 P c) ∗ on cc0_scratch3 c Finset.univ (sb0 P (nb 0 c)) ∗ on cc0_scratch4 c Finset.univ (sA1 P c)) -∗ K ⟨⟩))
    ⊢ run c (app (k0_part27 (F := F)) c v4 v22 v49 v60 v1059
        (k0_pay105 (ld105 P c) (ld105' P c))) K := by
  rw [k0_part27_eq_skeleton]
  simp only [app, k0_part27_skel, Prog.bind_op, Prog.bind_ret, Prog.lift, Prog.pure_eq_ret]
  iintro ⟨Ha, Hr, ⟨%g, Hs⟩, Hk⟩
  iapply (step_store (i := 6) (h := rfl) c Finset.univ (P c) (f1 P c) (Finset.subset_univ _) (sum1 P c) (fun j _ hj => upd_rest (off11_eq c) j hj)) $$ Ha
  iintro Ha
  iapply (step_acc (i := 9) (h := rfl) c (sb0 P (nb 0 c)) (f1 P c) (f2 P c) (r := Rect.unit (s := S8x2x64x768) (k0_off13 c) S1x2x64x384.size (k0_off13_inb c))
      (r' := Rect.unit (s := S4x2x64x768) (k0_off14 c) S1x2x64x384.size (k0_off14_inb c)) (k0_pay107 (F := F)) (sum2 P c) (upd_rest (off13_eq c))) $$ [Ha Hr]
  · isplitl [Ha]; · iexact Ha
    iexact Hr
  iintro ⟨Ha, Hr⟩
  iapply (step_load (i := 6) (h := rfl) c Finset.univ (f2 P c) (Finset.subset_univ _)) $$ Ha
  iintro Ha
  iapply (step_fill (i := 10) (h := rfl) (I := Finset.univ) c g (sA1 P c) (full_set (s := S2x2x64x384) zeros4) (sndA1 P c)) $$ Hs
  iintro Hs
  rw [wp_ret]
  imodintro
  iapply Hk
  isplitl [Ha]; · iexact Ha
  isplitl [Hr]; · iexact Hr
  iexact Hs

theorem part28 {K : _ → sProp 𝕄} {v5 v60 v1059} :
    iprop(ctx P κ c ∗ St 2 2 2 c ∗ on cc0_scratch0 c Finset.univ (f2 P c) ∗ on cc0_scratch4 c Finset.univ (sA1 P c) ∗ any (F := F) cc0_scratch6 c (chunk 0)
      ∗ ((St 4 2 2 c ∗ on cc0_scratch0 c Finset.univ (f2 P c)) -∗ K (k0_pay110 (ld110 P c))))
    ⊢ run c (app (k0_part28 (F := F)) c v5 v60 v1059) K := by
  rw [k0_part28_eq_skeleton]
  simp only [app, k0_part28_skel, Prog.bind_op, Prog.bind_ret, Prog.lift, Prog.pure_eq_ret]
  iintro ⟨#Hx, Hst, Ha, Hs, ⟨%g, Hb⟩, Hk⟩
  iapply (step_move P κ c 2 (s := 2) (r := 2) (by decide) (dev6_eq c) (src := aSA1) (dst := aRA1) rfl rfl
    (View.set_whole _) (View.set_whole _) (sA1 P c) (sA1 P (nb 1 (nb 1 c))) rfl rfl
    (toAny _ _ _ _) rfl (fun y => by rw [nb_nb]; rfl)) $$ [Hst Hs]
  · isplitr; · iexact Hx
    isplitl [Hst]; · iexact Hst
    iexact Hs
  iintro Hst
  iapply (step_load (i := 6) (h := rfl) c Finset.univ (f2 P c) (Finset.subset_univ _)) $$ Ha
  iintro Ha
  iapply (step_fill (i := 12) (h := rfl) (I := chunk 0) c g (sB1 P c) (chunk_set (k := 0)) (sndB1_0 P c)) $$ Hb
  iintro Hb
  iapply (step_move P κ c 3 (s := 2) (r := 2) (by decide) (dev7_eq c) (src := bufSB1 0) (dst := bufRB1 0) rfl rfl
    ((squeeze_set _ _ _).trans chunk_set) ((squeeze_set _ _ _).trans chunk_set) (sB1 P c) (sB1 P (nb 2 (nb 2 c))) rfl rfl
    (toAny _ _ _ _) rfl (fun y => by rw [nb_nb]; rfl)) $$ [Hst Hb]
  · isplitr; · iexact Hx
    isplitl [Hst]; · iexact Hst
    iexact Hb
  iintro Hst
  iapply (step_read (i := 6) (h := rfl) c Finset.univ (f2 P c) (Finset.subset_univ _) (w := ld110 P c) rfl) $$ Ha
  iintro Ha
  rw [wp_ret]
  imodintro
  iapply Hk
  isplitl [Hst]; · iexact Hst
  iexact Ha

theorem part29 {K : _ → sProp 𝕄} {v5 v22 v49 v60 v1059} :
    iprop(ctx P κ c ∗ St 4 2 2 c ∗ on cc0_scratch0 c Finset.univ (f2 P c) ∗ on cc0_scratch3 c Finset.univ (sb0 P (nb 0 c)) ∗ any (F := F) cc0_scratch6 c (chunk 1)
      ∗ (∀ w, (St 5 2 2 c ∗ on cc0_scratch0 c Finset.univ (f3 P c) ∗ on cc0_scratch3 c Finset.univ (sb0 P (nb 0 c))) -∗ K w))
    ⊢ run c (app (k0_part29 (F := F)) c v5 v22 v49 v60 v1059
        (k0_pay110 (ld110 P c))) K := by
  rw [k0_part29_eq_skeleton]
  simp only [app, k0_part29_skel, Prog.bind_op, Prog.bind_ret, Prog.lift, Prog.pure_eq_ret]
  iintro ⟨#Hx, Hst, Ha, Hr, ⟨%g, Hb⟩, Hk⟩
  iapply (step_fill (i := 12) (h := rfl) (I := chunk 1) c g (sB1 P c) (chunk_set (k := 1)) (sndB1_1 P c)) $$ Hb
  iintro Hb
  iapply (step_move P κ c 4 (s := 2) (r := 2) (by decide) (dev8_eq c) (src := bufSB1 1) (dst := bufRB1 1) rfl rfl
    ((squeeze_set _ _ _).trans chunk_set) ((squeeze_set _ _ _).trans chunk_set) (sB1 P c) (sB1 P (nb 2 (nb 2 c))) rfl rfl
    (toAny _ _ _ _) rfl (fun y => by rw [nb_nb]; rfl)) $$ [Hst Hb]
  · isplitr; · iexact Hx
    isplitl [Hst]; · iexact Hst
    iexact Hb
  iintro Hst
  iapply (step_acc (i := 9) (h := rfl) c (sb0 P (nb 0 c)) (f2 P c) (f3 P c) (r := Rect.unit (s := S8x2x64x768) (k0_off17 c) S1x2x64x768.size (k0_off17_inb c))
      (r' := Rect.unit (s := S4x2x64x768) (k0_off18 c) S1x2x64x768.size (k0_off18_inb c)) (k0_pay112 (F := F)) (sum3 P c) (upd_rest (off17_eq c))) $$ [Ha Hr]
  · isplitl [Ha]; · iexact Ha
    iexact Hr
  iintro ⟨Ha, Hr⟩
  rw [wp_ret]
  imodintro
  ihave Hk := Hk $$ %_
  iapply Hk
  isplitl [Hst]; · iexact Hst
  isplitl [Ha]; · iexact Ha
  iexact Hr

theorem part30 {K : PUnit → sProp 𝕄} {v4 v22 v1164} :
    iprop(ctx P κ c ∗ St 5 2 2 c ∗ on cc0_scratch0 c Finset.univ (f3 P c) ∗ on cc0_scratch3 c Finset.univ (sb0 P (nb 0 c))
      ∗ ((St 5 4 3 c ∗ on cc0_scratch0 c Finset.univ (f4 P c) ∗ on cc0_scratch3 c Finset.univ (sb0 P (nb 0 c)) ∗ back P c 2 ∗ on cc0_scratch5 c Finset.univ (sA1 P (nb 1 c)) ∗ back P c 3) -∗ K ⟨⟩))
    ⊢ run c (app (k0_part30 (F := F)) c v4 v22 v1164) K := by
  rw [k0_part30_eq_skeleton]
  simp only [app, k0_part30_skel, Prog.bind_op, Prog.bind_ret, Prog.lift, Prog.pure_eq_ret]
  iintro ⟨#Hx, Hst, Ha, Hr, Hk⟩
  iapply (step_acc (i := 9) (h := rfl) c (sb0 P (nb 0 c)) (f3 P c) (f4 P c) (r := Rect.unit (s := S8x2x64x768) (k0_off19 c) S1x2x64x384.size (k0_off19_inb c))
      (r' := Rect.unit (s := S4x2x64x768) (k0_off20 c) S1x2x64x384.size (k0_off20_inb c)) (k0_pay113 (F := F)) (sum4 P c) (upd_rest (off19_eq c))) $$ [Ha Hr]
  · isplitl [Ha]; · iexact Ha
    iexact Hr
  iintro ⟨Ha, Hr⟩
  iapply (step_wait_snd P κ c 2 (n := 5) (r := 2) (by decide) rfl rfl) $$ [Hst]
  · isplitr; · iexact Hx
    iexact Hst
  iintro ⟨Hst, Hb2⟩
  iapply (step_wait_rcv P κ c 2 (n := 5) (s := 3) (by decide) rfl rfl) $$ [Hst]
  · isplitr; · iexact Hx
    iexact Hst
  iintro ⟨Hst, Hl2⟩
  ihave Hl2 := (show landed P c 2 ⊢ on cc0_scratch5 c Finset.univ (sA1 P (nb 1 c)) from .rfl) $$ Hl2
  iapply (step_wait_snd P κ c 3 (n := 5) (r := 3) (by decide) rfl rfl) $$ [Hst]
  · isplitr; · iexact Hx
    iexact Hst
  iintro ⟨Hst, Hb3⟩
  rw [wp_ret]
  imodintro
  iapply Hk
  isplitl [Hst]; · iexact Hst
  isplitl [Ha]; · iexact Ha
  isplitl [Hr]; · iexact Hr
  isplitl [Hb2]; · iexact Hb2
  isplitl [Hl2]; · iexact Hl2
  iexact Hb3

theorem part31 {K : _ → sProp 𝕄} {v5 v49 v1059} :
    iprop(ctx P κ c ∗ St 5 4 3 c
      ∗ (∀ w, (St 5 5 5 c ∗ on cc0_scratch7 c Finset.univ (sB1 P (nb 2 c)) ∗ back P c 4) -∗ K ⟨w, 1#32⟩))
    ⊢ run c (app (k0_part31 (F := F)) v5 v49 v1059) K := by
  rw [k0_part31_eq_skeleton]
  simp only [app, k0_part31_skel, Prog.bind_op, Prog.bind_ret, Prog.lift, Prog.pure_eq_ret]
  iintro ⟨#Hx, Hst, Hk⟩
  iapply (step_wait_rcv P κ c 3 (n := 5) (s := 4) (by decide) rfl rfl) $$ [Hst]
  · isplitr; · iexact Hx
    iexact Hst
  iintro ⟨Hst, Hl3⟩
  iapply (step_wait_snd P κ c 4 (n := 5) (r := 4) (by decide) rfl rfl) $$ [Hst]
  · isplitr; · iexact Hx
    iexact Hst
  iintro ⟨Hst, Hb4⟩
  iapply (step_wait_rcv P κ c 4 (n := 5) (s := 5) (by decide) rfl rfl) $$ [Hst]
  · isplitr; · iexact Hx
    iexact Hst
  iintro ⟨Hst, Hl4⟩
  ihave Hr := (show iprop(landed P c 3 ∗ landed P c 4) ⊢ on cc0_scratch7 c Finset.univ (sB1 P (nb 2 c)) from join_on (b := cc0_scratch7) c chunks_disjoint chunks_univ (sB1 P (nb 2 c))) $$ [Hl3 Hl4]
  · isplitl [Hl3]; · iexact Hl3
    iexact Hl4
  rw [wp_ret]
  imodintro
  ihave Hk := Hk $$ %_
  iapply Hk
  isplitl [Hst]; · iexact Hst
  isplitl [Hr]; · iexact Hr
  iexact Hb4

theorem part32 {K : _ → sProp 𝕄} {v49 v60 v1059 v1212 c1} :
    iprop(on cc0_scratch0 c Finset.univ (f4 P c) ∗ on cc0_scratch5 c Finset.univ (sA1 P (nb 1 c)) ∗ on cc0_scratch7 c Finset.univ (sB1 P (nb 2 c))
      ∗ ((on cc0_scratch0 c Finset.univ (f5 P c) ∗ on cc0_scratch5 c Finset.univ (sA1 P (nb 1 c)) ∗ on cc0_scratch7 c Finset.univ (sB1 P (nb 2 c))) -∗ K (k0_pay115 (ld115 P c) (ld115' P c))))
    ⊢ run c (app (k0_part32 (F := F)) c v49 v60 v1059 v1212 c1) K := by
  rw [k0_part32_eq_skeleton]
  simp only [app, k0_part32_skel, Prog.bind_op, Prog.bind_ret, Prog.lift, Prog.pure_eq_ret]
  iintro ⟨Ha, Hr, Hq, Hk⟩
  iapply (step_acc (i := 11) (h := rfl) c (sA1 P (nb 1 c)) (f4 P c) (f5 P c) (r := Rect.unit (s := S8x2x64x768) (k0_off19 c) S1x2x64x384.size (k0_off19_inb c))
      (r' := Rect.unit (s := S2x2x64x384) (k0_off21 c) S1x2x64x384.size (k0_off21_inb c)) (k0_pay114 (F := F)) (sum5 P c) (upd_rest (off19_eq c))) $$ [Ha Hr]
  · isplitl [Ha]; · iexact Ha
    iexact Hr
  iintro ⟨Ha, Hr⟩
  iapply (step_read (i := 6) (h := rfl) c Finset.univ (f5 P c) (Finset.subset_univ _) (w := ld115 P c) rfl) $$ Ha
  iintro Ha
  iapply (step_read (i := 13) (h := rfl) c Finset.univ (sB1 P (nb 2 c)) (Finset.subset_univ _) (w := ld115' P c) rfl) $$ Hq
  iintro Hq
  rw [wp_ret]
  imodintro
  iapply Hk
  isplitl [Ha]; · iexact Ha
  isplitl [Hr]; · iexact Hr
  iexact Hq

theorem part33 {K : _ → sProp 𝕄} {v4 v5 v49 v60 v1059} :
    iprop(ctx P κ c ∗ St 5 5 5 c ∗ on cc0_scratch0 c Finset.univ (f5 P c) ∗ any (F := F) cc0_scratch8 c Finset.univ ∗ any (F := F) cc0_scratch10 c Finset.univ
      ∗ (∀ w, (St 6 5 5 c ∗ on cc0_scratch0 c Finset.univ (f6 P c) ∗ on cc0_scratch10 c Finset.univ (sB2 P c)) -∗ K ⟨w, 0#32⟩))
    ⊢ run c (app (k0_part33 (F := F)) c v4 v5 v49 v60 v1059
        (k0_pay115 (ld115 P c) (ld115' P c))) K := by
  rw [k0_part33_eq_skeleton]
  simp only [app, k0_part33_skel, Prog.bind_op, Prog.bind_ret, Prog.lift, Prog.pure_eq_ret]
  iintro ⟨#Hx, Hst, Ha, ⟨%g, Hs⟩, ⟨%g', Hs'⟩, Hk⟩
  iapply (step_put (i := 6) (h := rfl) c Finset.univ (f5 P c) (f6 P c) (Finset.subset_univ _) (sum6 P c) (fun j _ hj => upd_rest (off22_eq c) j hj)) $$ Ha
  iintro Ha
  iapply (step_load (i := 6) (h := rfl) c Finset.univ (f6 P c) (Finset.subset_univ _)) $$ Ha
  iintro Ha
  iapply (step_fill (i := 14) (h := rfl) (I := Finset.univ) c g (sA2 P c) (full_set (s := S1x2x64x384) zeros4) (sndA2 P c)) $$ Hs
  iintro Hs
  iapply (step_move P κ c 5 (s := 5) (r := 5) (by decide) (dev9_eq c) (src := aSA2) (dst := aRA2) rfl rfl
    (View.set_whole _) (View.set_whole _) (sA2 P c) (sA2 P (nb 2 (nb 2 c))) rfl rfl
    (toAny _ _ _ _) rfl (fun y => by rw [nb_nb]; rfl)) $$ [Hst Hs]
  · isplitr; · iexact Hx
    isplitl [Hst]; · iexact Hst
    iexact Hs
  iintro Hst
  iapply (step_load (i := 6) (h := rfl) c Finset.univ (f6 P c) (Finset.subset_univ _)) $$ Ha
  iintro Ha
  iapply (step_fill (i := 16) (h := rfl) (I := Finset.univ) c g' (sB2 P c) (full_set (s := S1x2x64x384) zeros4) (sndB2 P c)) $$ Hs'
  iintro Hs'
  rw [wp_ret]
  imodintro
  ihave Hk := Hk $$ %_
  iapply Hk
  isplitl [Hst]; · iexact Hst
  isplitl [Ha]; · iexact Ha
  iexact Hs'

theorem part34 {K : PUnit → sProp 𝕄} {v5 v49 v60 v64 v1275 c0} :
    iprop(ctx P κ c ∗ St 6 5 5 c ∗ on cc0_scratch0 c Finset.univ (f6 P c) ∗ on cc0_scratch5 c Finset.univ (sA1 P (nb 1 c)) ∗ on cc0_scratch7 c Finset.univ (sB1 P (nb 2 c)) ∗ on cc0_scratch10 c Finset.univ (sB2 P c)
      ∗ ((St 7 6 5 c ∗ on cc0_scratch0 c Finset.univ (f8 P c) ∗ on cc0_scratch5 c Finset.univ (sA1 P (nb 1 c)) ∗ on cc0_scratch7 c Finset.univ (sB1 P (nb 2 c)) ∗ back P c 5) -∗ K ⟨⟩))
    ⊢ run c (app (k0_part34 (F := F)) c v5 v49 v60 v64 v1275 c0) K := by
  rw [k0_part34_eq_skeleton]
  simp only [app, k0_part34_skel, Prog.bind_op, Prog.bind_ret, Prog.lift, Prog.pure_eq_ret]
  iintro ⟨#Hx, Hst, Ha, Hr, Hq, Hs, Hk⟩
  iapply (step_move P κ c 6 (s := 5) (r := 5) (by decide) (dev10_eq c) (src := aSB2) (dst := aRB2) rfl rfl
    (View.set_whole _) (View.set_whole _) (sB2 P c) (sB2 P (nb 1 (nb 1 c))) rfl rfl
    (toAny _ _ _ _) rfl (fun y => by rw [nb_nb]; rfl)) $$ [Hst Hs]
  · isplitr; · iexact Hx
    isplitl [Hst]; · iexact Hst
    iexact Hs
  iintro Hst
  iapply (step_acc (i := 11) (h := rfl) c (sA1 P (nb 1 c)) (f6 P c) (f7 P c) (r := Rect.unit (s := S8x2x64x768) (k0_off24 c) S1x2x64x384.size (k0_off24_inb c))
      (r' := Rect.unit (s := S2x2x64x384) (k0_off25 c) S1x2x64x384.size (k0_off25_inb c)) (k0_pay119 (F := F)) (sum7 P c) (upd_rest (off24_eq c))) $$ [Ha Hr]
  · isplitl [Ha]; · iexact Ha
    iexact Hr
  iintro ⟨Ha, Hr⟩
  iapply (step_acc (i := 13) (h := rfl) c (sB1 P (nb 2 c)) (f7 P c) (f8 P c) (r := Rect.unit (s := S8x2x64x768) (k0_off26 c) S1x2x64x384.size (k0_off26_inb c))
      (r' := Rect.unit (s := S2x2x64x384) (k0_off27 c) S1x2x64x384.size (k0_off27_inb c)) (k0_pay120 (F := F)) (sum8 P c) (upd_rest (off26_eq c))) $$ [Ha Hq]
  · isplitl [Ha]; · iexact Ha
    iexact Hq
  iintro ⟨Ha, Hq⟩
  iapply (step_wait_snd P κ c 5 (n := 7) (r := 5) (by decide) rfl rfl) $$ [Hst]
  · isplitr; · iexact Hx
    iexact Hst
  iintro ⟨Hst, Hb⟩
  rw [wp_ret]
  imodintro
  iapply Hk
  isplitl [Hst]; · iexact Hst
  isplitl [Ha]; · iexact Ha
  isplitl [Hr]; · iexact Hr
  isplitl [Hq]; · iexact Hq
  iexact Hb

theorem part35 {K : _ → sProp 𝕄} {v4 v22 v60 v64} :
    iprop(ctx P κ c ∗ St 7 6 5 c ∗ on cc0_scratch0 c Finset.univ (f8 P c)
      ∗ (∀ w w', (St 7 7 7 c ∗ on cc0_scratch0 c Finset.univ (f10 P c) ∗ on cc0_scratch9 c Finset.univ (sA2 P (nb 2 c)) ∗ on cc0_scratch11 c Finset.univ (sB2 P (nb 1 c)) ∗ back P c 6) -∗ K ⟨w, w'⟩))
    ⊢ run c (app (k0_part35 (F := F)) c v4 v22 v60 v64) K := by
  rw [k0_part35_eq_skeleton]
  simp only [app, k0_part35_skel, Prog.bind_op, Prog.bind_ret, Prog.lift, Prog.pure_eq_ret]
  iintro ⟨#Hx, Hst, Ha, Hk⟩
  iapply (step_wait_rcv P κ c 5 (n := 7) (s := 6) (by decide) rfl rfl) $$ [Hst]
  · isplitr; · iexact Hx
    iexact Hst
  iintro ⟨Hst, Hl5⟩
  iapply (step_wait_snd P κ c 6 (n := 7) (r := 6) (by decide) rfl rfl) $$ [Hst]
  · isplitr; · iexact Hx
    iexact Hst
  iintro ⟨Hst, Hb6⟩
  iapply (step_wait_rcv P κ c 6 (n := 7) (s := 7) (by decide) rfl rfl) $$ [Hst]
  · isplitr; · iexact Hx
    iexact Hst
  iintro ⟨Hst, Hl6⟩
  ihave Hl5 := (show landed P c 5 ⊢ on cc0_scratch9 c Finset.univ (sA2 P (nb 2 c)) from .rfl) $$ Hl5
  ihave Hl6 := (show landed P c 6 ⊢ on cc0_scratch11 c Finset.univ (sB2 P (nb 1 c)) from .rfl) $$ Hl6
  iapply (step_acc (i := 15) (h := rfl) c (sA2 P (nb 2 c)) (f8 P c) (f9 P c) (r := Rect.unit (s := S8x2x64x768) (k0_off24 c) S1x2x64x384.size (k0_off24_inb c))
      (r' := Rect.unit (s := S1x2x64x384) ![0, 0, 0, 0] S1x2x64x384.size inb_S1x2x64x384_S1x2x64x384_0_0_0_0) (k0_pay121 (F := F)) (sum9 P c) (upd_rest (off24_eq c))) $$ [Ha Hl5]
  · isplitl [Ha]; · iexact Ha
    iexact Hl5
  iintro ⟨Ha, Hl5⟩
  iapply (step_acc (i := 17) (h := rfl) c (sB2 P (nb 1 c)) (f9 P c) (f10 P c) (r := Rect.unit (s := S8x2x64x768) (k0_off26 c) S1x2x64x384.size (k0_off26_inb c))
      (r' := Rect.unit (s := S1x2x64x384) ![0, 0, 0, 0] S1x2x64x384.size inb_S1x2x64x384_S1x2x64x384_0_0_0_0) (k0_pay122 (F := F)) (sum10 P c) (upd_rest (off26_eq c))) $$ [Ha Hl6]
  · isplitl [Ha]; · iexact Ha
    iexact Hl6
  iintro ⟨Ha, Hl6⟩
  rw [wp_ret]
  imodintro
  ihave Hk := Hk $$ %_ %_
  iapply Hk
  isplitl [Hst]; · iexact Hst
  isplitl [Ha]; · iexact Ha
  isplitl [Hl5]; · iexact Hl5
  isplitl [Hl6]; · iexact Hl6
  iexact Hb6

end Cert.KernelIdeal.Reduce
-- ==== Proof.PartsC.lean ====
/-
  The kernel's parts that gather the complete sums: three rounds, each of three parts.
-/
module

public import proofs.«01_k».proof.Proof.PartsB

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

theorem gath_set {n : ℕ} {r t : Fin 3} (hn : n = 2 ^ r.val) {off : Fin 5 → ℕ} {inb} (e : off = ![t.val, lo r t c, 0, 0, 0]) :
    (Rect.unit (s := S3x8x2x64x256) off ![1, n, 2, 64, 256] inb).set = slotsOn (slots r t c) := by
  subst e
  ext j
  have l2 : (j 2).val < 2 := (j 2).isLt
  have l3 : (j 3).val < 64 := (j 3).isLt
  have l4 : (j 4).val < 256 := (j 4).isLt
  rw [Rect.mem_set_unit, slotsOn, Finset.mem_filter, slots, Finset.mem_filter]
  refine ⟨fun H => ⟨Finset.mem_univ _, Finset.mem_univ _, Fin.ext ?_, ?_, ?_⟩, fun ⟨_, _, h0, h1, h1'⟩ a => ?_⟩
  · have h0 := H 0
    show (j 0).val = t.val
    simp at h0
    omega
  · exact (H 1).1
  · have h1 := (H 1).2
    show (j 1).val < lo r t c + 2 ^ r.val
    rw [← hn]; exact h1
  · have h0' : (j 0).val = t.val := congrArg Fin.val h0
    replace h1 : lo r t c ≤ (j 1).val := h1
    replace h1' : (j 1).val < lo r t c + 2 ^ r.val := h1'
    rw [← hn] at h1'
    fin_cases a
    · show t.val ≤ (j 0).val ∧ (j 0).val < t.val + 1; omega
    · exact ⟨h1, h1'⟩
    · show 0 ≤ (j 2).val ∧ (j 2).val < 0 + 2; omega
    · show 0 ≤ (j 3).val ∧ (j 3).val < 0 + 64; omega
    · show 0 ≤ (j 4).val ∧ (j 4).val < 0 + 256; omega

theorem emb5 {n0 n1 n2 n3 n4 o0 o1 o2 o3 o4 : ℕ} {off size : Fin 5 → ℕ} {inb} (e : off = ![o0, o1, o2, o3, o4])
    (x : (Rect.unit (s := ⟨5, ![n0, n1, n2, n3, n4]⟩) off size inb).shape.Idx) :
    ((Rect.unit (s := ⟨5, ![n0, n1, n2, n3, n4]⟩) off size inb).emb x 0).val = o0 + (x 0).val
    ∧ ((Rect.unit (s := ⟨5, ![n0, n1, n2, n3, n4]⟩) off size inb).emb x 1).val = o1 + (x 1).val
    ∧ ((Rect.unit (s := ⟨5, ![n0, n1, n2, n3, n4]⟩) off size inb).emb x 2).val = o2 + (x 2).val
    ∧ ((Rect.unit (s := ⟨5, ![n0, n1, n2, n3, n4]⟩) off size inb).emb x 3).val = o3 + (x 3).val
    ∧ ((Rect.unit (s := ⟨5, ![n0, n1, n2, n3, n4]⟩) off size inb).emb x 4).val = o4 + (x 4).val := by
  subst e
  exact ⟨ValueKit.rect_emb_unit_val _ _ _ _ _, ValueKit.rect_emb_unit_val _ _ _ _ _, ValueKit.rect_emb_unit_val _ _ _ _ _,
    ValueKit.rect_emb_unit_val _ _ _ _ _, ValueKit.rect_emb_unit_val _ _ _ _ _⟩

theorem gath_at {j : S3x8x2x64x256.Idx} {d : Dev nD} {t : Fin 3} {b : Fin 2} {q : Fin 64} {m : ℕ} (h0 : (j 0).val = t.val) (h1 : (j 1).val = sg t d)
    (h2 : (j 2).val = b.val) (h3 : (j 3).val = q.val) (h4 : (j 4).val = m) : gath P j = rnd (acc3 P d) (at8 (uu d) b q (256 * t.val + m)) := by
  have e0 : j 0 = t := Fin.ext h0
  have e1 : j 1 = ⟨sg t d, sg_lt t d⟩ := Fin.ext h1
  have e2 : j 2 = b := Fin.ext h2
  have e3 : j 3 = q := Fin.ext h3
  show rnd (acc3 P (owner (j 0) (j 1))) (at8 (uu (owner (j 0) (j 1))) (j 2) (j 3) (256 * (j 0).val + (j 4).val)) = _
  rw [e0, e1, e2, e3, h4]
  exact congrArg (fun d' => rnd (acc3 P d') (at8 (uu d') b q (256 * t.val + m))) (owner_sg t d (sg_lt t d))

theorem uu_parts : kp c + 2 * u1 c + u0 c = uu c := by revert c; decide
theorem lo_zero (t : Fin 3) : lo 0 t c = sg t c := by revert t c; decide

/-- A third of the columns of the complete sum goes into the device's own slot of that part. -/
theorem gath_put (t : Fin 3) {o : ℕ} (ho : o = 256 * t.val) {off : Fin 5 → ℕ} {inb inb' sl h} (e : off = ![t.val, sg t c, 0, 0, 0])
    (x : (⟨5, ![1, 1, 2, 64, 256]⟩ : Shape).Idx) :
    gath P ((Rect.unit (s := S3x8x2x64x256) off ![1, 1, 2, 64, 256] inb').emb x)
      = shapeCast ⟨5, ![1, 1, 2, 64, 256]⟩ (extractStridedSlice ⟨4, ![1, 2, 64, 256]⟩ ![0, 0, 0, o]
          (truncf .bf16 (fun x => f10 P c ((Rect.unit (s := S8x2x64x768) (k0_off17 c) ![1, 2, 64, 768] inb).emb x)) bitsLt_bf16_f32) sl) h x := by
  subst ho
  refine Eq.trans ?_ (shapeCast_addUnit_apply ![1, 2, 64, 256] _ h x).symm
  have x0 : (x 0).val < 1 := (x 0).isLt
  have x1 : (x 1).val < 1 := (x 1).isLt
  have x4 : (x 4).val < 256 := (x 4).isLt
  have ht := t.isLt
  refine Eq.trans ?_ (extractStridedSlice_apply _ _ sl (fun a : Fin 4 => x a.succ)
    (ix4 (x 1) (x 2) (x 3) ⟨256 * t.val + (x 4).val, by omega⟩) (fun a => ?_)).symm
  · obtain ⟨a0, a1, a2, a3, a4⟩ := emb5 (inb := inb') e x
    rw [gath_at P (d := c) (t := t) (b := x 2) (q := x 3) (m := (x 4).val) (by omega) (by omega) (by omega) (by omega) (by omega)]
    obtain ⟨b0, b1, b2, b3⟩ := emb4 (o0 := kp c + 2 * u1 c + u0 c) (o1 := 0) (o2 := 0) (o3 := 0) (inb := inb) (off17_eq c)
      (ix4 (x 1) (x 2) (x 3) ⟨256 * t.val + (x 4).val, by omega⟩)
    have hu := uu_parts c
    refine Eq.trans (congrArg (rnd (acc3 P c)) ?_) (rnd_congr (at17' P c _)).symm
    refine (at8_ext ?_ ?_ ?_ ?_).symm
    · refine b0.trans ?_; show _ + (x 1).val = _; omega
    · refine b1.trans ?_; show _ + (x 2).val = _; omega
    · refine b2.trans ?_; show _ + (x 3).val = _; omega
    · refine b3.trans ?_; show 0 + (256 * t.val + (x 4).val) = _; omega
  · fin_cases a
    · show (x 1).val = 0 + (x 1).val; omega
    · show (x 2).val = 0 + (x 2).val; omega
    · show (x 3).val = 0 + (x 3).val; omega
    · rfl

/-- The slots sent by one transfer of a round. -/
abbrev agRect0 (off : Fin 5 → ℕ) (inb : ∀ a, off a + S1x1x2x64x256.size a ≤ S3x8x2x64x256.size a) : Memref sig .tc .vmem S1x2x64x256 .bf16 :=
  (aAg.slice (Rect.unit (s := S3x8x2x64x256) off S1x1x2x64x256.size inb) (fun _ => rfl)).squeeze S1x2x64x256 squeezes_S1x1x2x64x256_S1x2x64x256
abbrev agRect1 (off : Fin 5 → ℕ) (inb : ∀ a, off a + S1x2x2x64x256.size a ≤ S3x8x2x64x256.size a) : Memref sig .tc .vmem S2x2x64x256 .bf16 :=
  (aAg.slice (Rect.unit (s := S3x8x2x64x256) off S1x2x2x64x256.size inb) (fun _ => rfl)).squeeze S2x2x64x256 squeezes_S1x2x2x64x256_S2x2x64x256
abbrev agRect2 (off : Fin 5 → ℕ) (inb : ∀ a, off a + S1x4x2x64x256.size a ≤ S3x8x2x64x256.size a) : Memref sig .tc .vmem S4x2x64x256 .bf16 :=
  (aAg.slice (Rect.unit (s := S3x8x2x64x256) off S1x4x2x64x256.size inb) (fun _ => rfl)).squeeze S4x2x64x256 squeezes_S1x4x2x64x256_S4x2x64x256

/-- Two neighbouring groups of slots make one group of the next round; after the last round every slot of a part is there. -/
theorem slots_join (r t : Fin 3) (k : Fin 3) (hr : r.val < 2) (hk : k = ![![2, 1, 0], ![1, 0, 2], ![0, 2, 1]] r t) :
    Disjoint (slots r t c) (slots r t (nb k c)) ∧ slots r t c ∪ slots r t (nb k c) = slots (r + 1) t c := by
  subst hk; revert r t c; decide
def allOf (t : Fin 3) : Finset (Fin 3 × Fin 8) := Finset.univ.filter fun p => p.1 = t
theorem slots_all (t : Fin 3) (k : Fin 3) (hk : k = ![0, 2, 1] t) :
    Disjoint (slots 2 t c) (slots 2 t (nb k c)) ∧ slots 2 t c ∪ slots 2 t (nb k c) = allOf t := by
  subst hk; revert t c; decide
theorem slotsOn_union {S T : Finset (Fin 3 × Fin 8)} : slotsOn S ∪ slotsOn T = slotsOn (S ∪ T) := by
  ext j; simp [slotsOn]
theorem slotsOn_disjoint {S T : Finset (Fin 3 × Fin 8)} (h : Disjoint S T) : Disjoint (slotsOn S) (slotsOn T) :=
  Finset.disjoint_left.mpr fun j hs ht => Finset.disjoint_left.mp h (Finset.mem_filter.mp hs).2 (Finset.mem_filter.mp ht).2
theorem ag_join {S T U : Finset (Fin 3 × Fin 8)} (h : Disjoint S T ∧ S ∪ T = U) : iprop(agOn P c S ∗ agOn P c T) ⊢ agOn P c U :=
  join_on c (slotsOn_disjoint h.1) (by rw [slotsOn_union, h.2]) _

theorem part36 {K : _ → sProp 𝕄} {v22 v49 v60 v64 v1331 v1332} :
    iprop(on cc0_scratch0 c Finset.univ (f10 P c) ∗ any (F := F) cc0_scratch1 c (slotsOn (slots 0 0 c)) ∗ any (F := F) cc0_scratch1 c (slotsOn (slots 0 1 c)) ∗ any (F := F) cc0_scratch1 c (slotsOn (slots 0 2 c))
      ∗ (∀ w1 w2 w3 w4 w5, (on cc0_scratch0 c Finset.univ (f10 P c) ∗ agOn P c (slots 0 0 c) ∗ agOn P c (slots 0 1 c) ∗ agOn P c (slots 0 2 c)) -∗ K ⟨w1, w2, 1#32, w3, w4, w5⟩))
    ⊢ run c (app (k0_part36 (F := F)) c v22 v49 v60 v64 v1331 v1332) K := by
  rw [k0_part36_eq_skeleton]
  simp only [app, k0_part36_skel, Prog.bind_op, Prog.bind_ret, Prog.lift, Prog.pure_eq_ret]
  iintro ⟨Ha, ⟨%g0, H0⟩, ⟨%g1, H1⟩, ⟨%g2, H2⟩, Hk⟩
  iapply (step_load (i := 6) (h := rfl) c Finset.univ (f10 P c) (Finset.subset_univ _)) $$ Ha
  iintro Ha
  iapply (step_fill (i := 7) (h := rfl) (I := slotsOn (slots 0 0 c)) c g0 (gath P) (gath_set c (n := 1) (r := 0) (t := 0) rfl ((off28_eq c).trans (by rw [lo_zero]; rfl)))
    (gath_put P c 0 (o := 0) rfl (off28_eq c))) $$ H0
  iintro H0
  iapply (step_fill (i := 7) (h := rfl) (I := slotsOn (slots 0 1 c)) c g1 (gath P) (gath_set c (n := 1) (r := 0) (t := 1) rfl ((off29_eq c).trans (by rw [lo_zero]; rfl)))
    (gath_put P c 1 (o := 256) rfl (off29_eq c))) $$ H1
  iintro H1
  iapply (step_fill (i := 7) (h := rfl) (I := slotsOn (slots 0 2 c)) c g2 (gath P) (gath_set c (n := 1) (r := 0) (t := 2) rfl ((off30_eq c).trans (by rw [lo_zero]; rfl)))
    (gath_put P c 2 (o := 512) rfl (off30_eq c))) $$ H2
  iintro H2
  rw [wp_ret]
  imodintro
  ihave Hk := Hk $$ %_ %_ %_ %_ %_
  iapply Hk
  isplitl [Ha]; · iexact Ha
  isplitl [H0]; · iexact H0
  isplitl [H1]; · iexact H1
  iexact H2

theorem part37 {K : _ → sProp 𝕄} {v5 v64 v1334 c1 v1357 v1362 v1367} :
    iprop(ctx P κ c ∗ St 7 7 7 c ∗ agOn P c (slots 0 0 c)
      ∗ (∀ w, (St 8 7 7 c) -∗ K ⟨w, 1#32⟩))
    ⊢ run c (app (k0_part37 (F := F)) c v5 v64 v1334 c1 v1357 v1362 v1367) K := by
  rw [k0_part37_eq_skeleton]
  simp only [app, k0_part37_skel, Prog.bind_op, Prog.bind_ret, Prog.lift, Prog.pure_eq_ret]
  iintro ⟨#Hx, Hst, H0, Hk⟩
  iapply (step_move P κ c 7 (s := 7) (r := 7) (by decide) (dev11_eq c) (src := agRect0 (k0_off31 c) (k0_off31_inb c)) (dst := agRect0 (k0_off31 c) (k0_off31_inb c)) rfl rfl
    (I := slotsOn (slots 0 0 c)) (J := slotsOn (slots 0 0 (nb 2 (nb 2 c)))) ((squeeze_set _ _ _).trans (gath_set c (n := 1) (r := 0) (t := 0) rfl (off31_eq c))) ((squeeze_set _ _ _).trans ((gath_set c (n := 1) (r := 0) (t := 0) rfl (off31_eq c)).trans (congrArg (fun d => slotsOn (slots 0 0 d)) (nb_nb 2 c).symm))) (gath P) (gath P) rfl rfl
    .rfl rfl (fun y => rfl)) $$ [Hst H0]
  · isplitr; · iexact Hx
    isplitl [Hst]; · iexact Hst
    iexact H0
  iintro Hst
  rw [wp_ret]
  imodintro
  ihave Hk := Hk $$ %_
  iapply Hk
  iexact Hst

theorem part38 {K : _ → sProp 𝕄} {v3 v4 v1338 v1401 c1} :
    iprop(ctx P κ c ∗ St 8 7 7 c ∗ agOn P c (slots 0 1 c)
      ∗ (∀ w, (St 9 7 7 c) -∗ K w))
    ⊢ run c (app (k0_part38 (F := F)) c v3 v4 v1338 v1401 c1) K := by
  rw [k0_part38_eq_skeleton]
  simp only [app, k0_part38_skel, Prog.bind_op, Prog.bind_ret, Prog.lift, Prog.pure_eq_ret]
  iintro ⟨#Hx, Hst, H0, Hk⟩
  iapply (step_move P κ c 8 (s := 7) (r := 7) (by decide) (dev12_eq c) (src := agRect0 (k0_off32 c) (k0_off32_inb c)) (dst := agRect0 (k0_off32 c) (k0_off32_inb c)) rfl rfl
    (I := slotsOn (slots 0 1 c)) (J := slotsOn (slots 0 1 (nb 1 (nb 1 c)))) ((squeeze_set _ _ _).trans (gath_set c (n := 1) (r := 0) (t := 1) rfl (off32_eq c))) ((squeeze_set _ _ _).trans ((gath_set c (n := 1) (r := 0) (t := 1) rfl (off32_eq c)).trans (congrArg (fun d => slotsOn (slots 0 1 d)) (nb_nb 1 c).symm))) (gath P) (gath P) rfl rfl
    .rfl rfl (fun y => rfl)) $$ [Hst H0]
  · isplitr; · iexact Hx
    isplitl [Hst]; · iexact Hst
    iexact H0
  iintro Hst
  rw [wp_ret]
  imodintro
  ihave Hk := Hk $$ %_
  iapply Hk
  iexact Hst

theorem part39 {K : PUnit → sProp 𝕄} {v5 v1431} :
    iprop(ctx P κ c ∗ St 9 7 7 c ∗ agOn P c (slots 0 2 c)
      ∗ ((St 10 8 8 c ∗ agOn P c (slots 1 0 c)) -∗ K ⟨⟩))
    ⊢ run c (app (k0_part39 (F := F)) c v5 v1431) K := by
  rw [k0_part39_eq_skeleton]
  simp only [app, k0_part39_skel, Prog.bind_op, Prog.bind_ret, Prog.lift, Prog.pure_eq_ret]
  iintro ⟨#Hx, Hst, H0, Hk⟩
  iapply (step_move P κ c 9 (s := 7) (r := 7) (by decide) (dev13_eq c) (src := agRect0 (k0_off33 c) (k0_off33_inb c)) (dst := agRect0 (k0_off33 c) (k0_off33_inb c)) rfl rfl
    (I := slotsOn (slots 0 2 c)) (J := slotsOn (slots 0 2 (nb 0 (nb 0 c)))) ((squeeze_set _ _ _).trans (gath_set c (n := 1) (r := 0) (t := 2) rfl (off33_eq c))) ((squeeze_set _ _ _).trans ((gath_set c (n := 1) (r := 0) (t := 2) rfl (off33_eq c)).trans (congrArg (fun d => slotsOn (slots 0 2 d)) (nb_nb 0 c).symm))) (gath P) (gath P) rfl rfl
    .rfl rfl (fun y => rfl)) $$ [Hst H0]
  · isplitr; · iexact Hx
    isplitl [Hst]; · iexact Hst
    iexact H0
  iintro Hst
  iapply (step_wait_snd P κ c 7 (n := 10) (r := 7) (by decide) rfl rfl) $$ [Hst]
  · isplitr; · iexact Hx
    iexact Hst
  iintro ⟨Hst, Hb⟩
  iapply (step_wait_rcv P κ c 7 (n := 10) (s := 8) (by decide) rfl rfl) $$ [Hst]
  · isplitr; · iexact Hx
    iexact Hst
  iintro ⟨Hst, Hl⟩
  ihave H0 := (show iprop(back P c 7 ∗ landed P c 7) ⊢ agOn P c (slots 1 0 c) from ag_join P c (slots_join c 0 0 2 (by decide) rfl)) $$ [Hb Hl]
  · isplitl [Hb]; · iexact Hb
    iexact Hl
  rw [wp_ret]
  imodintro
  iapply Hk
  isplitl [Hst]; · iexact Hst
  iexact H0

theorem part40 {K : PUnit → sProp 𝕄} {v4} :
    iprop(ctx P κ c ∗ St 10 8 8 c
      ∗ ((St 10 9 9 c ∗ agOn P c (slots 1 1 c)) -∗ K ⟨⟩))
    ⊢ run c (app (k0_part40 (F := F)) c v4) K := by
  rw [k0_part40_eq_skeleton]
  simp only [app, k0_part40_skel, Prog.bind_op, Prog.bind_ret, Prog.lift, Prog.pure_eq_ret]
  iintro ⟨#Hx, Hst, Hk⟩
  iapply (step_wait_snd P κ c 8 (n := 10) (r := 8) (by decide) rfl rfl) $$ [Hst]
  · isplitr; · iexact Hx
    iexact Hst
  iintro ⟨Hst, Hb⟩
  iapply (step_wait_rcv P κ c 8 (n := 10) (s := 9) (by decide) rfl rfl) $$ [Hst]
  · isplitr; · iexact Hx
    iexact Hst
  iintro ⟨Hst, Hl⟩
  ihave H0 := (show iprop(back P c 8 ∗ landed P c 8) ⊢ agOn P c (slots 1 1 c) from ag_join P c (slots_join c 0 1 1 (by decide) rfl)) $$ [Hb Hl]
  · isplitl [Hb]; · iexact Hb
    iexact Hl
  rw [wp_ret]
  imodintro
  iapply Hk
  isplitl [Hst]; · iexact Hst
  iexact H0

theorem part41 {K : _ → sProp 𝕄} {v3 v4 v64} :
    iprop(ctx P κ c ∗ St 10 9 9 c
      ∗ (∀ w, (St 10 10 10 c ∗ agOn P c (slots 1 2 c)) -∗ K w))
    ⊢ run c (app (k0_part41 (F := F)) c v3 v4 v64) K := by
  rw [k0_part41_eq_skeleton]
  simp only [app, k0_part41_skel, Prog.bind_op, Prog.bind_ret, Prog.lift, Prog.pure_eq_ret]
  iintro ⟨#Hx, Hst, Hk⟩
  iapply (step_wait_snd P κ c 9 (n := 10) (r := 9) (by decide) rfl rfl) $$ [Hst]
  · isplitr; · iexact Hx
    iexact Hst
  iintro ⟨Hst, Hb⟩
  iapply (step_wait_rcv P κ c 9 (n := 10) (s := 10) (by decide) rfl rfl) $$ [Hst]
  · isplitr; · iexact Hx
    iexact Hst
  iintro ⟨Hst, Hl⟩
  ihave H0 := (show iprop(back P c 9 ∗ landed P c 9) ⊢ agOn P c (slots 1 2 c) from ag_join P c (slots_join c 0 2 0 (by decide) rfl)) $$ [Hb Hl]
  · isplitl [Hb]; · iexact Hb
    iexact Hl
  rw [wp_ret]
  imodintro
  ihave Hk := Hk $$ %_
  iapply Hk
  isplitl [Hst]; · iexact Hst
  iexact H0

theorem part42 {K : PUnit → sProp 𝕄} {v3 v1334 v1501} :
    iprop(ctx P κ c ∗ St 10 10 10 c ∗ agOn P c (slots 1 0 c)
      ∗ ((St 11 10 10 c) -∗ K ⟨⟩))
    ⊢ run c (app (k0_part42 (F := F)) c v3 v1334 v1501) K := by
  rw [k0_part42_eq_skeleton]
  simp only [app, k0_part42_skel, Prog.bind_op, Prog.bind_ret, Prog.lift, Prog.pure_eq_ret]
  iintro ⟨#Hx, Hst, H0, Hk⟩
  iapply (step_move P κ c 10 (s := 10) (r := 10) (by decide) (dev14_eq c) (src := agRect1 (k0_off34 c) (k0_off34_inb c)) (dst := agRect1 (k0_off34 c) (k0_off34_inb c)) rfl rfl
    (I := slotsOn (slots 1 0 c)) (J := slotsOn (slots 1 0 (nb 1 (nb 1 c)))) ((squeeze_set _ _ _).trans (gath_set c (n := 2) (r := 1) (t := 0) rfl (off34_eq c))) ((squeeze_set _ _ _).trans ((gath_set c (n := 2) (r := 1) (t := 0) rfl (off34_eq c)).trans (congrArg (fun d => slotsOn (slots 1 0 d)) (nb_nb 1 c).symm))) (gath P) (gath P) rfl rfl
    .rfl rfl (fun y => rfl)) $$ [Hst H0]
  · isplitr; · iexact Hx
    isplitl [Hst]; · iexact Hst
    iexact H0
  iintro Hst
  rw [wp_ret]
  imodintro
  iapply Hk
  iexact Hst

theorem part43 {K : PUnit → sProp 𝕄} {v5 v1338} :
    iprop(ctx P κ c ∗ St 11 10 10 c ∗ agOn P c (slots 1 1 c) ∗ agOn P c (slots 1 2 c)
      ∗ ((St 13 10 10 c) -∗ K ⟨⟩))
    ⊢ run c (app (k0_part43 (F := F)) c v5 v1338) K := by
  rw [k0_part43_eq_skeleton]
  simp only [app, k0_part43_skel, Prog.bind_op, Prog.bind_ret, Prog.lift, Prog.pure_eq_ret]
  iintro ⟨#Hx, Hst, H0, H1, Hk⟩
  iapply (step_move P κ c 11 (s := 10) (r := 10) (by decide) (dev15_eq c) (src := agRect1 (k0_off35 c) (k0_off35_inb c)) (dst := agRect1 (k0_off35 c) (k0_off35_inb c)) rfl rfl
    (I := slotsOn (slots 1 1 c)) (J := slotsOn (slots 1 1 (nb 0 (nb 0 c)))) ((squeeze_set _ _ _).trans (gath_set c (n := 2) (r := 1) (t := 1) rfl (off35_eq c))) ((squeeze_set _ _ _).trans ((gath_set c (n := 2) (r := 1) (t := 1) rfl (off35_eq c)).trans (congrArg (fun d => slotsOn (slots 1 1 d)) (nb_nb 0 c).symm))) (gath P) (gath P) rfl rfl
    .rfl rfl (fun y => rfl)) $$ [Hst H0]
  · isplitr; · iexact Hx
    isplitl [Hst]; · iexact Hst
    iexact H0
  iintro Hst
  iapply (step_move P κ c 12 (s := 10) (r := 10) (by decide) (dev16_eq c) (src := agRect1 (k0_off36 c) (k0_off36_inb c)) (dst := agRect1 (k0_off36 c) (k0_off36_inb c)) rfl rfl
    (I := slotsOn (slots 1 2 c)) (J := slotsOn (slots 1 2 (nb 2 (nb 2 c)))) ((squeeze_set _ _ _).trans (gath_set c (n := 2) (r := 1) (t := 2) rfl (off36_eq c))) ((squeeze_set _ _ _).trans ((gath_set c (n := 2) (r := 1) (t := 2) rfl (off36_eq c)).trans (congrArg (fun d => slotsOn (slots 1 2 d)) (nb_nb 2 c).symm))) (gath P) (gath P) rfl rfl
    .rfl rfl (fun y => rfl)) $$ [Hst H1]
  · isplitr; · iexact Hx
    isplitl [Hst]; · iexact Hst
    iexact H1
  iintro Hst
  rw [wp_ret]
  imodintro
  iapply Hk
  iexact Hst

theorem part44 {K : PUnit → sProp 𝕄} {v4} :
    iprop(ctx P κ c ∗ St 13 10 10 c
      ∗ ((St 13 11 11 c ∗ agOn P c (slots 2 0 c)) -∗ K ⟨⟩))
    ⊢ run c (app (k0_part44 (F := F)) c v4) K := by
  rw [k0_part44_eq_skeleton]
  simp only [app, k0_part44_skel, Prog.bind_op, Prog.bind_ret, Prog.lift, Prog.pure_eq_ret]
  iintro ⟨#Hx, Hst, Hk⟩
  iapply (step_wait_snd P κ c 10 (n := 13) (r := 10) (by decide) rfl rfl) $$ [Hst]
  · isplitr; · iexact Hx
    iexact Hst
  iintro ⟨Hst, Hb⟩
  iapply (step_wait_rcv P κ c 10 (n := 13) (s := 11) (by decide) rfl rfl) $$ [Hst]
  · isplitr; · iexact Hx
    iexact Hst
  iintro ⟨Hst, Hl⟩
  ihave H0 := (show iprop(back P c 10 ∗ landed P c 10) ⊢ agOn P c (slots 2 0 c) from ag_join P c (slots_join c 1 0 1 (by decide) rfl)) $$ [Hb Hl]
  · isplitl [Hb]; · iexact Hb
    iexact Hl
  rw [wp_ret]
  imodintro
  iapply Hk
  isplitl [Hst]; · iexact Hst
  iexact H0

theorem part45 {K : PUnit → sProp 𝕄} {v3 v5} :
    iprop(ctx P κ c ∗ St 13 11 11 c
      ∗ ((St 13 13 12 c ∗ agOn P c (slots 2 1 c) ∗ back P c 12) -∗ K ⟨⟩))
    ⊢ run c (app (k0_part45 (F := F)) c v3 v5) K := by
  rw [k0_part45_eq_skeleton]
  simp only [app, k0_part45_skel, Prog.bind_op, Prog.bind_ret, Prog.lift, Prog.pure_eq_ret]
  iintro ⟨#Hx, Hst, Hk⟩
  iapply (step_wait_snd P κ c 11 (n := 13) (r := 11) (by decide) rfl rfl) $$ [Hst]
  · isplitr; · iexact Hx
    iexact Hst
  iintro ⟨Hst, Hb⟩
  iapply (step_wait_rcv P κ c 11 (n := 13) (s := 12) (by decide) rfl rfl) $$ [Hst]
  · isplitr; · iexact Hx
    iexact Hst
  iintro ⟨Hst, Hl⟩
  ihave H0 := (show iprop(back P c 11 ∗ landed P c 11) ⊢ agOn P c (slots 2 1 c) from ag_join P c (slots_join c 1 1 0 (by decide) rfl)) $$ [Hb Hl]
  · isplitl [Hb]; · iexact Hb
    iexact Hl
  iapply (step_wait_snd P κ c 12 (n := 13) (r := 12) (by decide) rfl rfl) $$ [Hst]
  · isplitr; · iexact Hx
    iexact Hst
  iintro ⟨Hst, Hb⟩
  rw [wp_ret]
  imodintro
  iapply Hk
  isplitl [Hst]; · iexact Hst
  isplitl [H0]; · iexact H0
  iexact Hb

theorem part46 {K : _ → sProp 𝕄} {v3 v64} :
    iprop(ctx P κ c ∗ St 13 13 12 c ∗ back P c 12 ∗ agOn P c (slots 2 0 c)
      ∗ ((St 14 13 13 c ∗ agOn P c (slots 2 2 c)) -∗ K (4#32)))
    ⊢ run c (app (k0_part46 (F := F)) c v3 v64) K := by
  rw [k0_part46_eq_skeleton]
  simp only [app, k0_part46_skel, Prog.bind_op, Prog.bind_ret, Prog.lift, Prog.pure_eq_ret]
  iintro ⟨#Hx, Hst, Hb, H0, Hk⟩
  iapply (step_wait_rcv P κ c 12 (n := 13) (s := 13) (by decide) rfl rfl) $$ [Hst]
  · isplitr; · iexact Hx
    iexact Hst
  iintro ⟨Hst, Hl⟩
  ihave H1 := (show iprop(back P c 12 ∗ landed P c 12) ⊢ agOn P c (slots 2 2 c) from ag_join P c (slots_join c 1 2 2 (by decide) rfl)) $$ [Hb Hl]
  · isplitl [Hb]; · iexact Hb
    iexact Hl
  iapply (step_move P κ c 13 (s := 13) (r := 13) (by decide) (dev17_eq c) (src := agRect2 (k0_off37 c) (k0_off37_inb c)) (dst := agRect2 (k0_off37 c) (k0_off37_inb c)) rfl rfl
    (I := slotsOn (slots 2 0 c)) (J := slotsOn (slots 2 0 (nb 0 (nb 0 c)))) ((squeeze_set _ _ _).trans (gath_set c (n := 4) (r := 2) (t := 0) rfl (off37_eq c))) ((squeeze_set _ _ _).trans ((gath_set c (n := 4) (r := 2) (t := 0) rfl (off37_eq c)).trans (congrArg (fun d => slotsOn (slots 2 0 d)) (nb_nb 0 c).symm))) (gath P) (gath P) rfl rfl
    .rfl rfl (fun y => rfl)) $$ [Hst H0]
  · isplitr; · iexact Hx
    isplitl [Hst]; · iexact Hst
    iexact H0
  iintro Hst
  rw [wp_ret]
  imodintro
  iapply Hk
  isplitl [Hst]; · iexact Hst
  iexact H1

theorem part47 {K : _ → sProp 𝕄} {v5 v1334 v1338 c4} :
    iprop(ctx P κ c ∗ St 14 13 13 c ∗ agOn P c (slots 2 1 c)
      ∗ (∀ w w', (St 15 13 13 c) -∗ K ⟨4#32, w, w', 0#32⟩))
    ⊢ run c (app (k0_part47 (F := F)) c v5 v1334 v1338 c4) K := by
  rw [k0_part47_eq_skeleton]
  simp only [app, k0_part47_skel, Prog.bind_op, Prog.bind_ret, Prog.lift, Prog.pure_eq_ret]
  iintro ⟨#Hx, Hst, H0, Hk⟩
  iapply (step_move P κ c 14 (s := 13) (r := 13) (by decide) (dev18_eq c) (src := agRect2 (k0_off38 c) (k0_off38_inb c)) (dst := agRect2 (k0_off38 c) (k0_off38_inb c)) rfl rfl
    (I := slotsOn (slots 2 1 c)) (J := slotsOn (slots 2 1 (nb 2 (nb 2 c)))) ((squeeze_set _ _ _).trans (gath_set c (n := 4) (r := 2) (t := 1) rfl (off38_eq c))) ((squeeze_set _ _ _).trans ((gath_set c (n := 4) (r := 2) (t := 1) rfl (off38_eq c)).trans (congrArg (fun d => slotsOn (slots 2 1 d)) (nb_nb 2 c).symm))) (gath P) (gath P) rfl rfl
    .rfl rfl (fun y => rfl)) $$ [Hst H0]
  · isplitr; · iexact Hx
    isplitl [Hst]; · iexact Hst
    iexact H0
  iintro Hst
  rw [wp_ret]
  imodintro
  ihave Hk := Hk $$ %_ %_
  iapply Hk
  iexact Hst

theorem part48 {K : PUnit → sProp 𝕄} {v4 v1338 c4 v1665 v1670 c0} :
    iprop(ctx P κ c ∗ St 15 13 13 c ∗ agOn P c (slots 2 2 c)
      ∗ ((St 16 13 13 c) -∗ K ⟨⟩))
    ⊢ run c (app (k0_part48 (F := F)) c v4 v1338 c4 v1665 v1670 c0) K := by
  rw [k0_part48_eq_skeleton]
  simp only [app, k0_part48_skel, Prog.bind_op, Prog.bind_ret, Prog.lift, Prog.pure_eq_ret]
  iintro ⟨#Hx, Hst, H0, Hk⟩
  iapply (step_move P κ c 15 (s := 13) (r := 13) (by decide) (dev19_eq c) (src := agRect2 (k0_off39 c) (k0_off39_inb c)) (dst := agRect2 (k0_off39 c) (k0_off39_inb c)) rfl rfl
    (I := slotsOn (slots 2 2 c)) (J := slotsOn (slots 2 2 (nb 1 (nb 1 c)))) ((squeeze_set _ _ _).trans (gath_set c (n := 4) (r := 2) (t := 2) rfl (off39_eq c))) ((squeeze_set _ _ _).trans ((gath_set c (n := 4) (r := 2) (t := 2) rfl (off39_eq c)).trans (congrArg (fun d => slotsOn (slots 2 2 d)) (nb_nb 1 c).symm))) (gath P) (gath P) rfl rfl
    .rfl rfl (fun y => rfl)) $$ [Hst H0]
  · isplitr; · iexact Hx
    isplitl [Hst]; · iexact Hst
    iexact H0
  iintro Hst
  rw [wp_ret]
  imodintro
  iapply Hk
  iexact Hst

theorem part49 {K : PUnit → sProp 𝕄} {v3 v5} :
    iprop(ctx P κ c ∗ St 16 13 13 c
      ∗ ((St 16 15 14 c ∗ agOn P c (allOf 0) ∗ back P c 14) -∗ K ⟨⟩))
    ⊢ run c (app (k0_part49 (F := F)) c v3 v5) K := by
  rw [k0_part49_eq_skeleton]
  simp only [app, k0_part49_skel, Prog.bind_op, Prog.bind_ret, Prog.lift, Prog.pure_eq_ret]
  iintro ⟨#Hx, Hst, Hk⟩
  iapply (step_wait_snd P κ c 13 (n := 16) (r := 13) (by decide) rfl rfl) $$ [Hst]
  · isplitr; · iexact Hx
    iexact Hst
  iintro ⟨Hst, Hb⟩
  iapply (step_wait_rcv P κ c 13 (n := 16) (s := 14) (by decide) rfl rfl) $$ [Hst]
  · isplitr; · iexact Hx
    iexact Hst
  iintro ⟨Hst, Hl⟩
  ihave H0 := (show iprop(back P c 13 ∗ landed P c 13) ⊢ agOn P c (allOf 0) from ag_join P c (slots_all c 0 0 rfl)) $$ [Hb Hl]
  · isplitl [Hb]; · iexact Hb
    iexact Hl
  iapply (step_wait_snd P κ c 14 (n := 16) (r := 14) (by decide) rfl rfl) $$ [Hst]
  · isplitr; · iexact Hx
    iexact Hst
  iintro ⟨Hst, Hb⟩
  rw [wp_ret]
  imodintro
  iapply Hk
  isplitl [Hst]; · iexact Hst
  isplitl [H0]; · iexact H0
  iexact Hb

/-- A slot of the gathered result, as loaded. -/
abbrev slotv (t : Fin 3) (s : Fin 8) : FVec F S1x1x2x64x256 .bf16 := fun x => gath P (ix5 t s (x 2) (x 3) (x 4))
theorem slot_at (t : Fin 3) (s : Fin 8) {inb} :
    (fun x => gath P ((Rect.unit (s := S3x8x2x64x256) ![t.val, s.val, 0, 0, 0] S1x1x2x64x256.size inb).emb x)) = slotv P t s := by
  funext x
  refine congrArg (gath P) (funext fun a => Fin.ext ?_)
  have x0 : (x 0).val < 1 := (x 0).isLt
  have x1 : (x 1).val < 1 := (x 1).isLt
  obtain ⟨a0, a1, a2, a3, a4⟩ := emb5 (inb := inb) (rfl : ![t.val, s.val, 0, 0, 0] = _) x
  fin_cases a
  · exact a0.trans (by show _ = t.val; omega)
  · exact a1.trans (by show _ = s.val; omega)
  · exact a2.trans (Nat.zero_add _)
  · exact a3.trans (Nat.zero_add _)
  · exact a4.trans (Nat.zero_add _)

theorem parts_all : Disjoint (allOf 0) (allOf 1) ∧ Disjoint (allOf 0 ∪ allOf 1) (allOf 2) ∧ allOf 0 ∪ allOf 1 ∪ allOf 2 = Finset.univ := by decide
theorem ag_whole : iprop(agOn P c (allOf 0) ∗ agOn P c (allOf 1) ∗ agOn P c (allOf 2)) ⊢ on cc0_scratch1 c Finset.univ (gath P) := by
  iintro ⟨H0, H1, H2⟩
  ihave H := (ag_join P c ⟨parts_all.1, rfl⟩) $$ [H0 H1]
  · isplitl [H0]; · iexact H0
    iexact H1
  iapply (join_on c (slotsOn_disjoint parts_all.2.1) (by rw [slotsOn_union, parts_all.2.2]; exact Finset.filter_true_of_mem fun _ _ => Finset.mem_univ _) (gath P)) $$ [H H2]
  isplitl [H]; · iexact H
  iexact H2

theorem part50 {K : _ → sProp 𝕄} {v4} :
    iprop(ctx P κ c ∗ St 16 15 14 c ∗ agOn P c (allOf 0) ∗ back P c 14
      ∗ ((St 16 16 16 c ∗ on cc0_scratch1 c Finset.univ (gath P)) -∗ K (k0_pay127 (slotv P 0 0))))
    ⊢ run c (app (k0_part50 (F := F)) c v4) K := by
  rw [k0_part50_eq_skeleton]
  simp only [app, k0_part50_skel, Prog.bind_op, Prog.bind_ret, Prog.lift, Prog.pure_eq_ret]
  iintro ⟨#Hx, Hst, H0, Hb, Hk⟩
  iapply (step_wait_rcv P κ c 14 (n := 16) (s := 15) (by decide) rfl rfl) $$ [Hst]
  · isplitr; · iexact Hx
    iexact Hst
  iintro ⟨Hst, Hl⟩
  ihave H1 := (show iprop(back P c 14 ∗ landed P c 14) ⊢ agOn P c (allOf 1) from ag_join P c (slots_all c 1 2 rfl)) $$ [Hb Hl]
  · isplitl [Hb]; · iexact Hb
    iexact Hl
  iapply (step_wait_snd P κ c 15 (n := 16) (r := 15) (by decide) rfl rfl) $$ [Hst]
  · isplitr; · iexact Hx
    iexact Hst
  iintro ⟨Hst, Hb⟩
  iapply (step_wait_rcv P κ c 15 (n := 16) (s := 16) (by decide) rfl rfl) $$ [Hst]
  · isplitr; · iexact Hx
    iexact Hst
  iintro ⟨Hst, Hl⟩
  ihave H2 := (show iprop(back P c 15 ∗ landed P c 15) ⊢ agOn P c (allOf 2) from ag_join P c (slots_all c 2 1 rfl)) $$ [Hb Hl]
  · isplitl [Hb]; · iexact Hb
    iexact Hl
  ihave Ha := (ag_whole P c) $$ [H0 H1 H2]
  · isplitl [H0]; · iexact H0
    isplitl [H1]; · iexact H1
    iexact H2
  iapply (step_read (i := 7) (h := rfl) c Finset.univ (gath P) (Finset.subset_univ _) (w := slotv P 0 0) (slot_at P 0 0)) $$ Ha
  iintro Ha
  rw [wp_ret]
  imodintro
  iapply Hk
  isplitl [Hst]; · iexact Hst
  iexact Ha

end Cert.KernelIdeal.Reduce
-- ==== Proof.PartsD.lean ====
/-
  The kernel's parts that copy the gathered sums out.
-/
module

public import proofs.«01_k».proof.Proof.PartsC

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

/-- The chunk of the result that stands in slot `s` of part `t`, and the slot of a chunk. -/
def chunkOf (t : Fin 3) (s : Fin 8) : ℕ := uu (owner t s)
def slotAt (t : Fin 3) (i : ℕ) : ℕ := sg t (owner 0 ⟨i % 8, Nat.mod_lt _ (by decide)⟩)
theorem slotAt_chunkOf (t : Fin 3) (s : Fin 8) : slotAt t (chunkOf t s) = s.val := by revert t s; decide
theorem slotAt_inj (t : Fin 3) (s : Fin 8) (i : Fin 8) (h : slotAt t i.val = s.val) : i.val = chunkOf t s := by revert t s i; decide
theorem owner_chunkOf (t : Fin 3) (s : Fin 8) (h : chunkOf t s % 8 < 8) : owner 0 ⟨chunkOf t s % 8, h⟩ = owner t s := by revert t s; decide

/-- The first `n` of the 24 pieces of the result are written. -/
def written (n : ℕ) (f : FVec F S2x512x768 .bf16) : Prop :=
  ∀ j, 8 * ((j 2).val / 256) + slotAt ⟨(j 2).val / 256 % 3, Nat.mod_lt _ (by decide)⟩ ((j 1).val / 64) < n → f j = total P j
def outAt (n : ℕ) : sProp 𝕄 := iprop(∃ f, ⌜written P n f⌝ ∗ on cc0_stg5_0 c Finset.univ f)

theorem slotAt_lt (t : Fin 3) (i : ℕ) : slotAt t i < 8 := sg_lt _ _

theorem written_all {f : FVec F S2x512x768 .bf16} (h : written P 24 f) : f = total P :=
  funext fun j => h j (by
    have l2 : (j 2).val < 768 := (j 2).isLt
    have := slotAt_lt ⟨(j 2).val / 256 % 3, Nat.mod_lt _ (by decide)⟩ ((j 1).val / 64)
    omega)

theorem emb3 {n0 n1 n2 o0 o1 o2 : ℕ} {off size : Fin 3 → ℕ} {inb} (e : off = ![o0, o1, o2])
    (x : (Rect.unit (s := ⟨3, ![n0, n1, n2]⟩) off size inb).shape.Idx) :
    ((Rect.unit (s := ⟨3, ![n0, n1, n2]⟩) off size inb).emb x 0).val = o0 + (x 0).val
    ∧ ((Rect.unit (s := ⟨3, ![n0, n1, n2]⟩) off size inb).emb x 1).val = o1 + (x 1).val
    ∧ ((Rect.unit (s := ⟨3, ![n0, n1, n2]⟩) off size inb).emb x 2).val = o2 + (x 2).val := by
  subst e
  exact ⟨ValueKit.rect_emb_unit_val _ _ _ _ _, ValueKit.rect_emb_unit_val _ _ _ _ _, ValueKit.rect_emb_unit_val _ _ _ _ _⟩

/-- A loaded slot seen as a piece of the result. -/
theorem slot_cast (t : Fin 3) (s : Fin 8) {h} (y : S2x64x256.Idx) : shapeCast S2x64x256 (slotv P t s) h y = gath P (ix5 t s (y 0) (y 1) (y 2)) := by
  refine (shapeCast_apply (slotv P t s) h y (ix5 (n0 := 1) (n1 := 1) 0 0 (y 0) (y 1) (y 2)) ?_)
  refine (Shape.rowMajor_val_five _).trans (Eq.trans ?_ (Shape.rowMajor_val_three _).symm)
  show (((0 * 1 + 0) * 2 + (y 0).val) * 64 + (y 1).val) * 256 + (y 2).val = ((y 0).val * 64 + (y 1).val) * 256 + (y 2).val
  omega

theorem total_at (t : Fin 3) (s : Fin 8) {j : S2x512x768.Idx} (b : Fin 2) (q : Fin 64) (m : Fin 256) (h0 : (j 0).val = b.val)
    (h1 : (j 1).val = 64 * chunkOf t s + q.val) (h2 : (j 2).val = 256 * t.val + m.val) : total P j = gath P (ix5 t s b q m) := by
  have lq := q.isLt
  have e1 : (j 1).val / 64 = chunkOf t s := by omega
  have eo : owner 0 ⟨(j 1).val / 64 % 8, Nat.mod_lt _ (by decide)⟩ = owner t s :=
    Eq.trans (congrArg (owner 0) (Fin.ext (by show (j 1).val / 64 % 8 = chunkOf t s % 8; rw [e1]))) (owner_chunkOf t s (Nat.mod_lt _ (by decide)))
  show rnd (acc3 P (owner 0 ⟨(j 1).val / 64 % 8, _⟩)) (at8 ((j 1).val / 64) (j 0) ⟨(j 1).val % 64, _⟩ (j 2).val)
    = rnd (acc3 P (owner t s)) (at8 (uu (owner t s)) b q (256 * t.val + m.val))
  rw [eo, e1, show j 0 = b from Fin.ext h0, h2]
  exact congrArg (fun q' => rnd (acc3 P (owner t s)) (at8 (uu (owner t s)) b q' (256 * t.val + m.val))) (Fin.ext (by show (j 1).val % 64 = q.val; omega))

/-- One more piece of the result written. -/
theorem step_out (t : Fin 3) (s : Fin 8) (n : ℕ) (hn : n = 8 * t.val + s.val) {off : Fin 3 → ℕ} {inb} (e : off = ![0, 64 * chunkOf t s, 256 * t.val])
    {pay : S2x64x256.Idx → Elt F .bf16} (hp : ∀ y, pay y = gath P (ix5 t s (y 0) (y 1) (y 2)))
    {hl} {hx : (aOut.access (Rect.unit (s := S2x512x768) off S2x64x256.size inb)).Stores Finset.univ} {hm}
    {α : Type} {k : PUnit → Prog (TpuEff nD τ sig (Elt F) Λ₀ .tc) α} {Q : α → sProp 𝕄} :
    outAt P c n ⊢ iprop((outAt P c (n + 1) -∗ wp frame (wpE (defs₀ (F := F)) 𝒱₀ c none) Set.univ (k ⟨⟩) Q)
        -∗ wp frame (wpE (defs₀ (F := F)) 𝒱₀ c none) Set.univ (.op (.load aOut (Rect.unit (s := S2x512x768) off S2x64x256.size inb).toLoadRect hl)
          fun _ => .op (.store aOut (Rect.unit (s := S2x512x768) off S2x64x256.size inb) pay Finset.univ hx hm) k) Q) := by
  subst hn
  have htot : ∀ x, total P ((Rect.unit (s := S2x512x768) off S2x64x256.size inb).emb x) = pay x := fun x => by
    obtain ⟨a0, a1, a2⟩ := emb3 (inb := inb) e x
    exact (total_at P t s (x 0) (x 1) (x 2) (by omega) (by omega) (by omega)).trans (hp x).symm
  unfold outAt
  iintro ⟨%f, %hf, Ho⟩ Hk
  classical
  iapply (step_put (i := 5) (h := rfl) c Finset.univ f (fun j => if j ∈ (Rect.unit (s := S2x512x768) off S2x64x256.size inb).set then total P j else f j) (Finset.subset_univ _)
    (fun x => (if_pos ((Rect.map_emb_univ (Rect.unit (s := S2x512x768) off S2x64x256.size inb)) ▸ Finset.mem_map_of_mem _ (Finset.mem_univ x))).trans (htot x)) (fun j _ hj => if_neg hj)) $$ Ho
  iintro Ho
  iapply Hk
  iexists _
  isplitr
  · ipureintro
    intro j hj
    show (if j ∈ (Rect.unit (s := S2x512x768) off S2x64x256.size inb).set then total P j else f j) = total P j
    split
    · rfl
    · rename_i hnot
      by_cases hlt : 8 * ((j 2).val / 256) + slotAt ⟨(j 2).val / 256 % 3, Nat.mod_lt _ (by decide)⟩ ((j 1).val / 64) < 8 * t.val + s.val
      · exact hf j hlt
      · refine absurd ?_ hnot
        have l0 : (j 0).val < 2 := (j 0).isLt
        have l1 : (j 1).val < 512 := (j 1).isLt
        have l2 : (j 2).val < 768 := (j 2).isLt
        have lt := t.isLt
        have ls := s.isLt
        have hs := slotAt_lt ⟨(j 2).val / 256 % 3, Nat.mod_lt _ (by decide)⟩ ((j 1).val / 64)
        have et : (j 2).val / 256 = t.val := by omega
        have et' : (⟨(j 2).val / 256 % 3, Nat.mod_lt _ (by decide)⟩ : Fin 3) = t := Fin.ext (by show (j 2).val / 256 % 3 = _; omega)
        rw [et'] at hj hlt
        have ei := slotAt_inj t s ⟨(j 1).val / 64, by omega⟩ (by show slotAt t ((j 1).val / 64) = s.val; omega)
        replace ei : (j 1).val / 64 = chunkOf t s := ei
        subst e
        rw [Rect.mem_set_unit]
        intro a
        fin_cases a
        · show 0 ≤ (j 0).val ∧ (j 0).val < 0 + 2; omega
        · show 64 * chunkOf t s ≤ (j 1).val ∧ (j 1).val < 64 * chunkOf t s + 64; omega
        · show 256 * t.val ≤ (j 2).val ∧ (j 2).val < 256 * t.val + 256; omega
  · iexact Ho

theorem part51 {K : _ → sProp 𝕄} :
    iprop(on cc0_scratch1 c Finset.univ (gath P) ∗ outAt P c 0
      ∗ ((on cc0_scratch1 c Finset.univ (gath P) ∗ outAt P c 5) -∗ K (k0_pay132 (slotv P 0 5))))
    ⊢ run c (app (k0_part51 (F := F)) (k0_pay127 (slotv P 0 0))) K := by
  rw [k0_part51_eq_skeleton]
  simp only [app, k0_part51_skel, Prog.bind_op, Prog.bind_ret, Prog.lift, Prog.pure_eq_ret]
  iintro ⟨Ha, Ho, Hk⟩
  iapply (step_out P c 0 0 0 rfl (by decide) (slot_cast P 0 0)) $$ Ho
  iintro Ho
  iapply (step_read (i := 7) (h := rfl) c Finset.univ (gath P) (Finset.subset_univ _) (w := slotv P 0 1) (slot_at P 0 1)) $$ Ha
  iintro Ha
  iapply (step_out P c 0 1 1 rfl (by decide) (slot_cast P 0 1)) $$ Ho
  iintro Ho
  iapply (step_read (i := 7) (h := rfl) c Finset.univ (gath P) (Finset.subset_univ _) (w := slotv P 0 2) (slot_at P 0 2)) $$ Ha
  iintro Ha
  iapply (step_out P c 0 2 2 rfl (by decide) (slot_cast P 0 2)) $$ Ho
  iintro Ho
  iapply (step_read (i := 7) (h := rfl) c Finset.univ (gath P) (Finset.subset_univ _) (w := slotv P 0 3) (slot_at P 0 3)) $$ Ha
  iintro Ha
  iapply (step_out P c 0 3 3 rfl (by decide) (slot_cast P 0 3)) $$ Ho
  iintro Ho
  iapply (step_read (i := 7) (h := rfl) c Finset.univ (gath P) (Finset.subset_univ _) (w := slotv P 0 4) (slot_at P 0 4)) $$ Ha
  iintro Ha
  iapply (step_out P c 0 4 4 rfl (by decide) (slot_cast P 0 4)) $$ Ho
  iintro Ho
  iapply (step_read (i := 7) (h := rfl) c Finset.univ (gath P) (Finset.subset_univ _) (w := slotv P 0 5) (slot_at P 0 5)) $$ Ha
  iintro Ha
  rw [wp_ret]
  imodintro
  iapply Hk
  isplitl [Ha]; · iexact Ha
  iexact Ho

theorem part52 {K : _ → sProp 𝕄} :
    iprop(on cc0_scratch1 c Finset.univ (gath P) ∗ outAt P c 5
      ∗ ((on cc0_scratch1 c Finset.univ (gath P) ∗ outAt P c 10) -∗ K (k0_pay137 (slotv P 1 2))))
    ⊢ run c (app (k0_part52 (F := F)) (k0_pay132 (slotv P 0 5))) K := by
  rw [k0_part52_eq_skeleton]
  simp only [app, k0_part52_skel, Prog.bind_op, Prog.bind_ret, Prog.lift, Prog.pure_eq_ret]
  iintro ⟨Ha, Ho, Hk⟩
  iapply (step_out P c 0 5 5 rfl (by decide) (slot_cast P 0 5)) $$ Ho
  iintro Ho
  iapply (step_read (i := 7) (h := rfl) c Finset.univ (gath P) (Finset.subset_univ _) (w := slotv P 0 6) (slot_at P 0 6)) $$ Ha
  iintro Ha
  iapply (step_out P c 0 6 6 rfl (by decide) (slot_cast P 0 6)) $$ Ho
  iintro Ho
  iapply (step_read (i := 7) (h := rfl) c Finset.univ (gath P) (Finset.subset_univ _) (w := slotv P 0 7) (slot_at P 0 7)) $$ Ha
  iintro Ha
  iapply (step_out P c 0 7 7 rfl (by decide) (slot_cast P 0 7)) $$ Ho
  iintro Ho
  iapply (step_read (i := 7) (h := rfl) c Finset.univ (gath P) (Finset.subset_univ _) (w := slotv P 1 0) (slot_at P 1 0)) $$ Ha
  iintro Ha
  iapply (step_out P c 1 0 8 rfl (by decide) (slot_cast P 1 0)) $$ Ho
  iintro Ho
  iapply (step_read (i := 7) (h := rfl) c Finset.univ (gath P) (Finset.subset_univ _) (w := slotv P 1 1) (slot_at P 1 1)) $$ Ha
  iintro Ha
  iapply (step_out P c 1 1 9 rfl (by decide) (slot_cast P 1 1)) $$ Ho
  iintro Ho
  iapply (step_read (i := 7) (h := rfl) c Finset.univ (gath P) (Finset.subset_univ _) (w := slotv P 1 2) (slot_at P 1 2)) $$ Ha
  iintro Ha
  rw [wp_ret]
  imodintro
  iapply Hk
  isplitl [Ha]; · iexact Ha
  iexact Ho

theorem part53 {K : _ → sProp 𝕄} :
    iprop(on cc0_scratch1 c Finset.univ (gath P) ∗ outAt P c 10
      ∗ ((on cc0_scratch1 c Finset.univ (gath P) ∗ outAt P c 15) -∗ K (k0_pay142 (slotv P 1 7))))
    ⊢ run c (app (k0_part53 (F := F)) (k0_pay137 (slotv P 1 2))) K := by
  rw [k0_part53_eq_skeleton]
  simp only [app, k0_part53_skel, Prog.bind_op, Prog.bind_ret, Prog.lift, Prog.pure_eq_ret]
  iintro ⟨Ha, Ho, Hk⟩
  iapply (step_out P c 1 2 10 rfl (by decide) (slot_cast P 1 2)) $$ Ho
  iintro Ho
  iapply (step_read (i := 7) (h := rfl) c Finset.univ (gath P) (Finset.subset_univ _) (w := slotv P 1 3) (slot_at P 1 3)) $$ Ha
  iintro Ha
  iapply (step_out P c 1 3 11 rfl (by decide) (slot_cast P 1 3)) $$ Ho
  iintro Ho
  iapply (step_read (i := 7) (h := rfl) c Finset.univ (gath P) (Finset.subset_univ _) (w := slotv P 1 4) (slot_at P 1 4)) $$ Ha
  iintro Ha
  iapply (step_out P c 1 4 12 rfl (by decide) (slot_cast P 1 4)) $$ Ho
  iintro Ho
  iapply (step_read (i := 7) (h := rfl) c Finset.univ (gath P) (Finset.subset_univ _) (w := slotv P 1 5) (slot_at P 1 5)) $$ Ha
  iintro Ha
  iapply (step_out P c 1 5 13 rfl (by decide) (slot_cast P 1 5)) $$ Ho
  iintro Ho
  iapply (step_read (i := 7) (h := rfl) c Finset.univ (gath P) (Finset.subset_univ _) (w := slotv P 1 6) (slot_at P 1 6)) $$ Ha
  iintro Ha
  iapply (step_out P c 1 6 14 rfl (by decide) (slot_cast P 1 6)) $$ Ho
  iintro Ho
  iapply (step_read (i := 7) (h := rfl) c Finset.univ (gath P) (Finset.subset_univ _) (w := slotv P 1 7) (slot_at P 1 7)) $$ Ha
  iintro Ha
  rw [wp_ret]
  imodintro
  iapply Hk
  isplitl [Ha]; · iexact Ha
  iexact Ho

theorem part54 {K : _ → sProp 𝕄} :
    iprop(on cc0_scratch1 c Finset.univ (gath P) ∗ outAt P c 15
      ∗ ((on cc0_scratch1 c Finset.univ (gath P) ∗ outAt P c 20) -∗ K (k0_pay147 (slotv P 2 4))))
    ⊢ run c (app (k0_part54 (F := F)) (k0_pay142 (slotv P 1 7))) K := by
  rw [k0_part54_eq_skeleton]
  simp only [app, k0_part54_skel, Prog.bind_op, Prog.bind_ret, Prog.lift, Prog.pure_eq_ret]
  iintro ⟨Ha, Ho, Hk⟩
  iapply (step_out P c 1 7 15 rfl (by decide) (slot_cast P 1 7)) $$ Ho
  iintro Ho
  iapply (step_read (i := 7) (h := rfl) c Finset.univ (gath P) (Finset.subset_univ _) (w := slotv P 2 0) (slot_at P 2 0)) $$ Ha
  iintro Ha
  iapply (step_out P c 2 0 16 rfl (by decide) (slot_cast P 2 0)) $$ Ho
  iintro Ho
  iapply (step_read (i := 7) (h := rfl) c Finset.univ (gath P) (Finset.subset_univ _) (w := slotv P 2 1) (slot_at P 2 1)) $$ Ha
  iintro Ha
  iapply (step_out P c 2 1 17 rfl (by decide) (slot_cast P 2 1)) $$ Ho
  iintro Ho
  iapply (step_read (i := 7) (h := rfl) c Finset.univ (gath P) (Finset.subset_univ _) (w := slotv P 2 2) (slot_at P 2 2)) $$ Ha
  iintro Ha
  iapply (step_out P c 2 2 18 rfl (by decide) (slot_cast P 2 2)) $$ Ho
  iintro Ho
  iapply (step_read (i := 7) (h := rfl) c Finset.univ (gath P) (Finset.subset_univ _) (w := slotv P 2 3) (slot_at P 2 3)) $$ Ha
  iintro Ha
  iapply (step_out P c 2 3 19 rfl (by decide) (slot_cast P 2 3)) $$ Ho
  iintro Ho
  iapply (step_read (i := 7) (h := rfl) c Finset.univ (gath P) (Finset.subset_univ _) (w := slotv P 2 4) (slot_at P 2 4)) $$ Ha
  iintro Ha
  rw [wp_ret]
  imodintro
  iapply Hk
  isplitl [Ha]; · iexact Ha
  iexact Ho

end Cert.KernelIdeal.Reduce
-- ==== Proof.Shares.lean ====
/-
  How a device parts its scratch memory at the start, and how it is whole again at the end.
-/
module

public import proofs.«01_k».proof.Proof.PartsD

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

/-- A buffer in two parts, and back. -/
theorem any_split {b : Ref sig .tc} {I J K : Finset b.ty.shape.Idx} (hd : Disjoint I J) (hK : I ∪ J = K) :
    (any (F := F) b c K : sProp 𝕄) ⊢ iprop(any b c I ∗ any b c J) := by
  subst hK
  iintro ⟨%f, H⟩
  ihave ⟨H1, H2⟩ := (pointsTo_union hd).1 $$ H
  isplitl [H1]
  · iexists f; iexact H1
  · iexists f; iexact H2
theorem any_join {b : Ref sig .tc} {I J K : Finset b.ty.shape.Idx} (hd : Disjoint I J) (hK : I ∪ J = K) :
    iprop(any b c I ∗ any b c J) ⊢ (any (F := F) b c K : sProp 𝕄) := by
  classical
  subst hK
  iintro ⟨⟨%f, H1⟩, ⟨%g, H2⟩⟩
  iexists (fun j => if j ∈ I then f j else g j)
  iapply (pointsTo_union hd).2
  isplitl [H1]
  · iapply (show on b c I f ⊢ (on b c I (fun j => if j ∈ I then f j else g j) : sProp 𝕄) from
      .of_eq (pointsTo_congr fun j hj => (if_pos hj).symm)) $$ H1
  · iapply (show on b c J g ⊢ (on b c J (fun j => if j ∈ I then f j else g j) : sProp 𝕄) from
      .of_eq (pointsTo_congr fun j hj => (if_neg (Finset.disjoint_right.mp hd hj)).symm)) $$ H2
theorem any_of {b : Ref sig .tc} {I : Finset b.ty.shape.Idx} {f : b.ty.Contents (Elt F)} : (on b c I f : sProp 𝕄) ⊢ any b c I := by
  iintro H; iexists f; iexact H

/-- The four boxes of the accumulator. -/
theorem boxes_disjoint (h : ℕ) : Disjoint (box h 0) (box h 1) :=
  Finset.disjoint_left.mpr fun j h0 h1 => by
    have := (Finset.mem_filter.mp h0).2; have := (Finset.mem_filter.mp h1).2; omega
theorem halves (c : Dev nD) : (sd c = 0 ∧ kp c = 4) ∨ (sd c = 4 ∧ kp c = 0) := by revert c; decide
theorem halves_disjoint : Disjoint (box (sd c) 0 ∪ box (sd c) 1) (box (kp c) 0 ∪ box (kp c) 1) :=
  Finset.disjoint_left.mpr fun j h0 h1 => by
    have := halves c
    simp only [box, Finset.mem_union, Finset.mem_filter, Finset.mem_univ, true_and] at h0 h1
    omega
theorem halves_univ : (box (sd c) 0 ∪ box (sd c) 1) ∪ (box (kp c) 0 ∪ box (kp c) 1) = Finset.univ :=
  Finset.eq_univ_iff_forall.mpr fun j => by
    have := halves c
    have l0 : (j 0).val < 8 := (j 0).isLt
    have l1 : (j 1).val < 2 := (j 1).isLt
    simp only [box, Finset.mem_union, Finset.mem_filter, Finset.mem_univ, true_and]
    omega

/-- The three parts of the gathered result. -/
theorem allOf_disjoint {t t' : Fin 3} (h : t ≠ t') : Disjoint (allOf t) (allOf t') :=
  Finset.disjoint_left.mpr fun p h0 h1 => h ((Finset.mem_filter.mp h0).2.symm.trans (Finset.mem_filter.mp h1).2)
theorem allOf_univ : slotsOn (allOf 0) ∪ (slotsOn (allOf 1) ∪ slotsOn (allOf 2)) = Finset.univ := by
  rw [slotsOn_union, slotsOn_union, show allOf 0 ∪ (allOf 1 ∪ allOf 2) = Finset.univ from by decide]
  ext j; simp [slotsOn]

/-- One part: what its device keeps and the three landing places. -/
theorem part_split (t k0 k1 k2 : Fin 3) (h0 : k0 = ![2, 1, 0] t) (h1 : k1 = ![1, 0, 2] t) (h2 : k2 = ![0, 2, 1] t) :
    (any (F := F) cc0_scratch1 c (slotsOn (allOf t)) : sProp 𝕄)
      ⊢ iprop(any cc0_scratch1 c (slotsOn (slots 0 t c)) ∗ any cc0_scratch1 c (slotsOn (slots 0 t (nb k0 c)))
        ∗ any cc0_scratch1 c (slotsOn (slots 1 t (nb k1 c))) ∗ any cc0_scratch1 c (slotsOn (slots 2 t (nb k2 c)))) := by
  have e2 := slots_all c t k2 h2
  have e1 := slots_join c 1 t k1 (by decide) h1
  have e0 := slots_join c 0 t k0 (by decide) h0
  iintro H
  ihave ⟨H, H2⟩ := (any_split c (slotsOn_disjoint e2.1) (by rw [slotsOn_union, e2.2])) $$ H
  ihave ⟨H, H1⟩ := (any_split c (slotsOn_disjoint e1.1) (by rw [slotsOn_union, e1.2]; rfl)) $$ H
  ihave ⟨H, H0⟩ := (any_split c (slotsOn_disjoint e0.1) (by rw [slotsOn_union, e0.2]; rfl)) $$ H
  isplitl [H]; · iexact H
  isplitl [H0]; · iexact H0
  isplitl [H1]; · iexact H1
  iexact H2

/-- The scratch memory of a device, its contents open. -/
def held : sProp 𝕄 :=
  iprop(any (F := F) cc0_scratch0 c Finset.univ ∗ any (F := F) cc0_scratch1 c Finset.univ ∗ any (F := F) cc0_scratch2 c Finset.univ
    ∗ any (F := F) cc0_scratch3 c Finset.univ ∗ any (F := F) cc0_scratch4 c Finset.univ ∗ any (F := F) cc0_scratch5 c Finset.univ
    ∗ any (F := F) cc0_scratch6 c Finset.univ ∗ any (F := F) cc0_scratch7 c Finset.univ ∗ any (F := F) cc0_scratch8 c Finset.univ
    ∗ any (F := F) cc0_scratch9 c Finset.univ ∗ any (F := F) cc0_scratch10 c Finset.univ ∗ any (F := F) cc0_scratch11 c Finset.univ)
/-- What it keeps of it while the exchange goes on. -/
def kept : sProp 𝕄 :=
  iprop(any (F := F) cc0_scratch0 c (box (sd c) 0) ∗ any (F := F) cc0_scratch0 c (box (sd c) 1) ∗ any (F := F) cc0_scratch0 c (box (kp c) 0)
    ∗ any (F := F) cc0_scratch0 c (box (kp c) 1)
    ∗ (any (F := F) cc0_scratch1 c (slotsOn (slots 0 0 c)) ∗ any (F := F) cc0_scratch1 c (slotsOn (slots 0 1 c))
      ∗ any (F := F) cc0_scratch1 c (slotsOn (slots 0 2 c)))
    ∗ any (F := F) cc0_scratch2 c (batch 0) ∗ any (F := F) cc0_scratch2 c (batch 1) ∗ any (F := F) cc0_scratch4 c Finset.univ
    ∗ any (F := F) cc0_scratch6 c (chunk 0) ∗ any (F := F) cc0_scratch6 c (chunk 1) ∗ any (F := F) cc0_scratch8 c Finset.univ
    ∗ any (F := F) cc0_scratch10 c Finset.univ)

theorem bigSep_univ16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16))
    = insert 0 (insert 1 (insert 2 (insert 3 (insert 4 (insert 5 (insert 6 (insert 7 (insert 8 (insert 9 (insert 10 (insert 11 (insert 12
      (insert 13 (insert 14 {15})))))))))))))) from rfl]
  iterate 15 rw [bigSep_insert (by decide)]
  rw [bigSep_singleton]
  rfl

/-- The places a device gives away, one by one. -/
theorem places_of :
    iprop(any (F := F) cc0_scratch3 c (batch 0) ∗ any (F := F) cc0_scratch3 c (batch 1) ∗ any (F := F) cc0_scratch5 c Finset.univ
      ∗ any (F := F) cc0_scratch7 c (chunk 0) ∗ any (F := F) cc0_scratch7 c (chunk 1) ∗ any (F := F) cc0_scratch9 c Finset.univ
      ∗ any (F := F) cc0_scratch11 c Finset.univ
      ∗ any (F := F) cc0_scratch1 c (slotsOn (slots 0 0 (nb 2 c))) ∗ any (F := F) cc0_scratch1 c (slotsOn (slots 0 1 (nb 1 c)))
      ∗ any (F := F) cc0_scratch1 c (slotsOn (slots 0 2 (nb 0 c))) ∗ any (F := F) cc0_scratch1 c (slotsOn (slots 1 0 (nb 1 c)))
      ∗ any (F := F) cc0_scratch1 c (slotsOn (slots 1 1 (nb 0 c))) ∗ any (F := F) cc0_scratch1 c (slotsOn (slots 1 2 (nb 2 c)))
      ∗ any (F := F) cc0_scratch1 c (slotsOn (slots 2 0 (nb 0 c))) ∗ any (F := F) cc0_scratch1 c (slotsOn (slots 2 1 (nb 2 c)))
      ∗ any (F := F) cc0_scratch1 c (slotsOn (slots 2 2 (nb 1 c)))) ⊢ bigSep Finset.univ (place (F := F) c) := by
  rw [bigSep_univ16]
  exact .rfl

theorem shares : held (F := F) c ⊢ iprop((bigSep Finset.univ (place (F := F) c)) ∗ kept c) := by
  unfold held kept
  iintro ⟨H0, H1, H2, H3, H4, H5, H6, H7, H8, H9, H10, H11⟩
  ihave ⟨H0s, H0k⟩ := (any_split c (halves_disjoint c) (halves_univ c)) $$ H0
  ihave ⟨Hs0, Hs1⟩ := (any_split c (boxes_disjoint _) rfl) $$ H0s
  ihave ⟨Hk0, Hk1⟩ := (any_split c (boxes_disjoint _) rfl) $$ H0k
  ihave ⟨H1, H1'⟩ := (any_split c (by
    rw [slotsOn_union]
    exact slotsOn_disjoint (Finset.disjoint_union_right.mpr ⟨allOf_disjoint (by decide), allOf_disjoint (by decide)⟩)) allOf_univ) $$ H1
  ihave ⟨H1', H1''⟩ := (any_split c (slotsOn_disjoint (allOf_disjoint (by decide))) rfl) $$ H1'
  ihave ⟨Ha, H7a, H10a, H13a⟩ := (part_split c 0 2 1 0 rfl rfl rfl) $$ H1
  ihave ⟨Hb, H8a, H11a, H14a⟩ := (part_split c 1 1 0 2 rfl rfl rfl) $$ H1'
  ihave ⟨Hc, H9a, H12a, H15a⟩ := (part_split c 2 0 2 1 rfl rfl rfl) $$ H1''
  ihave ⟨H20, H21⟩ := (any_split c batches_disjoint batches_univ) $$ H2
  ihave ⟨H30, H31⟩ := (any_split c batches_disjoint batches_univ) $$ H3
  ihave ⟨H60, H61⟩ := (any_split c chunks_disjoint chunks_univ) $$ H6
  ihave ⟨H70, H71⟩ := (any_split c chunks_disjoint chunks_univ) $$ H7
  isplitl [H30 H31 H5 H70 H71 H9 H11 H7a H8a H9a H10a H11a H12a H13a H14a H15a]
  · iapply (places_of c)
    isplitl [H30]; · iexact H30
    isplitl [H31]; · iexact H31
    isplitl [H5]; · iexact H5
    isplitl [H70]; · iexact H70
    isplitl [H71]; · iexact H71
    isplitl [H9]; · iexact H9
    isplitl [H11]; · iexact H11
    isplitl [H7a]; · iexact H7a
    isplitl [H8a]; · iexact H8a
    isplitl [H9a]; · iexact H9a
    isplitl [H10a]; · iexact H10a
    isplitl [H11a]; · iexact H11a
    isplitl [H12a]; · iexact H12a
    isplitl [H13a]; · iexact H13a
    isplitl [H14a]; · iexact H14a
    iexact H15a
  · iframe Hs0 Hs1 Hk0 Hk1 H20 H21 H4 H60 H61 H8 H10
    isplitl [Ha]; · iexact Ha
    isplitl [Hb]; · iexact Hb
    iexact Hc

/-- The accumulator is whole once its four boxes are. -/
theorem acc_whole (f : FVec F S8x2x64x768 .f32) :
    iprop(on cc0_scratch0 c (box (sd c) 0) f ∗ on cc0_scratch0 c (box (sd c) 1) f ∗ on cc0_scratch0 c (box (kp c) 0) f ∗ on cc0_scratch0 c (box (kp c) 1) f)
      ⊢ (on cc0_scratch0 c Finset.univ f : sProp 𝕄) := by
  iintro ⟨H0, H1, H2, H3⟩
  iapply (join_on c (halves_disjoint c) (halves_univ c) f)
  isplitl [H0 H1]
  · iapply (join_on c (boxes_disjoint _) rfl f); isplitl [H0] <;> iassumption
  · iapply (join_on c (boxes_disjoint _) rfl f); isplitl [H2] <;> iassumption

/-- At the end all is whole again. -/
theorem whole_again (f : FVec F S8x2x64x768 .f32) :
    iprop(on cc0_scratch0 c Finset.univ f ∗ on cc0_scratch1 c Finset.univ (gath P) ∗ back P c 0 ∗ back P c 1
      ∗ on cc0_scratch3 c Finset.univ (sb0 P (nb 0 c)) ∗ back P c 2 ∗ on cc0_scratch5 c Finset.univ (sA1 P (nb 1 c))
      ∗ back P c 3 ∗ back P c 4 ∗ on cc0_scratch7 c Finset.univ (sB1 P (nb 2 c)) ∗ back P c 5 ∗ on cc0_scratch9 c Finset.univ (sA2 P (nb 2 c))
      ∗ back P c 6 ∗ on cc0_scratch11 c Finset.univ (sB2 P (nb 1 c))) ⊢ held (F := F) c := by
  unfold held
  iintro ⟨H0, H1, B0, B1, H3, B2, H5, B3, B4, H7, B5, H9, B6, H11⟩
  ihave B := (show iprop(back P c 0 ∗ back P c 1) ⊢ any (F := F) cc0_scratch2 c Finset.univ from any_join c batches_disjoint batches_univ) $$ [B0 B1]
  · isplitl [B0] <;> iassumption
  ihave B' := (show iprop(back P c 3 ∗ back P c 4) ⊢ any (F := F) cc0_scratch6 c Finset.univ from any_join c chunks_disjoint chunks_univ) $$ [B3 B4]
  · isplitl [B3] <;> iassumption
  isplitl [H0]; · iapply (any_of c) $$ H0
  isplitl [H1]; · iapply (any_of c) $$ H1
  isplitl [B]; · iexact B
  isplitl [H3]; · iapply (any_of c) $$ H3
  isplitl [B2]; · iapply (show back P c 2 ⊢ any (F := F) cc0_scratch4 c Finset.univ from .rfl) $$ B2
  isplitl [H5]; · iapply (any_of c) $$ H5
  isplitl [B']; · iexact B'
  isplitl [H7]; · iapply (any_of c) $$ H7
  isplitl [B5]; · iapply (show back P c 5 ⊢ any (F := F) cc0_scratch8 c Finset.univ from .rfl) $$ B5
  isplitl [H9]; · iapply (any_of c) $$ H9
  isplitl [B6]; · iapply (show back P c 6 ⊢ any (F := F) cc0_scratch10 c Finset.univ from .rfl) $$ B6
  iapply (any_of c) $$ H11

theorem ready_at (x : Fin 16) :
    iprop(entry (F := F) c x ∗ atPos ER (sndCell x c) 0 ∅ 0 ∗ dutyTok ER (sndCell x c) 0 0 ∗ dutyTok ER (rcvCell x (peer x c)) 0 0)
      ⊢ sndAt (F := F) 0 0 c x := by
  unfold sndAt kit
  rw [if_neg (Nat.not_lt_zero _), if_neg (Nat.not_lt_zero _)]
  iintro ⟨He, Ha, Ht, Ht'⟩
  isplitl [Ha]; · iexact Ha
  isplitl [Ht]; · iexact Ht
  isplitl [Ht']; · iexact Ht'
  iexact He
/-- A device's tokens and the entries its neighbours give it make its starting state. -/
theorem ready :
    iprop(owing (F := F) c (oweFrom c 0) ∗ (bigSep Finset.univ (entry (F := F) c))
      ∗ (bigSep Finset.univ fun x : Fin 16 => iprop(atPos ER (sndCell x c) 0 ∅ 0 ∗ dutyTok ER (sndCell x c) 0 0 ∗ dutyTok ER (rcvCell x (peer x c)) 0 0))
      ∗ bigSep Finset.univ (rcvAt (F := F) 0 c)) ⊢ St (F := F) 0 0 0 c := by
  unfold St
  iintro ⟨HO, He, Ht, Hr⟩
  isplitl [HO]; · iexact HO
  isplitr [Hr]
  · iapply (show iprop((bigSep Finset.univ (entry (F := F) c))
        ∗ (bigSep Finset.univ fun x : Fin 16 => iprop(atPos ER (sndCell x c) 0 ∅ 0 ∗ dutyTok ER (sndCell x c) 0 0 ∗ dutyTok ER (rcvCell x (peer x c)) 0 0)))
        ⊢ bigSep Finset.univ (sndAt (F := F) 0 0 c) from by
      rw [← bigSep_sep']
      exact bigSep_mono fun x _ => ready_at c x)
    isplitl [He] <;> iassumption
  · iexact Hr

/-- A partial sum at one box is its block. -/
theorem part_at (I : Ins F) {off : Fin 4 → ℕ} (h : ℕ) (b : Fin 2) (hh : h = 0 ∨ h = 4) (e : off = ![h, b.val, 0, 0])
    {inb} (x : S4x1x64x768.Idx) :
    part I ((Rect.unit (s := S8x2x64x768) off S4x1x64x768.size inb).emb x) = blockOf I h b x := by
  subst e
  have l0 : (x 0).val < 4 := (x 0).isLt
  have l1 : (x 1).val < 1 := (x 1).isLt
  have v (a : Fin 4) := ValueKit.rect_emb_unit_val (s := S8x2x64x768) ![h, b.val, 0, 0] S4x1x64x768.size inb x a
  have v0 : (((Rect.unit (s := S8x2x64x768) ![h, b.val, 0, 0] S4x1x64x768.size inb).emb x) 0).val = h + (x 0).val := v 0
  have e1 : ((Rect.unit (s := S8x2x64x768) ![h, b.val, 0, 0] S4x1x64x768.size inb).emb x) 1 = b :=
    Fin.ext ((v 1).trans (by show b.val + (x 1).val = b.val; omega))
  have e2 : ((Rect.unit (s := S8x2x64x768) ![h, b.val, 0, 0] S4x1x64x768.size inb).emb x) 2 = x 2 := Fin.ext ((v 2).trans (Nat.zero_add _))
  have e3 : ((Rect.unit (s := S8x2x64x768) ![h, b.val, 0, 0] S4x1x64x768.size inb).emb x) 3 = x 3 := Fin.ext ((v 3).trans (Nat.zero_add _))
  unfold part
  rw [e1, e2, e3]
  have hq : 4 * ((((Rect.unit (s := S8x2x64x768) ![h, b.val, 0, 0] S4x1x64x768.size inb).emb x) 0).val / 4) = h := by rw [v0]; omega
  rw [hq]
  refine congrArg (blockOf I h b) (ext4 ?_ ?_ rfl rfl)
  · show _ % 4 = _
    rw [v0]; omega
  · show 0 = _
    omega

end Cert.KernelIdeal.Reduce
-- ==== Proof.Body.lean ====
/-
  The whole kernel body on one device.
-/
module

public import proofs.«01_k».proof.Proof.PartsA
public import proofs.«01_k».proof.Proof.Shares

@[expose] public section

noncomputable section

namespace Cert.KernelIdeal.Reduce

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

theorem then_ {α β : Type} {A : sProp 𝕄} {p : Prog (TpuEff nD τ sig (Elt F) Λ₀ .tc) α} {k : α → Prog (TpuEff nD τ sig (Elt F) Λ₀ .tc) β} {Q : β → sProp 𝕄}
    (h : A ⊢ run c p fun a => run c (k a) Q) : A ⊢ run c (p >>= k) Q :=
  h.trans (Entails.of_eq (wp_bind _ _ _ p k Q).symm)

/-- What a device starts with, its buffers apart: its signals to send, its own barrier, a token for either end of each transfer out of it,
    and the credit for each transfer into it. -/
def start : sProp 𝕄 :=
  iprop(owing (F := F) c (owe₀ c) ∗ (bigSep Finset.univ fun d : Fin 3 => dutyTok ER (barCell (nb d c)) 0 d)
    ∗ (atPos ER (barCell c) 0 ∅ 0 ∗ cred (tallyAt (barCell c) () 3))
    ∗ (bigSep Finset.univ fun x : Fin 16 => iprop(atPos ER (sndCell x c) 0 ∅ 0 ∗ dutyTok ER (sndCell x c) 0 0 ∗ dutyTok ER (rcvCell x (peer x c)) 0 0))
    ∗ bigSep Finset.univ (rcvAt (F := F) 0 c))
/-- What it ends with. -/
def done : sProp 𝕄 := iprop(St (F := F) 16 16 16 c ∗ atPos ER (barCell c) 1 ∅ 0)

/-- What stands beside the barrier's own state while the signals go out. -/
def beside (I : Ins F) (Z : sProp 𝕄) : sProp 𝕄 :=
  iprop(ctx P κ c ∗ (atPos ER (barCell c) 0 ∅ 0 ∗ cred (tallyAt (barCell c) () 3))
    ∗ (bigSep Finset.univ fun x : Fin 16 => iprop(atPos ER (sndCell x c) 0 ∅ 0 ∗ dutyTok ER (sndCell x c) 0 0 ∗ dutyTok ER (rcvCell x (peer x c)) 0 0))
    ∗ bigSep Finset.univ (rcvAt (F := F) 0 c) ∗ kept c ∗ inputs c I ∗ outAt P c 0 ∗ Z)

/-- The scratch memory once the exchange is over, the gathered result apart. -/
def after : sProp 𝕄 :=
  iprop(on cc0_scratch0 c Finset.univ (f10 P c) ∗ back P c 0 ∗ back P c 1
      ∗ on cc0_scratch3 c Finset.univ (sb0 P (nb 0 c)) ∗ back P c 2 ∗ on cc0_scratch5 c Finset.univ (sA1 P (nb 1 c))
      ∗ back P c 3 ∗ back P c 4 ∗ on cc0_scratch7 c Finset.univ (sB1 P (nb 2 c)) ∗ back P c 5 ∗ on cc0_scratch9 c Finset.univ (sA2 P (nb 2 c))
      ∗ back P c 6 ∗ on cc0_scratch11 c Finset.univ (sB2 P (nb 1 c)))

set_option maxHeartbeats 8000000 in
theorem body55 {K : PUnit → sProp 𝕄} (I : Ins F) (hI : P c = part I) :
    iprop(ctx P κ c ∗ beside P κ c I
        (iprop((done c ∗ inputs c I ∗ after P c ∗ on cc0_scratch1 c Finset.univ (gath P) ∗ outAt P c 21) -∗ K ⟨⟩))
      ∗ owing (F := F) c (owe₀ c) ∗ (bigSep Finset.univ fun d : Fin 3 => dutyTok ER (barCell (nb d c)) 0 d)
      ∗ bigSep Finset.univ (place (F := F) c))
    ⊢ run c (app (k0_part55 (F := F))) K := by
  rw [k0_part55_eq_skeleton]
  simp only [app, k0_part55_skel, k0_part4_eq_skeleton, k0_part4_skel, k0_part5_eq_skeleton, k0_part5_skel, k0_part6_eq_skeleton, k0_part6_skel, k0_part7_eq_skeleton, k0_part7_skel, k0_part10_eq_skeleton, k0_part10_skel, k0_part11_eq_skeleton, k0_part11_skel, k0_part12_eq_skeleton, k0_part12_skel, k0_part13_eq_skeleton, k0_part13_skel, k0_part16_eq_skeleton, k0_part16_skel, k0_part17_eq_skeleton, k0_part17_skel, k0_part18_eq_skeleton, k0_part18_skel, k0_part19_eq_skeleton, k0_part19_skel, k0_part21_eq_skeleton, k0_part21_skel, k0_part22_eq_skeleton, k0_part22_skel, k0_part23_eq_skeleton, k0_part23_skel, k0_part24_eq_skeleton, k0_part24_skel, Prog.pure_eq_ret, Prog.bind_ret]
  refine then_ c (part1 c _ fun v2 v3 v4 v5 v22 v39 hw => ?_)
  dsimp only
  refine then_ c (part2 P κ c _ fun v49 v60 v64 => ?_)
  dsimp only
  obtain ⟨hs, hk⟩ := half_word v22 c hw
  unfold beside kept
  iintro ⟨⟨#Hx, ⟨Hbar, Hcr⟩, Ht, Hr, ⟨Hs0, Hs1, Hk0, Hk1, ⟨Ha, Hb, Hc⟩, H20, H21, H4, H60, H61, H8, H10⟩, HI, Ho, HZ⟩, HO⟩
  iapply (then_ c (part3 P κ c I)) $$ [HO Hbar Hcr HI Ht Hr Hs0 Hs1 Hk0 Hk1 Ha Hb Hc H20 H21 H4 H60 H61 H8 H10 Ho HZ]
  isplitr; · iexact Hx
  isplitl [HO]; · iexact HO
  isplitl [Hbar]; · iexact Hbar
  isplitl [Hcr]; · iexact Hcr
  isplitl [HI]; · iexact HI
  iintro ⟨HO, Hbar, He, HI⟩
  dsimp only
  ihave HS := (ready c) $$ [HO He Ht Hr]
  · isplitl [HO]; · iexact HO
    isplitl [He]; · iexact He
    isplitl [Ht]; · iexact Ht
    iexact Hr
  unfold inputs
  icases HI with ⟨HX, Hq, HK, HV, Hwo⟩
  iapply (then_ c (part8 P c (fun x => (congrFun hI _).trans ((part_at I (sd c) 0 (halves c |>.imp And.left And.left) (off2_eq c) x).trans (congrFun ((congrArg (fun w => block w (rows I.x 0 (64 * sd c)) I.wq (bat I.k 0) (bat I.v 0) I.wo) hs.symm).trans (chain0 v22 (rows I.x 0 (64 * sd c)) I.wq (bat I.k 0) (bat I.v 0) I.wo).symm) x)))))
  isplitl [Hs0]; · iexact Hs0
  isplitl [H20]; · iexact H20
  iintro ⟨Hs0, H20⟩
  try dsimp only
  iapply (then_ c (part9 P κ c I.x))
  isplitr; · iexact Hx
  isplitl [HS]; · iexact HS
  isplitl [H20]; · iexact H20
  isplitl [HX]; · iexact HX
  iintro ⟨HS, HX⟩
  try dsimp only
  iapply (then_ c (part14 P c (fun x => (congrFun hI _).trans ((part_at I (sd c) 1 (halves c |>.imp And.left And.left) (off5_eq c) x).trans (congrFun ((congrArg (fun w => block w (rows I.x 1 (64 * sd c)) I.wq (bat I.k 1) (bat I.v 1) I.wo) hs.symm).trans (chain1 _ (rows I.x 1 (64 * sd c)) I.wq (bat I.k 1) (bat I.v 1) I.wo).symm) x)))))
  isplitl [Hs1]; · iexact Hs1
  isplitl [H21]; · iexact H21
  iintro ⟨Hs1, H21⟩
  try dsimp only
  iapply (then_ c (part15 P κ c I.x))
  isplitr; · iexact Hx
  isplitl [HS]; · iexact HS
  isplitl [H21]; · iexact H21
  isplitl [HX]; · iexact HX
  iintro ⟨HS, HX⟩
  try dsimp only
  iapply (then_ c (part20 P c I.x (fun x => (congrFun hI _).trans ((part_at I (kp c) 0 ((halves c).symm.imp And.right And.right) (off8_eq c) x).trans (congrFun ((congrArg (fun w => block w (rows I.x 0 (64 * kp c)) I.wq (bat I.k 0) (bat I.v 0) I.wo) hk.symm).trans (chain2 _ (rows I.x 0 (64 * kp c)) I.wq (bat I.k 0) (bat I.v 0) I.wo).symm) x)))))
  isplitl [Hk0]; · iexact Hk0
  isplitl [HX]; · iexact HX
  iintro ⟨Hk0, HX⟩
  try dsimp only
  iapply (then_ c (part25 P κ c (fun x => (congrFun hI _).trans ((part_at I (kp c) 1 ((halves c).symm.imp And.right And.right) (off10_eq c) x).trans (congrFun ((congrArg (fun w => block w (rows I.x 1 (64 * kp c)) I.wq (bat I.k 1) (bat I.v 1) I.wo) hk.symm).trans (chain3 _ (rows I.x 1 (64 * kp c)) I.wq (bat I.k 1) (bat I.v 1) I.wo).symm) x)))))
  isplitr; · iexact Hx
  isplitl [HS]; · iexact HS
  isplitl [Hk1]; · iexact Hk1
  iintro ⟨HS, Hk1, B0, L0⟩
  try dsimp only
  ihave H0 := (acc_whole c (P c)) $$ [Hs0 Hs1 Hk0 Hk1]
  · isplitl [Hs0]; · iexact Hs0
    isplitl [Hs1]; · iexact Hs1
    isplitl [Hk0]; · iexact Hk0
    iexact Hk1
  iapply (then_ c (part26 P κ c))
  isplitr; · iexact Hx
  isplitl [HS]; · iexact HS
  isplitl [L0]; · iexact L0
  isplitl [H0]; · iexact H0
  iintro %w26 ⟨HS, B1, H3, H0⟩
  try dsimp only
  iapply (then_ c (part27 P c))
  isplitl [H0]; · iexact H0
  isplitl [H3]; · iexact H3
  isplitl [H4]; · iexact H4
  iintro ⟨H0, H3, H4⟩
  try dsimp only
  iapply (then_ c (part28 P κ c))
  isplitr; · iexact Hx
  isplitl [HS]; · iexact HS
  isplitl [H0]; · iexact H0
  isplitl [H4]; · iexact H4
  isplitl [H60]; · iexact H60
  iintro ⟨HS, H0⟩
  try dsimp only
  iapply (then_ c (part29 P κ c))
  isplitr; · iexact Hx
  isplitl [HS]; · iexact HS
  isplitl [H0]; · iexact H0
  isplitl [H3]; · iexact H3
  isplitl [H61]; · iexact H61
  iintro %w29 ⟨HS, H0, H3⟩
  try dsimp only
  iapply (then_ c (part30 P κ c))
  isplitr; · iexact Hx
  isplitl [HS]; · iexact HS
  isplitl [H0]; · iexact H0
  isplitl [H3]; · iexact H3
  iintro ⟨HS, H0, H3, B2, H5, B3⟩
  try dsimp only
  iapply (then_ c (part31 P κ c))
  isplitr; · iexact Hx
  isplitl [HS]; · iexact HS
  iintro %w31 ⟨HS, H7, B4⟩
  try dsimp only
  iapply (then_ c (part32 P c))
  isplitl [H0]; · iexact H0
  isplitl [H5]; · iexact H5
  isplitl [H7]; · iexact H7
  iintro ⟨H0, H5, H7⟩
  try dsimp only
  iapply (then_ c (part33 P κ c))
  isplitr; · iexact Hx
  isplitl [HS]; · iexact HS
  isplitl [H0]; · iexact H0
  isplitl [H8]; · iexact H8
  isplitl [H10]; · iexact H10
  iintro %w33 ⟨HS, H0, H10⟩
  try dsimp only
  iapply (then_ c (part34 P κ c))
  isplitr; · iexact Hx
  isplitl [HS]; · iexact HS
  isplitl [H0]; · iexact H0
  isplitl [H5]; · iexact H5
  isplitl [H7]; · iexact H7
  isplitl [H10]; · iexact H10
  iintro ⟨HS, H0, H5, H7, B5⟩
  try dsimp only
  iapply (then_ c (part35 P κ c))
  isplitr; · iexact Hx
  isplitl [HS]; · iexact HS
  isplitl [H0]; · iexact H0
  iintro %w35 %w35' ⟨HS, H0, H9, H11, B6⟩
  try dsimp only
  iapply (then_ c (part36 P c))
  isplitl [H0]; · iexact H0
  isplitl [Ha]; · iexact Ha
  isplitl [Hb]; · iexact Hb
  isplitl [Hc]; · iexact Hc
  iintro %w1 %w2 %w3 %w4 %w5 ⟨H0, Ha, Hb, Hc⟩
  try dsimp only
  iapply (then_ c (part37 P κ c))
  isplitr; · iexact Hx
  isplitl [HS]; · iexact HS
  isplitl [Ha]; · iexact Ha
  iintro %w37 HS
  try dsimp only
  iapply (then_ c (part38 P κ c))
  isplitr; · iexact Hx
  isplitl [HS]; · iexact HS
  isplitl [Hb]; · iexact Hb
  iintro %w38 HS
  try dsimp only
  iapply (then_ c (part39 P κ c))
  isplitr; · iexact Hx
  isplitl [HS]; · iexact HS
  isplitl [Hc]; · iexact Hc
  iintro ⟨HS, Ha⟩
  try dsimp only
  iapply (then_ c (part40 P κ c))
  isplitr; · iexact Hx
  isplitl [HS]; · iexact HS
  iintro ⟨HS, Hb⟩
  try dsimp only
  iapply (then_ c (part41 P κ c))
  isplitr; · iexact Hx
  isplitl [HS]; · iexact HS
  iintro %w41 ⟨HS, Hc⟩
  try dsimp only
  iapply (then_ c (part42 P κ c))
  isplitr; · iexact Hx
  isplitl [HS]; · iexact HS
  isplitl [Ha]; · iexact Ha
  iintro HS
  try dsimp only
  iapply (then_ c (part43 P κ c))
  isplitr; · iexact Hx
  isplitl [HS]; · iexact HS
  isplitl [Hb]; · iexact Hb
  isplitl [Hc]; · iexact Hc
  iintro HS
  try dsimp only
  iapply (then_ c (part44 P κ c))
  isplitr; · iexact Hx
  isplitl [HS]; · iexact HS
  iintro ⟨HS, Ha⟩
  try dsimp only
  iapply (then_ c (part45 P κ c))
  isplitr; · iexact Hx
  isplitl [HS]; · iexact HS
  iintro ⟨HS, Hb, B12⟩
  try dsimp only
  iapply (then_ c (part46 P κ c))
  isplitr; · iexact Hx
  isplitl [HS]; · iexact HS
  isplitl [B12]; · iexact B12
  isplitl [Ha]; · iexact Ha
  iintro ⟨HS, Hc⟩
  try dsimp only
  iapply (then_ c (part47 P κ c))
  isplitr; · iexact Hx
  isplitl [HS]; · iexact HS
  isplitl [Hb]; · iexact Hb
  iintro %w47 %w47' HS
  try dsimp only
  iapply (then_ c (part48 P κ c))
  isplitr; · iexact Hx
  isplitl [HS]; · iexact HS
  isplitl [Hc]; · iexact Hc
  iintro HS
  try dsimp only
  iapply (then_ c (part49 P κ c))
  isplitr; · iexact Hx
  isplitl [HS]; · iexact HS
  iintro ⟨HS, Ha, B14⟩
  try dsimp only
  iapply (then_ c (part50 P κ c))
  isplitr; · iexact Hx
  isplitl [HS]; · iexact HS
  isplitl [Ha]; · iexact Ha
  isplitl [B14]; · iexact B14
  iintro ⟨HS, Hg⟩
  try dsimp only
  iapply (then_ c (part51 P c))
  isplitl [Hg]; · iexact Hg
  isplitl [Ho]; · iexact Ho
  iintro ⟨Hg, Ho⟩
  try dsimp only
  iapply (then_ c (part52 P c))
  isplitl [Hg]; · iexact Hg
  isplitl [Ho]; · iexact Ho
  iintro ⟨Hg, Ho⟩
  try dsimp only
  iapply (then_ c (part53 P c))
  isplitl [Hg]; · iexact Hg
  isplitl [Ho]; · iexact Ho
  iintro ⟨Hg, Ho⟩
  try dsimp only
  iapply (then_ c (part54 P c))
  isplitl [Hg]; · iexact Hg
  isplitl [Ho]; · iexact Ho
  iintro ⟨Hg, Ho⟩
  try dsimp only
  simp only [Prog.bind_op, Prog.bind_ret, Prog.lift]
  iapply (step_out P c 2 4 20 rfl (by decide) (slot_cast P 2 4)) $$ Ho
  iintro Ho
  rw [wp_ret]
  imodintro
  iapply HZ
  unfold done after
  isplitl [HS Hbar]; · isplitl [HS] <;> iassumption
  isplitl [HX Hq HK HV Hwo]
  · isplitl [HX]; · iexact HX
    isplitl [Hq]; · iexact Hq
    isplitl [HK]; · iexact HK
    isplitl [HV]; · iexact HV
    iexact Hwo
  isplitr [Hg Ho]
  · isplitl [H0]; · iexact H0
    isplitl [B0]; · iexact B0
    isplitl [B1]; · iexact B1
    isplitl [H3]; · iexact H3
    isplitl [B2]; · iexact B2
    isplitl [H5]; · iexact H5
    isplitl [B3]; · iexact B3
    isplitl [B4]; · iexact B4
    isplitl [H7]; · iexact H7
    isplitl [B5]; · iexact B5
    isplitl [H9]; · iexact H9
    isplitl [B6]; · iexact B6
    iexact H11
  isplitl [Hg]; · iexact Hg
  iexact Ho

theorem body {K : PUnit → sProp 𝕄} (I : Ins F) (hI : P c = part I) :
    iprop(ctx P κ c ∗ start c ∗ held c ∗ inputs c I ∗ any (F := F) cc0_stg5_0 c Finset.univ
      ∗ ((done c ∗ held c ∗ inputs c I ∗ on cc0_stg5_0 c Finset.univ (total P)) -∗ K ⟨⟩))
    ⊢ run c (app (cc0_body (F := F))) K := by
  rw [cc0_body_eq_skeleton]
  simp only [app, cc0_body_skel, Prog.pure_eq_ret]
  unfold start
  iintro ⟨#Hx, ⟨HO, Hd, Hb, Ht, Hr⟩, Hh, HI, ⟨%f, Ho⟩, HK⟩
  ihave ⟨Hp, Hh⟩ := (shares c) $$ Hh
  iapply (then_ c (body55 P κ c I hI))
  isplitr; · iexact Hx
  isplitr [HO Hd Hp]
  · unfold beside
    isplitr; · iexact Hx
    isplitl [Hb]; · iexact Hb
    isplitl [Ht]; · iexact Ht
    isplitl [Hr]; · iexact Hr
    isplitl [Hh]; · iexact Hh
    isplitl [HI]; · iexact HI
    isplitl [Ho]
    · unfold outAt
      iexists f
      isplitr; · ipureintro; intro j h; exact absurd h (Nat.not_lt_zero _)
      iexact Ho
    iintro ⟨HD, HI, HA, Hg, Ho⟩
    try dsimp only
    simp only [Prog.bind_op, Prog.lift, Prog.bind_ret]
    iapply (step_read (i := 7) (h := rfl) c Finset.univ (gath P) (Finset.subset_univ _) (w := slotv P 2 5) (slot_at P 2 5)) $$ Hg
    iintro Hg
    iapply (step_out P c 2 5 21 rfl (by decide) (slot_cast P 2 5)) $$ Ho
    iintro Ho
    iapply (step_read (i := 7) (h := rfl) c Finset.univ (gath P) (Finset.subset_univ _) (w := slotv P 2 6) (slot_at P 2 6)) $$ Hg
    iintro Hg
    iapply (step_out P c 2 6 22 rfl (by decide) (slot_cast P 2 6)) $$ Ho
    iintro Ho
    iapply (step_read (i := 7) (h := rfl) c Finset.univ (gath P) (Finset.subset_univ _) (w := slotv P 2 7) (slot_at P 2 7)) $$ Hg
    iintro Hg
    iapply (step_out P c 2 7 23 rfl (by decide) (slot_cast P 2 7)) $$ Ho
    iintro Ho
    unfold outAt
    icases Ho with ⟨%g, %hg, Ho⟩
    rw [wp_ret]
    imodintro
    iapply HK
    isplitl [HD]; · iexact HD
    isplitl [HA Hg]
    · iapply (whole_again P c (f10 P c))
      unfold after
      icases HA with ⟨H0, HA⟩
      isplitl [H0]; · iexact H0
      isplitl [Hg]; · iexact Hg
      iexact HA
    isplitl [HI]; · iexact HI
    iapply (show on cc0_stg5_0 c Finset.univ g ⊢ (on cc0_stg5_0 c Finset.univ (total P) : sProp 𝕄) from
      .of_eq (congrArg (on cc0_stg5_0 c Finset.univ) (written_all P hg))) $$ Ho
  isplitl [HO]; · iexact HO
  isplitl [Hd]; · iexact Hd
  iexact Hp

end Cert.KernelIdeal.Reduce
-- ==== Proof.Cells.lean ====
/-
  Opening a device's copy semaphores where the kernel begins, and closing all its cells where it ends.
-/
module

public import proofs.«01_k».proof.Proof.Body

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32) (κ : GSem nD τ sig → ℕ) (c : Dev nD)

theorem both {ι : Type} [Fintype ι] {Φ Ψ : ι → sProp 𝕄} :
    iprop(bigSep Finset.univ Φ ∗ bigSep Finset.univ Ψ) ⊢ bigSep Finset.univ fun i => iprop(Φ i ∗ Ψ i) := .of_eq (bigSep_sep _ _ _).symm
theorem apart {ι : Type} [Fintype ι] {Φ Ψ : ι → sProp 𝕄} :
    (bigSep Finset.univ fun i => iprop(Φ i ∗ Ψ i)) ⊢ iprop(bigSep Finset.univ Φ ∗ bigSep Finset.univ Ψ) := .of_eq (bigSep_sep _ _ _)

/-- The kernel's own semaphores: for every transfer the sending one and the receiving one. -/
def osem (k : Fin 2 × Fin 16) : SemLoc sig := .dma ((![sndS, rcvS] k.1) k.2)
theorem own_facts : Pipeline.OwnSemFacts spec0 osem := by decide

theorem own_zero : (Pipeline.ownSems0 osem c : sProp 𝕄)
    = iprop((bigSep Finset.univ fun x : Fin 16 => semVal (sndCell x c) 0) ∗ bigSep Finset.univ fun x : Fin 16 => semVal (rcvCell x c) 0) := by
  unfold Pipeline.ownSems0
  rw [bigSep_univ_prod, BI.bigSep_fin_two]
  rfl

theorem inv_snd (x : Fin 16) : invs P κ ⊢ cellInv ER (rd P) (κ (sndCell x c)) (sndCell x c) := by
  unfold invs
  iintro ⟨-, #H, -⟩
  iapply (all_at (fun p : Dev nD × Fin 16 => (cellInv ER (rd P) (κ (sndCell p.2 p.1)) (sndCell p.2 p.1) : sProp 𝕄)) (c, x)) $$ H
theorem inv_rcv (x : Fin 16) : invs P κ ⊢ cellInv ER (rd P) (κ (rcvCell x c)) (rcvCell x c) := by
  unfold invs
  iintro ⟨-, -, #H, -⟩
  iapply (all_at (fun p : Dev nD × Fin 16 => (cellInv ER (rd P) (κ (rcvCell p.2 p.1)) (rcvCell p.2 p.1) : sProp 𝕄)) (c, x)) $$ H

/-- One cell opens: its counter at zero and the right to open it make its first round. -/
theorem open_one (g : GSem nD τ sig) (h : invs P κ ⊢ cellInv ER (rd P) (κ g) g) :
    iprop(invs P κ ∗ (openTok ER g ∗ semVal g 0)) ⊢ (|={Set.univ}=> iprop(atPos ER g 0 ∅ 0 ∗ reached ER g 0) : sProp 𝕄) := by
  iintro ⟨#HI, Ho, Hv⟩
  iapply (Rounds.cell_open ER (rd P) (g := g) (Set.mem_univ (κ g)))
  isplitr; · iapply h; iexact HI
  isplitl [Ho] <;> iassumption
/-- A whole family of them. -/
theorem open_fam (f : Fin 16 → GSem nD τ sig) (h : ∀ x, invs P κ ⊢ cellInv ER (rd P) (κ (f x)) (f x)) :
    iprop(invs P κ ∗ (bigSep Finset.univ fun x => openTok ER (f x)) ∗ bigSep Finset.univ fun x => semVal (f x) 0)
      ⊢ (|={Set.univ}=> iprop((bigSep Finset.univ fun x => atPos ER (f x) 0 ∅ 0) ∗ bigSep Finset.univ fun x => reached ER (f x) 0) : sProp 𝕄) := by
  iintro ⟨#HI, Ho, Hv⟩
  imod ((bigSep_with_persistent (R := invs P κ) (S := Finset.univ) (Φ := fun x => iprop(openTok ER (f x) ∗ semVal (f x) 0))
      fun x _ => open_one P κ (f x) (h x)).trans (bigSep_fupd _ _)) $$ [Ho Hv] with H
  · isplitr; · iexact HI
    iapply both; isplitl [Ho] <;> iassumption
  imodintro
  iapply apart $$ H

/-- One cell closes after its round: its counter comes back at zero. -/
theorem close_one (g : GSem nD τ sig) (h : ctx P κ c ⊢ cellInv ER (rd P) (κ g) g) :
    iprop(ctx P κ c ∗ atPos ER g 1 ∅ 0) ⊢ (|={Set.univ}=> semVal g 0 : sProp 𝕄) := by
  iintro ⟨#HI, Ha⟩
  iapply (Rounds.cell_close ER (rd P) (Set.mem_univ (κ g)) id (duties_later P g))
  isplitr; · iapply h; iexact HI
  iexact Ha
theorem close_fam (f : Fin 16 → GSem nD τ sig) (h : ∀ x, ctx P κ c ⊢ cellInv ER (rd P) (κ (f x)) (f x)) :
    iprop(ctx P κ c ∗ bigSep Finset.univ fun x => atPos ER (f x) 1 ∅ 0)
      ⊢ (|={Set.univ}=> bigSep Finset.univ fun x => semVal (f x) 0 : sProp 𝕄) :=
  (bigSep_with_persistent (R := ctx P κ c) fun x _ => close_one P κ c (f x) (h x)).trans (bigSep_fupd _ _)

theorem sndAt_end : (bigSep Finset.univ (sndAt (F := F) 16 16 c)) = bigSep Finset.univ fun x : Fin 16 => (atPos ER (sndCell x c) 1 ∅ 0 : sProp 𝕄) :=
  bigSep_congr fun x _ => by unfold sndAt; rw [if_pos x.isLt]
theorem rcvAt_end : (bigSep Finset.univ (rcvAt (F := F) 16 c)) = bigSep Finset.univ fun x : Fin 16 => (atPos ER (rcvCell x c) 1 ∅ 0 : sProp 𝕄) :=
  bigSep_congr fun x _ => by unfold rcvAt; rw [if_pos x.isLt]
theorem rcvAt_start : (bigSep Finset.univ (rcvAt (F := F) 0 c))
    = iprop((bigSep Finset.univ fun x : Fin 16 => (atPos ER (rcvCell x c) 0 ∅ 0 : sProp 𝕄)) ∗ bigSep Finset.univ fun x : Fin 16 => cred (tallyAt (rcvCell x c) () (N x))) := by
  rw [← bigSep_sep']
  exact bigSep_congr fun x _ => by unfold rcvAt; rw [if_neg (Nat.not_lt_zero _)]

/-- Everything closes: nothing is owed and every counter is zero. -/
theorem close_all : iprop(ctx P κ c ∗ done c)
    ⊢ (|={Set.univ}=> iprop(owing c 0 ∗ semVal (barCell c) 0 ∗ Pipeline.ownSems0 osem c) : sProp 𝕄) := by
  unfold done St
  rw [sndAt_end, rcvAt_end, oweFrom_end, own_zero]
  iintro ⟨#HI, ⟨Ho, Hs, Hr⟩, Hb⟩
  imod (close_fam P κ c (fun x => sndCell x c) fun x => ctx_snd P κ c c x) $$ [Hs] with Hs
  · isplitr; · iexact HI
    iexact Hs
  imod (close_fam P κ c (fun x => rcvCell x c) fun x => ctx_rcv P κ c c x) $$ [Hr] with Hr
  · isplitr; · iexact HI
    iexact Hr
  imod (close_one P κ c (barCell c) (ctx_bar P κ c c)) $$ [Hb] with Hb
  · isplitr; · iexact HI
    iexact Hb
  imodintro
  isplitl [Ho]; · iexact Ho
  isplitl [Hb]; · iexact Hb
  isplitl [Hs] <;> iassumption

/-- What a device is dealt at launch: its position on its barrier, its rights to open, the tokens of the duties it pays. -/
def dealt : sProp 𝕄 :=
  iprop(atPos ER (barCell c) 0 ∅ 0
    ∗ ((bigSep Finset.univ fun x : Fin 16 => openTok ER (sndCell x c)) ∗ bigSep Finset.univ fun x : Fin 16 => openTok ER (rcvCell x c))
    ∗ (bigSep Finset.univ fun d : Fin 3 => dutyTok ER (barCell (nb d c)) 0 d)
    ∗ (bigSep Finset.univ fun x : Fin 16 => dutyTok ER (sndCell x c) 0 0)
    ∗ bigSep Finset.univ fun x : Fin 16 => dutyTok ER (rcvCell x (peer x c)) 0 0)
def credits : sProp 𝕄 :=
  iprop(cred (tallyAt (barCell c) () 3) ∗ bigSep Finset.univ fun x : Fin 16 => cred (tallyAt (rcvCell x c) () (N x)))

/-- What rides from the launch to the kernel; what enters the kernel; what leaves it. -/
def Tk : sProp 𝕄 := iprop((∃ κ, invs P κ) ∗ dealt c ∗ credits c)
def tail : sProp 𝕄 :=
  iprop((bigSep Finset.univ fun d : Fin 3 => dutyTok ER (barCell (nb d c)) 0 d)
    ∗ (atPos ER (barCell c) 0 ∅ 0 ∗ cred (tallyAt (barCell c) () 3))
    ∗ (bigSep Finset.univ fun x : Fin 16 => iprop(atPos ER (sndCell x c) 0 ∅ 0 ∗ dutyTok ER (sndCell x c) 0 0 ∗ dutyTok ER (rcvCell x (peer x c)) 0 0))
    ∗ bigSep Finset.univ (rcvAt (F := F) 0 c))
def Xk : sProp 𝕄 := iprop(∃ κ, ctx P κ c ∗ tail c)
def Yk : sProp 𝕄 := semVal (barCell c) 0

theorem hopen : iprop(Tk P c ∗ Pipeline.ownSems0 osem c ∗ levAts L lv) ⊢ (|={Set.univ}=> Xk P c : sProp 𝕄) := by
  rw [own_zero]
  unfold Tk Xk dealt credits tail
  rw [rcvAt_start]
  iintro ⟨⟨⟨%κ, #HI⟩, ⟨Hb, ⟨Hos, Hor⟩, Htb, Hts, Htr⟩, Hcb, Hcr⟩, ⟨Hvs, Hvr⟩, #Hlev⟩
  imod (open_fam P κ (fun x => sndCell x c) fun x => inv_snd P κ c x) $$ [Hos Hvs] with ⟨Has, #Hrs⟩
  · isplitr; · iexact HI
    isplitl [Hos] <;> iassumption
  imod (open_fam P κ (fun x => rcvCell x c) fun x => inv_rcv P κ c x) $$ [Hor Hvr] with ⟨Har, #Hrr⟩
  · isplitr; · iexact HI
    isplitl [Hor] <;> iassumption
  imodintro
  iexists κ
  isplitr
  · unfold ctx
    isplitr; · iexact HI
    isplitr; · iexact Hlev
    isplitr; · iexact Hrs
    iexact Hrr
  isplitl [Htb]; · iexact Htb
  isplitl [Hb Hcb]; · isplitl [Hb] <;> iassumption
  isplitr [Har Hcr]
  · iapply both
    isplitl [Has]; · iexact Has
    iapply both
    isplitl [Hts] <;> iassumption
  isplitl [Har] <;> iassumption

/-- The kernel's body between what enters it and what leaves it. -/
theorem body_closed {K : PUnit → sProp 𝕄} (I : Ins F) (hI : P c = part I) :
    iprop(Xk P c ∗ owing c (owe₀ c) ∗ held c ∗ inputs c I ∗ any (F := F) cc0_stg5_0 c Finset.univ
      ∗ ((owing c 0 ∗ Yk c ∗ Pipeline.ownSems0 osem c ∗ held c ∗ inputs c I ∗ on cc0_stg5_0 c Finset.univ (total P)) -∗ K ⟨⟩))
    ⊢ run c (app (cc0_body (F := F))) K := by
  unfold Xk Yk
  iintro ⟨⟨%κ, #HI, Ht⟩, Ho, Hh, Hin, Hout, Hk⟩
  iapply (wp_fupd (Fr := frame) (wpE := wpE defs₀ 𝒱₀ c none))
  iapply (body P κ c (K := fun a => iprop(|={Set.univ}=> K a)) I hI)
  isplitr; · iexact HI
  isplitl [Ho Ht]
  · unfold start; isplitl [Ho]; · iexact Ho
    unfold tail; iexact Ht
  isplitl [Hh]; · iexact Hh
  isplitl [Hin]; · iexact Hin
  isplitl [Hout]; · iexact Hout
  iintro ⟨Hd, Hh, Hin, Hout⟩
  imod (close_all P κ c) $$ [Hd] with ⟨Ho, Hb, Hs⟩
  · isplitr; · iexact HI
    iexact Hd
  imodintro
  iapply Hk
  isplitl [Ho]; · iexact Ho
  isplitl [Hb]; · iexact Hb
  isplitl [Hs]; · iexact Hs
  isplitl [Hh]; · iexact Hh
  isplitl [Hin] <;> iassumption

end Cert.KernelIdeal.Reduce
-- ==== Proof.Region.lean ====
/-
  The launch of the kernel as one region of the program: what its six windows hold before and after, and that its body keeps to it.
-/
module

public import proofs.«01_k».proof.Proof.Cells
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The kernel's five inputs on a device, as the host code leaves them; the partial sums of all devices; the kernel's result. -/
def given (c : Dev nD) : Ins F :=
  ⟨V1 m c main_arg0, V1 m c main_arg1, V1 m c main_v11, V1 m c main_v16, V1 m c main_arg4⟩
def parts (c : Dev nD) : FVec F S8x2x64x768 .f32 := part (given m c)
def outs : Outs (F := F) := fun _ r c =>
  Function.update (β := fun r : Ref sig .tc => Buf (Elt F) ((c : Thread nD τ).loc r)) (fun r => V1 m c r) main_v17 (total (parts m)) r
theorem outs_v17 (n : ℕ) (c : Dev nD) : outs m n main_v17 c = total (parts m) :=
  Function.update_self (β := fun r : Ref sig .tc => Buf (Elt F) ((c : Thread nD τ).loc r)) _ _ _
theorem V2_v17 (c : Dev nD) : V2 m (outs m) c main_v17 = total (parts m) :=
  (Function.update_self (β := fun b : DevRef τ sig => b.ty.Contents (Elt F)) _ _ _).trans (outs_v17 m 2 c)

def dat0 (c : Dev nD) : Dat τ (Elt F) Unit ℕ UU ℕ cfg0 c where
  A := fun | 0 => V1 m c main_arg0 | 1 => V1 m c main_arg1 | 2 => V1 m c main_v11 | 3 => V1 m c main_v16 | 4 => V1 m c main_arg4
           | 5 => V1 m c main_v17 | ⟨_ + 6, h⟩ => absurd h (Nat.not_lt.2 (Nat.le_add_left _ _))
  after := fun | 0 => fun _ => (given m c).x | 1 => fun _ => (given m c).wq | 2 => fun _ => (given m c).k | 3 => fun _ => (given m c).v
               | 4 => fun _ => (given m c).wo | 5 => fun _ => total (parts m)
               | ⟨_ + 6, h⟩ => absurd h (Nat.not_lt.2 (Nat.le_add_left _ _))
  Φ t := if t.val = 0 then iprop(Xk (parts m) c ∗ held c ∗ ∃ r, prngReg c r)
    else iprop(Yk c ∗ Pipeline.ownSems0 osem c ∗ held c ∗ ∃ r, prngReg c r)
  q _ := fullShare
  owed t := if t.val = 0 then owe₀ c else 0

def pdats : (p : Fin 1) → (c : Dev nD) → Dat τ (Elt F) Unit ℕ UU ℕ (cfgs p) c := fun _ => dat0 m

theorem owed_eq (c : Dev nD) (t : Fin (cfg0.N + 1)) : (dat0 m c).owed t = if t.val = 0 then owe₀ c else 0 := rfl
theorem owed_first (c : Dev nD) : (dat0 m c).owed 0 = owe₀ c := by rw [owed_eq]; exact if_pos rfl
theorem owed_start (c : Dev nD) : (dat0 m c).owed t0_0.castSucc = owe₀ c := by rw [owed_eq]; exact if_pos rfl
theorem owed_end (c : Dev nD) : (dat0 m c).owed t0_0.succ = 0 := by rw [owed_eq]; exact if_neg (Nat.succ_ne_zero _)
theorem owed_last (c : Dev nD) : (dat0 m c).owed (Fin.last cfg0.N) = 0 := by
  rw [owed_eq]; exact if_neg (by rw [Fin.val_last, show cfg0.N = 1 from N_0]; decide)

theorem owesAt_intro (c : Dev nD) (t : Fin (cfg0.N + 1)) (O : CellTallies nD τ sig Unit) (h : (dat0 m c).owed t = O) :
    owing c O ⊢ ((dat0 m c).owesAt () t : sProp 𝕄) := by
  unfold owing Dat.owesAt Pipeline.owesWithin Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat0 m c).owed t = O) :
    ((dat0 m c).owesAt () t : sProp 𝕄) ⊢ owing c O := by
  unfold owing Dat.owesAt Pipeline.owesWithin; rw [h]
  iintro ⟨%W, -, HO⟩; iexists W; iexact HO

/-- A window is one whole array: its one block is at the start of every axis. -/
theorem emb_whole (w : Fin 6) (h : ∀ a, (cfg0.win w).index t0_0 a = 0) (i : ((cfg0.win w).xblock (cfg0.grid.coords t0_0)).Idx) (a) :
    (((cfg0.win w).rect t0_0).emb i a).val = (i a).val := Pipeline.Window.rect_emb_val_of_index_zero _ _ _ (h a) i

/-- What the body finds in each window's buffer: an input's whole array. -/
theorem before0 (c : Dev nD) (d) : (dat0 m c).before 0 t0_0 d = (given m c).x :=
  ((dat0 m c).before_fetched 0 t0_0 (fetch0_0 t0_0) d).trans (by
    funext i; unfold Dat.fetched Dat.blockOf
    exact congrArg (V1 m c main_arg0) (funext fun a => Fin.ext (emb_whole 0 (by decide) _ a)))
theorem before1 (c : Dev nD) (d) : (dat0 m c).before 1 t0_0 d = (given m c).wq :=
  ((dat0 m c).before_fetched 1 t0_0 (fetch0_1 t0_0) d).trans (by
    funext i; unfold Dat.fetched Dat.blockOf
    exact congrArg (V1 m c main_arg1) (funext fun a => Fin.ext (emb_whole 1 (by decide) _ a)))
theorem before2 (c : Dev nD) (d) : (dat0 m c).before 2 t0_0 d = (given m c).k :=
  ((dat0 m c).before_fetched 2 t0_0 (fetch0_2 t0_0) d).trans (by
    funext i; unfold Dat.fetched Dat.blockOf
    exact congrArg (V1 m c main_v11) (funext fun a => Fin.ext (emb_whole 2 (by decide) _ a)))
theorem before3 (c : Dev nD) (d) : (dat0 m c).before 3 t0_0 d = (given m c).v :=
  ((dat0 m c).before_fetched 3 t0_0 (fetch0_3 t0_0) d).trans (by
    funext i; unfold Dat.fetched Dat.blockOf
    exact congrArg (V1 m c main_v16) (funext fun a => Fin.ext (emb_whole 3 (by decide) _ a)))
theorem before4 (c : Dev nD) (d) : (dat0 m c).before 4 t0_0 d = (given m c).wo :=
  ((dat0 m c).before_fetched 4 t0_0 (fetch0_4 t0_0) d).trans (by
    funext i; unfold Dat.fetched Dat.blockOf
    exact congrArg (V1 m c main_arg4) (funext fun a => Fin.ext (emb_whole 4 (by decide) _ a)))
theorem before5 (c : Dev nD) (d) : (dat0 m c).before 5 t0_0 d = d := (dat0 m c).before_out_reset 5 rfl t0_0 (.inl rfl) d

/-- The region leaves the inputs' arrays as they were and the kernel's result in the output's. -/
theorem arrAt5 (c : Dev nD) : (dat0 m c).arrAt 5 cfg0.N = total (parts m) :=
  (dat0 m c).arrAt_eq_of_after_last 5 t0_0 (by decide +kernel) _ fun _ => rfl

set_option backward.isDefEq.respectTransparency.types false in
theorem keeps (c : Dev nD) : BodyObligation (dat0 m c) defs₀ 𝒱₀ () Set.univ := fun t => by
  obtain rfl := fin_N0 t
  rw [bigSep_W0, bigSep_W0]
  rw [show (dat0 m c).Φ t0_0.castSucc = iprop(Xk (parts m) c ∗ held c ∗ ∃ r, prngReg c r) from rfl,
    show (dat0 m c).Φ t0_0.succ = iprop(Yk c ∗ Pipeline.ownSems0 osem c ∗ held c ∗ ∃ r, prngReg c r) from rfl]
  iintro ⟨⟨HX, Hh, Hp⟩, HO, ⟨%d0, H0⟩, ⟨%d1, H1⟩, ⟨%d2, H2⟩, ⟨%d3, H3⟩, ⟨%d4, H4⟩, ⟨%d5, H5⟩⟩
  rw [before0 m c d0, before1 m c d1, before2 m c d2, before3 m c d3, before4 m c d4, before5 m c d5]
  ihave HO := (owesAt_elim m c _ (owe₀ c) (owed_start m c)) $$ HO
  ihave H0 := (Entails.of_eq (owns_whole (c : Thread nD τ) cc0_stg0_0 fullShare (given m c).x)) $$ H0
  ihave H1 := (Entails.of_eq (owns_whole (c : Thread nD τ) cc0_stg1_0 fullShare (given m c).wq)) $$ H1
  ihave H2 := (Entails.of_eq (owns_whole (c : Thread nD τ) cc0_stg2_0 fullShare (given m c).k)) $$ H2
  ihave H3 := (Entails.of_eq (owns_whole (c : Thread nD τ) cc0_stg3_0 fullShare (given m c).v)) $$ H3
  ihave H4 := (Entails.of_eq (owns_whole (c : Thread nD τ) cc0_stg4_0 fullShare (given m c).wo)) $$ H4
  ihave H5 := (Entails.of_eq (owns_whole (c : Thread nD τ) cc0_stg5_0 fullShare d5)) $$ H5
  iapply (body_closed (parts m) c (K := _) (given m c) rfl)
  isplitl [HX]; · iexact HX
  isplitl [HO]; · iexact HO
  isplitl [Hh]; · iexact Hh
  isplitl [H0 H1 H2 H3 H4]
  · unfold inputs
    isplitl [H0]; · iexact H0
    isplitl [H1]; · iexact H1
    isplitl [H2]; · iexact H2
    isplitl [H3]; · iexact H3
    iexact H4
  isplitl [H5]; · iexists d5; iexact H5
  unfold inputs
  iintro ⟨HO, HY, Hs, Hh, ⟨H0, H1, H2, H3, H4⟩, H5⟩
  isplitl [HY Hs Hh Hp]
  · isplitl [HY]; · iexact HY
    isplitl [Hs]; · iexact Hs
    isplitl [Hh] <;> iassumption
  isplitl [HO]; · iapply (owesAt_intro m c t0_0.succ 0 (owed_end m c)) $$ HO
  isplitl [H0]; · iapply (Entails.of_eq (owns_whole (c : Thread nD τ) cc0_stg0_0 fullShare (given m c).x).symm) $$ H0
  isplitl [H1]; · iapply (Entails.of_eq (owns_whole (c : Thread nD τ) cc0_stg1_0 fullShare (given m c).wq).symm) $$ H1
  isplitl [H2]; · iapply (Entails.of_eq (owns_whole (c : Thread nD τ) cc0_stg2_0 fullShare (given m c).k).symm) $$ H2
  isplitl [H3]; · iapply (Entails.of_eq (owns_whole (c : Thread nD τ) cc0_stg3_0 fullShare (given m c).v).symm) $$ H3
  isplitl [H4]; · iapply (Entails.of_eq (owns_whole (c : Thread nD τ) cc0_stg4_0 fullShare (given m c).wo).symm) $$ H4
  iapply (Entails.of_eq (owns_whole (c : Thread nD τ) cc0_stg5_0 fullShare (total (parts m))).symm) $$ H5

/-! ## The region's record -/

theorem facts0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the region does not stage. -/
def others : Finset (DevRef τ sig) := Pipeline.ucRefs τ sig \ Pipeline.arrRefs (τ := τ) spec0

theorem enter (c : Dev nD) : iprop(Pipeline.scopedRest (Val := Elt F) spec0 c ∗ (∃ r, prngReg c r)
      ∗ StableHlo.held (c.tc : Thread nD τ) ∅ (V1 m c) ∗ Xk (parts m) c) ⊢ ((dat0 m c).Φ 0 : sProp 𝕄) := by
  rw [show (dat0 m c).Φ 0 = iprop(Xk (parts m) c ∗ held c ∗ ∃ r, prngReg c r) from rfl, scopedRest0_eq]
  unfold held
  iintro ⟨Hs, Hp, -, HX⟩
  isplitl [HX]; · iexact HX
  isplitl [Hs]; · iexact Hs
  iexact Hp
theorem leave (c : Dev nD) : ((dat0 m c).Φ (Fin.last cfg0.N) : sProp 𝕄)
    ⊢ iprop(Pipeline.scopedRest (Val := Elt F) spec0 c ∗ (∃ r, prngReg c r) ∗ StableHlo.held (c.tc : Thread nD τ) ∅ (V2 m (outs m) c)
      ∗ Pipeline.ownSems0 osem c ∗ Yk c) := by
  rw [show (dat0 m c).Φ (Fin.last cfg0.N) = iprop(Yk c ∗ Pipeline.ownSems0 osem c ∗ held c ∗ ∃ r, prngReg c r) from rfl, scopedRest0_eq,
    show (StableHlo.held (c.tc : Thread nD τ) ∅ (V2 m (outs m) c) : sProp 𝕄) = BI.emp from BI.bigSep_empty]
  unfold held
  iintro ⟨HY, Hs, Hh, Hp⟩
  isplitl [Hh]; · iexact Hh
  isplitl [Hp]; · iexact Hp
  isplitr; · iempintro
  isplitl [Hs] <;> iassumption

theorem owe_pos {c : Dev nD} {g : GSem nD τ sig} {u : Unit} (h : 0 < owe₀ c g u) : u ∈ L g ∧ 0 < lv g u := by
  unfold owe₀ at h
  rw [Pi.add_apply, Finsupp.add_apply] at h
  rcases Nat.add_pos_iff_pos_or_pos.mp h with h | h
  · obtain ⟨x, -, rfl⟩ := oweFrom_pos h
    exact ⟨by rw [L_tc]; exact Finset.mem_singleton_self _, by rw [lv_rcv]; omega⟩
  · obtain ⟨d, rfl⟩ := oweBar_pos h
    exact ⟨by rw [L_tc]; exact Finset.mem_singleton_self _, by rw [lv_bar]; omega⟩

theorem level_cut : Pipeline.LevelCutOwed (pcfgs (F := F)) adm (pdats m) () L lv 0 (fun _ => 0) where
  hι c w s := by rw [L_tc]; exact Finset.mem_singleton_self _
  hιb c w s := by
    exact (by decide : ∀ (w : Fin 6) (s : Fin (win0 w).nbuf), lv (((0 : Dev nD) : Thread nD τ), .dma ((win0 w).sem s)) () ≤ 0) w s
  hD c t g i h := by
    rw [show (pdats m 0 c).owed t = if t.val = 0 then owe₀ c else 0 from rfl] at h
    split at h
    · exact owe_pos h
    · exact absurd h (Nat.lt_irrefl 0)

theorem arr_start (c : Dev nD) : ∀ w : Fin 6, (dat0 m c).arrAt w 0 = V1 m c (Proc.devRef .tc (Pipeline.arrRef spec0 w)) :=
  fun | 0 => rfl | 1 => rfl | 2 => rfl | 3 => rfl | 4 => rfl | 5 => rfl | ⟨_ + 6, h⟩ => absurd h (Nat.not_lt.2 (Nat.le_add_left _ _))
theorem arr_end (c : Dev nD) : ∀ w : Fin 6, (dat0 m c).arrAt w cfg0.N = V2 m (outs m) c (Proc.devRef .tc (Pipeline.arrRef spec0 w)) :=
  fun
  | 0 => ((dat0 m c).arrAt_in 0 rfl _).trans (V2_of m (outs m) c main_arg0 (by decide)).symm
  | 1 => ((dat0 m c).arrAt_in 1 rfl _).trans (V2_of m (outs m) c main_arg1 (by decide)).symm
  | 2 => ((dat0 m c).arrAt_in 2 rfl _).trans (V2_of m (outs m) c main_v11 (by decide)).symm
  | 3 => ((dat0 m c).arrAt_in 3 rfl _).trans (V2_of m (outs m) c main_v16 (by decide)).symm
  | 4 => ((dat0 m c).arrAt_in 4 rfl _).trans (V2_of m (outs m) c main_arg4 (by decide)).symm
  | 5 => (arrAt5 m c).trans (V2_v17 m c).symm
  | ⟨_ + 6, h⟩ => absurd h (Nat.not_lt.2 (Nat.le_add_left _ _))

theorem others_same (c : Dev nD) : ∀ b ∈ others \ ∅, V2 m (outs m) c b = V1 m c b := fun b hb => by
  refine Function.update_of_ne (β := fun b : DevRef τ sig => b.ty.Contents (Elt F)) (fun e => ?_) _ _
  subst e; revert hb; unfold others; decide

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) facts0 rfl (fun c => (keeps m c).loose)
    (fun _ => 0) owe₀ (fun c => (owed_first m c).trans (zero_add _).symm) (owed_last m) (fun _ => rfl)
    (fun c => (dat0 m c).share_full fun _ => rfl)
    (V1 m) (V2 m (outs m)) (others_same m)
    (Tk (parts m)) Yk (Xk (parts m)) Yk (hopen (parts m)) (enter m) (leave m)
    (fun c => by iintro H; imodintro; iexact H)
    (fun _ => 0) (level_cut m) (fun _ => iprop(emp)) (arr_start m) (arr_end m)

end Cert.KernelIdeal.Reduce
-- ==== Proof.Funding.lean ====
/-
  What the launch deals: every cell's invariant, each device's rights and tokens, and the credit for what the others owe it.
-/
module

public import proofs.«01_k».proof.Proof.Region

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S8x2x64x768 .f32)

theorem osem_inj : Function.Injective osem := own_facts.inj
theorem osem_ne_bar (k : Fin 2 × Fin 16) : osem k ≠ .reg barS := fun h => by unfold osem at h; cases h

def barEmb : Dev nD ↪ GSem nD τ sig := ⟨fun c => barCell c, fun _ _ h => congrArg (fun g : GSem nD τ sig => g.1.1) h⟩
def ownEmb : Dev nD × (Fin 2 × Fin 16) ↪ GSem nD τ sig :=
  ⟨fun p => ((p.1 : Thread nD τ), osem p.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- Every duty: three at each barrier, one at each copy semaphore. -/
def dutySem : Fin 3 ⊕ (Fin 2 × Fin 16) → SemLoc sig := Sum.elim (fun _ => .reg barS) osem
def dutyIx : Fin 3 ⊕ (Fin 2 × Fin 16) → Fin 3 := Sum.elim id fun _ => 0
theorem duty_inj : Function.Injective fun k => (dutySem k, dutyIx k) := by
  rintro (d | k) (d' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))
def allToks : Finset (GSem nD τ sig × ℕ × Fin 3) :=
  Finset.univ.map ⟨fun p : Dev nD × (Fin 3 ⊕ (Fin 2 × Fin 16)) => (((p.1 : Thread nD τ), dutySem p.2), 0, dutyIx p.2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩

theorem cells_apart : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The launch's element, all of it parked on device 0 till the global step. -/
def u₀ : UU :=
  (initOf (Pipeline.cells (Pipeline.pin (pcfgs (F := F)) adm) cellOf_inj) (Pipeline.launchToks (Pipeline.pin (pcfgs (F := F)) adm) cellOf_inj),
    launchOf barCells ownCells allToks)
def parked (X : sProp 𝕄) (c : Dev nD) : sProp 𝕄 := if c = 0 then X else iprop(emp)
theorem parked_all (X : sProp 𝕄) : bigSep Finset.univ (parked X) = X := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf barCells ownCells allToks)))

/-! ## The invariants, for everyone -/

theorem all_invs (κ : GSem nD τ sig → ℕ) :
    iprop((bigSep (barCells ∪ ownCells) fun g => cellInv ER (rd P) (κ g) g) ∗ bigSep barCells fun g => reached ER g 0) ⊢ (invs P κ : sProp 𝕄) := by
  have hU : bigSep (barCells ∪ ownCells) (fun g => (cellInv ER (rd P) (κ g) g : sProp 𝕄))
      = iprop((bigSep Finset.univ fun c : Dev nD => cellInv ER (rd P) (κ (barCell c)) (barCell c))
        ∗ (bigSep Finset.univ fun c : Dev nD => iprop((bigSep Finset.univ fun x : Fin 16 => cellInv ER (rd P) (κ (sndCell x c)) (sndCell x c))
          ∗ bigSep Finset.univ fun x : Fin 16 => cellInv ER (rd P) (κ (rcvCell x c)) (rcvCell x c)))) := by
    rw [bigSep_union cells_apart, bigSep_map, bigSep_map, bigSep_univ_prod]
    exact congrArg₂ _ rfl (bigSep_congr fun c _ => (bigSep_univ_prod _).trans (BI.bigSep_fin_two _))
  rw [hU, bigSep_map]
  unfold invs
  rw [bigSep_univ_prod, bigSep_univ_prod]
  iintro ⟨⟨Hb, Ho⟩, Hr⟩
  ihave H := apart $$ Ho
  icases H with ⟨Hs, Hv⟩
  isplitl [Hb]; · iexact Hb
  isplitl [Hs]; · iexact Hs
  isplitl [Hv]; · iexact Hv
  iexact Hr

/-! ## The tokens, each to the device that pays -/

/-- A family over the devices, each member seen from the neighbour across its own dimension. -/
theorem around {ι : Type} [Fintype ι] (k : ι → Fin 3) (Φ : ι → Dev nD → sProp 𝕄) :
    (bigSep Finset.univ fun c : Dev nD => bigSep Finset.univ fun i => Φ i c) = bigSep Finset.univ fun c : Dev nD => bigSep Finset.univ fun i => Φ i (nb (k i) c) := by
  rw [← bigSep_univ_prod (fun p : Dev nD × ι => Φ p.2 p.1), ← bigSep_univ_prod (fun p : Dev nD × ι => Φ p.2 (nb (k p.2) p.1))]
  exact bigSep_univ_equiv ⟨fun p : Dev nD × ι => (nb (k p.2) p.1, p.2), fun p => (nb (k p.2) p.1, p.2),
    fun p => Prod.ext (nb_nb _ _) rfl, fun p => Prod.ext (nb_nb _ _) rfl⟩ _

theorem toks_dealt : bigSep allToks (fun t => (dutyTok ER t.1 t.2.1 t.2.2 : sProp 𝕄))
    ⊢ bigSep Finset.univ fun c : Dev nD => iprop((bigSep Finset.univ fun d : Fin 3 => dutyTok ER (barCell (nb d c)) 0 d)
      ∗ (bigSep Finset.univ fun x : Fin 16 => dutyTok ER (sndCell x c) 0 0) ∗ bigSep Finset.univ fun x : Fin 16 => dutyTok ER (rcvCell x (peer x c)) 0 0) := by
  have h₁ : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nb d c)) 0 d :=
    around id fun d c => dutyTok ER (barCell c) 0 d
  have h₂ : (bigSep Finset.univ fun c : Dev nD => bigSep Finset.univ fun x : Fin 16 => (dutyTok ER (rcvCell x c) 0 0 : sProp 𝕄))
      = bigSep Finset.univ fun c : Dev nD => bigSep Finset.univ fun x : Fin 16 => dutyTok ER (rcvCell x (peer x c)) 0 0 :=
    around cls fun x c => dutyTok ER (rcvCell x c) 0 0
  rw [bigSep_sep', bigSep_sep', ← h₁, ← h₂, ← bigSep_sep', ← bigSep_sep']
  unfold allToks
  refine Entails.of_eq ((bigSep_map _).trans ((bigSep_univ_prod _).trans (bigSep_congr fun c _ => ?_)))
  rw [BI.bigSep_univ_sum, bigSep_univ_prod, BI.bigSep_fin_two]
  rfl

/-! ## The credit -/

theorem rcv_inj {x x' : Fin 16} {c c' : Dev nD} : rcvCell x c = rcvCell x' c' ↔ x = x' ∧ c = c' := by
  constructor
  · intro h
    exact ⟨congrArg Prod.snd (osem_inj (a₁ := (1, x)) (a₂ := (1, x')) (congrArg Prod.snd h)), congrArg (fun g : GSem nD τ sig => g.1.1) h⟩
  · rintro ⟨rfl, rfl⟩; rfl
theorem bar_inj {c c' : Dev nD} : barCell c = barCell c' ↔ c = c' :=
  ⟨fun h => congrArg (fun g : GSem nD τ sig => g.1.1) h, fun h => h ▸ rfl⟩
theorem rcv_ne_bar (x : Fin 16) (c c' : Dev nD) : rcvCell x c ≠ barCell c' := fun h => osem_ne_bar (1, x) (congrArg Prod.snd h)

theorem owed_at (d : Dev nD) (g : GSem nD τ sig) : owe₀ d g ()
    = (∑ x : Fin 16, if g = rcvCell x (peer x d) then N x else 0) + ∑ k : Fin 3, if g = barCell (nb k d) then 1 else 0 := by
  unfold owe₀ oweFrom oweBar
  rw [Pi.add_apply, Finsupp.add_apply, Finset.sum_apply, Finset.sum_apply, Finsupp.finset_sum_apply, Finsupp.finset_sum_apply]
  simp only [Nat.zero_le, Finset.filter_true, tallyAt_apply, and_true]

theorem owed_bar (c : Dev nD) : ∑ d : Dev nD, owe₀ d (barCell c) () = 3 := by
  simp only [owed_at, (rcv_ne_bar _ _ _).symm, if_false, Finset.sum_const_zero, zero_add, bar_inj]
  rw [Finset.sum_comm]
  refine (Finset.sum_congr rfl fun k _ => ?_).trans (show ∑ _k : Fin 3, 1 = 3 from rfl)
  rw [Finset.sum_congr rfl fun d _ => if_congr (show c = nb k d ↔ d = nb k c from ⟨fun h => by rw [h, nb_nb], fun h => by rw [h, nb_nb]⟩) rfl rfl]
  rw [Finset.sum_ite_eq', if_pos (Finset.mem_univ _)]
theorem owed_rcv (x : Fin 16) (c : Dev nD) : ∑ d : Dev nD, owe₀ d (rcvCell x c) () = N x := by
  simp only [owed_at, rcv_ne_bar, if_false, Finset.sum_const_zero, add_zero, rcv_inj]
  rw [Finset.sum_comm, Finset.sum_eq_single x]
  · rw [Finset.sum_congr rfl fun d _ => if_congr (show x = x ∧ c = peer x d ↔ d = peer x c from
      ⟨fun h => by rw [h.2]; exact (nb_nb _ _).symm, fun h => ⟨rfl, by rw [h]; exact (nb_nb _ _).symm⟩⟩) rfl rfl]
    rw [Finset.sum_ite_eq', if_pos (Finset.mem_univ _)]
  · intro y _ hy
    exact Finset.sum_eq_zero fun d _ => if_neg fun h => hy h.1.symm
  · exact fun h => absurd (Finset.mem_univ _) h

theorem credit_bar (c : Dev nD) : tallyOn (barCell c) (launchCredit (Pipeline.owing owe₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
theorem credit_rcv (x : Fin 16) (c : Dev nD) :
    tallyOn (rcvCell x c) (launchCredit (Pipeline.owing owe₀) 0 (rcvCell x c)) = (tallyAt (rcvCell x c) () (N x) : CellTallies nD τ sig Unit) := by
  unfold tallyAt; refine congrArg _ (Finsupp.ext fun u => ?_); cases u
  rw [Pipeline.launchCredit_owing, Finsupp.single_eq_same, owed_rcv]

def rcvEmb : Fin 16 ↪ SemLoc sig := ⟨fun x => .dma (rcvS x), fun x y h => congrArg Prod.snd (osem_inj (a₁ := (1, x)) (a₂ := (1, y)) h)⟩
theorem creds (c : Dev nD) : (Pipeline.launchCred owe₀ c : sProp 𝕄) ⊢ credits c := by
  unfold Pipeline.launchCred credits
  rw [bigSep_univ_at _ (SemLoc.reg barS), credit_bar]
  refine sep_mono_right ?_
  rw [show (bigSep Finset.univ fun x : Fin 16 => (cred (tallyAt (rcvCell x c) () (N x)) : sProp 𝕄))
    = bigSep (Finset.univ.map rcvEmb) fun sm => cred (tallyOn ((c.tc : Thread nD τ), sm) (launchCredit (Pipeline.owing owe₀) 0 ((c.tc : Thread nD τ), sm)))
    from (bigSep_congr fun x _ => congrArg cred (credit_rcv x c).symm).trans (bigSep_map (s := Finset.univ) rcvEmb
      (Φ := fun sm : SemLoc sig => (cred (tallyOn ((c.tc : Thread nD τ), sm) (launchCredit (Pipeline.owing owe₀) 0 ((c.tc : Thread nD τ), sm))) : sProp 𝕄))).symm]
  refine bigSep_subset fun s hs => ?_
  obtain ⟨x, -, rfl⟩ := Finset.mem_map.mp hs
  exact Finset.mem_erase.mpr ⟨osem_ne_bar (1, x), Finset.mem_univ _⟩

end Cert.KernelIdeal.Reduce
-- ==== Proof.Run.lean ====
/-
  The whole program on all devices: what every run ends with.
-/
module

public import proofs.«01_k».proof.Proof.Funding

@[expose] public section

noncomputable section

namespace Cert.KernelIdeal.Reduce

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers before the kernel, and after it. -/
def E : Fin 2 → Dev nD → sProp 𝕄
  | 0 => fun c => iprop(Tk (parts m) c ∗ (∃ r, prngReg c r) ∗ owing c (owe₀ c))
  | 1 => fun c => iprop(semVal (barCell c) 0 ∗ owing c 0)

/-- The part of a device's launch holdings that is no ghost state. -/
def bundle (c : Dev nD) : sProp 𝕄 :=
  iprop(StableHlo.held (c : Thread nD τ) (Pipeline.ucRefs τ sig) (V0 m c) ∗ credits c ∗ (∃ r, prngReg c r) ∗ owing c (owe₀ c))
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2 m (outs m) c) ∗ semVal (barCell c) 0)

theorem T₀_of (κ : GSem nD τ sig → ℕ) (c : Dev nD) : iprop(invs (parts m) κ ∗ (dealt c ∗ bundle m c)) ⊢ T₀ m c := by
  unfold bundle T₀ E Tk
  iintro ⟨#HI, Hd, Hh, Hc, Hp, HO⟩
  isplitl [Hh]; · iexact Hh
  isplitl [Hd Hc]
  · isplitr; · iexists κ; iexact HI
    isplitl [Hd] <;> iassumption
  isplitl [Hp] <;> iassumption

theorem unscoped_zero (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_only : ∀ sm : SemLoc sig, sm.isScoped .tc = false → sm = .reg barS := by decide

theorem launch_core (c : Dev nD) : iprop(unscopedBufs c (fun b => m ((c : Thread nD τ).loc b)) ∗ unscopedSems0 c
      ∗ owes (c : Thread nD τ) (owe₀ c) ∅ ∗ Pipeline.launchCred owe₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held c (V0 m c), unscoped_zero]
  unfold bundle owing
  iintro ⟨Hh, Hs, HO, Hc, Hp, HG⟩
  isplitr [Hs HG]
  · isplitl [Hh]; · iexact Hh
    isplitl [Hc]; · iapply (creds c) $$ Hc
    isplitl [Hp]; · iexists (ρ c); iexact Hp
    iexists ∅; iexact HO
  isplitl [Hs] <;> iassumption

theorem init :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c))
      ⊢ (bigSep Finset.univ fun c : Dev nD => iprop(bundle m c ∗ (semVal (barCell c) 0 ∗ G c)) : sProp 𝕄) from bigSep_mono fun c _ => launch_core m ρ c) $$ H
  ihave H := apart $$ H; icases H with ⟨HB, H⟩
  ihave H := apart $$ H; icases H with ⟨Hv, HG⟩
  ihave Hu := (show bigSep Finset.univ (G (F := F)) ⊢ BI.own (ER (launchOf barCells ownCells allToks)) from Entails.of_eq (parked_all _)) $$ HG
  imod (Rounds.fund_launch ER (rd (parts m)) cells_apart (fun g _ h => h) allToks) $$ [Hv Hu] with ⟨%κ, -, #Hinv, #Hr, Hat, Hopen, Htok⟩
  · isplitl [Hv]
    · iapply (show bigSep Finset.univ (fun c : Dev nD => (semVal (barCell c) 0 : sProp 𝕄)) ⊢ bigSep barCells (fun g => (semVal g 0 : sProp 𝕄)) from
        Entails.of_eq (bigSep_map (s := Finset.univ) barEmb (Φ := fun g : GSem nD τ sig => (semVal g 0 : sProp 𝕄))).symm) $$ Hv
    · iexact Hu
  imodintro
  iapply (bigSep_with_persistent (R := invs (parts m) κ) (Φ := fun c => iprop(dealt c ∗ bundle m c)) fun c _ => T₀_of m κ c)
  isplitr
  · iapply (all_invs (parts m) κ)
    isplitr; · iexact Hinv
    iexact Hr
  iapply both
  isplitr [HB]
  · unfold dealt
    iapply both; isplitl [Hat]
    · iapply (show bigSep barCells (fun g => (atPos ER g 0 ∅ 0 : sProp 𝕄)) ⊢ bigSep Finset.univ (fun c : Dev nD => (atPos ER (barCell c) 0 ∅ 0 : sProp 𝕄)) from
        Entails.of_eq (bigSep_map (s := Finset.univ) barEmb (Φ := fun g : GSem nD τ sig => (atPos ER g 0 ∅ 0 : sProp 𝕄)))) $$ Hat
    iapply both; isplitl [Hopen]
    · iapply (show bigSep ownCells (fun g => (openTok ER g : sProp 𝕄)) ⊢ bigSep Finset.univ (fun c : Dev nD =>
          iprop((bigSep Finset.univ fun x : Fin 16 => openTok ER (sndCell x c)) ∗ bigSep Finset.univ fun x : Fin 16 => openTok ER (rcvCell x c))) from
        Entails.of_eq ((bigSep_map (s := Finset.univ) ownEmb (Φ := fun g : GSem nD τ sig => (openTok ER g : sProp 𝕄))).trans
          ((bigSep_univ_prod _).trans (bigSep_congr fun c _ => (bigSep_univ_prod _).trans (BI.bigSep_fin_two _))))) $$ Hopen
    iapply toks_dealt $$ Htok
  · iexact HB

/-! ## The two ends of the region -/

theorem arr_sub : Pipeline.arrRefs (τ := τ) spec0 ⊆ Pipeline.ucRefs τ sig := by decide

set_option backward.isDefEq.respectTransparency.types false in
theorem region_pre (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk (parts m) c ∗ ∃ W, owes (c : Thread nD τ) (0 + owe₀ c) W)
  rw [zero_add, StableHlo.held_sub_split (c.tc : Thread nD τ) arr_sub (V1 m c)]
  unfold E owing others
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

set_option backward.isDefEq.respectTransparency.types false in
theorem region_post (c : Dev nD) : (region m).post c
    ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ W, owes (c : Thread nD τ) (0 : CellTallies nD τ sig Unit) W) ⊢ _
  rw [StableHlo.held_sub_split (c.tc : Thread nD τ) arr_sub (V2 m (outs m) c)]
  unfold E Yk owing others
  iintro ⟨Ha, -, ⟨Hr, -⟩, Hb, HO⟩
  isplitl [Ha Hr]; · isplitl [Ha] <;> iassumption
  isplitl [Hb] <;> iassumption

/-- What one device's memory ends with. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = total (parts m)

theorem read_end (c : Dev nD) (s : Phys nD τ sig (Elt F)) :
    iprop(Tₙ m c ∗ SI s) ⊢ (|={Set.univ}=> iprop(⌜Ends m c s.mem ∧ s.mem.sem (barCell c) = 0⌝ ∗ SI s) : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V2 m (outs m) c) s) $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_arg3) (Finset.mem_filter.mpr ⟨StableHlo.devRef_mem_tcRefs main_arg3, by decide⟩)).trans (V2_main_arg3 m (outs m) c),
      (h (Proc.devRef .tc main_arg4) (Finset.mem_filter.mpr ⟨StableHlo.devRef_mem_tcRefs main_arg4, by decide⟩)).trans (V2_main_arg4 m (outs m) c)⟩,
      (h (Proc.devRef .tc main_v17) (Finset.mem_filter.mpr ⟨StableHlo.devRef_mem_tcRefs main_v17, by decide⟩)).trans (V2_v17 m c)⟩, by simpa using hb⟩
  · iexact HSI

set_option backward.isDefEq.respectTransparency.types false in
/-- Every run ends, with the arguments unchanged, the same result on every device, and every semaphore at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Seg.run_eq_chain,
        show (segs m 𝒱₀ L lv (E m) () (pdats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := owe₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, region_pre m c, (region_post m c).trans (by
      unfold E owing
      iintro ⟨Hh, Hb, HO⟩
      isplitr [HO]
      · isplitl [Hh] <;> iassumption
      · iexact HO)⟩)
    (hinit := init m ρ)
    (QY := fun c s => Ends m c s ∧ s.sem (barCell c) = 0)
    (hfin := read_end m)
    (hQ := fun s h hs => ⟨fun c => (h c).1, sem_eq_zero hs fun c sm hsm => by
      obtain rfl := unscoped_only sm hsm
      exact (h c).2⟩)

/-- Its frame. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_main m ρ)

end Cert.KernelIdeal.Reduce
-- ==== Proof.TotalAt.lean ====
/-
  The sum that the three exchanges make, at an index: every device's partial sum once.
-/
module

public import proofs.«01_k».proof.Proof.Values
public import Idealize.ShloMosaic.Lib.Pointwise

@[expose] public section

noncomputable section

namespace Cert.KernelIdeal.Reduce

open Idealize.ShloMosaic Cert.KernelIdeal Cert.KernelIdeal.Gen

/-- The devices in the order in which device `c` adds them up, where it takes first from `p` and then from `q`. -/
def order (p q : Fin 3) (c : Dev nD) : List (Fin 8) :=
  [c, nb 0 c, nb p c, nb 0 (nb p c), nb q c, nb 0 (nb q c), nb p (nb q c), nb 0 (nb p (nb q c))]

theorem order_perm : ∀ c : Dev nD, (order 1 2 c).Perm (List.finRange 8) ∧ (order 2 1 c).Perm (List.finRange 8) := by decide +kernel

theorem sum_order (f : Fin 8 → EReal) (l : List (Fin 8)) (h : l.Perm (List.finRange 8)) : (l.map f).sum = ∑ c, f c := by
  rw [Fin.sum_univ_def]
  exact (h.map f).sum_eq

theorem addRnd_at (a b : FVec Ideal S8x2x64x768 .f32) (j : S8x2x64x768.Idx) : addRnd a b j = (a j + b j : EReal) := rfl

variable (P : Dev nD → FVec Ideal S8x2x64x768 .f32)

theorem acc3_at (c : Dev nD) (j : S8x2x64x768.Idx) : acc3 P c j = ∑ s : Fin 8, P s j := by
  by_cases h : (j 3).val < 384
  · rw [← sum_order (fun s => P s j) _ (order_perm c).1]
    have e : acc3 P c j = ((P c j + P (nb 0 c) j) + (P (nb 1 c) j + P (nb 0 (nb 1 c)) j))
        + ((P (nb 2 c) j + P (nb 0 (nb 2 c)) j) + (P (nb 1 (nb 2 c)) j + P (nb 0 (nb 1 (nb 2 c))) j)) := by
      simp only [acc3, acc2, acc1, addRnd_at, cols, if_pos h]
    rw [e]
    simp only [order, List.map_cons, List.map_nil, List.sum_cons, List.sum_nil, add_zero]
    ac_rfl
  · rw [← sum_order (fun s => P s j) _ (order_perm c).2]
    have e : acc3 P c j = ((P c j + P (nb 0 c) j) + (P (nb 2 c) j + P (nb 0 (nb 2 c)) j))
        + ((P (nb 1 c) j + P (nb 0 (nb 1 c)) j) + (P (nb 2 (nb 1 c)) j + P (nb 0 (nb 2 (nb 1 c))) j)) := by
      simp only [acc3, acc2, acc1, addRnd_at, cols, if_neg h]
    rw [e]
    simp only [order, List.map_cons, List.map_nil, List.sum_cons, List.sum_nil, add_zero]
    ac_rfl

/-- The result at an index. -/
theorem total_read (b : Fin 2) (i : Fin 512) (n : Fin 768) : total P (ix3 b i n)
    = ∑ s : Fin 8, P s (ix4 (⟨i.val / 64, by omega⟩ : Fin 8) b (⟨i.val % 64, by omega⟩ : Fin 64) n) := by
  show acc3 P _ _ = _
  rw [acc3_at]
  refine Finset.sum_congr rfl fun s _ => congrArg (P s) ?_
  exact congrArg₂ (fun x y => ix4 x b (⟨i.val % 64, by omega⟩ : Fin 64) y) (Fin.ext (Nat.mod_eq_of_lt (by show i.val / 64 < 8; omega)))
    (Fin.ext (Nat.mod_eq_of_lt n.isLt))

end Cert.KernelIdeal.Reduce
-- ==== Proof.Softmax.lean ====
/-
  Sums and quotients of extended reals: the two ways of normalizing a row of weights agree when the scores are real.
-/
module

public import Idealize.ShloMosaic.Lib.IdealHost

@[expose] public section

noncomputable section

namespace Cert.Maths

open Idealize.ShloMosaic

/-- The values that are real. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- A factor that is real and not negative may be taken out of a sum. -/
theorem sum_mul_coe {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A scale on the weights of the inner sums is a scale on the outer one. -/
theorem scale_out {n m : ℕ} (x : Fin n → EReal) (w : Fin n → Fin m → EReal) (k : Fin m → EReal) {c : ℝ} (hc : 0 ≤ c) :
    ∑ d, (∑ i, x i * (w i d * (c : EReal))) * k d = (∑ d, (∑ i, x i * w i d) * k d) * (c : EReal) := by
  rw [← sum_mul_coe _ _ hc]
  refine Finset.sum_congr rfl fun d _ => ?_
  have h : ∑ i, x i * (w i d * (c : EReal)) = (∑ i, x i * w i d) * (c : EReal) := by
    rw [← sum_mul_coe _ _ hc]
    exact Finset.sum_congr rfl fun i _ => (mul_assoc _ _ _).symm
  rw [h, mul_assoc, mul_comm (c : EReal), ← mul_assoc]

/-- The largest of finitely many reals is real. -/
theorem top_real {n : ℕ} [NeZero n] (s : Fin n → ℝ) : IsReal (Finset.univ.fold max (⊥ : EReal) (fun j => (s j : EReal))) := by
  obtain ⟨i, -, h⟩ := Finset.exists_mem_eq_sup (Finset.univ : Finset (Fin n)) ⟨0, Finset.mem_univ _⟩ (fun j => (s j : EReal))
  exact ⟨s i, h⟩

/-- Weights divided by their sum one by one, the largest score taken off first, or all of it divided at the end. -/
theorem softmax {n : ℕ} [NeZero n] (s : Fin n → EReal) (hs : ∀ j, IsReal (s j)) (v : Fin n → EReal) :
    ∑ j, v j * Ideal.div (Ideal.exp (s j - Finset.univ.fold max (⊥ : EReal) s)) (∑ l, Ideal.exp (s l - Finset.univ.fold max (⊥ : EReal) s))
      = (∑ j, Ideal.exp (s j) * v j) * Ideal.div 1 (∑ j, Ideal.exp (s j)) := by
  choose r hr using hs
  obtain rfl : s = fun j => (r j : EReal) := funext hr
  obtain ⟨M, hM⟩ := top_real r
  rw [hM]
  have h1 : ∀ j, Ideal.exp ((r j : EReal) - (M : EReal)) = ((Real.exp (r j - M) : ℝ) : EReal) := fun j => by
    rw [← EReal.coe_sub]; rfl
  have h2 : ∀ j, Ideal.exp (r j : EReal) = ((Real.exp (r j) : ℝ) : EReal) := fun j => rfl
  simp only [h1, h2, sum_coe]
  have p : 0 < ∑ j, Real.exp (r j) := Finset.sum_pos (fun j _ => Real.exp_pos _) ⟨0, Finset.mem_univ _⟩
  have q : ∑ j, Real.exp (r j - M) = (∑ j, Real.exp (r j)) / Real.exp M := by
    rw [Finset.sum_div]
    exact Finset.sum_congr rfl fun j _ => Real.exp_sub _ _
  have q0 : ∑ j, Real.exp (r j - M) ≠ 0 := by rw [q]; exact (div_pos p (Real.exp_pos M)).ne'
  rw [Ideal.div_coe p.ne', one_mul, ← sum_mul_coe _ _ (one_div_nonneg.mpr p.le)]
  refine Finset.sum_congr rfl fun j _ => ?_
  have e : Real.exp (r j - M) * (1 / ∑ j, Real.exp (r j - M)) = Real.exp (r j) * (1 / ∑ j, Real.exp (r j)) := by
    rw [q, Real.exp_sub]
    have := (Real.exp_pos M).ne'
    have := p.ne'
    field_simp
  rw [Ideal.div_coe q0, ← EReal.coe_mul, e, EReal.coe_mul, ← mul_assoc, mul_comm (v j)]

/-- The constants of the two programs. -/
theorem eighth_f32 : Ideal.ofBits .f32 0x3E000000#32 = ((1 / 8 : ℝ) : EReal) := by
  simp [Ideal.ofBits, Ideal.ieee, -EReal.coe_mul]; norm_num
theorem eighth_bf16 : Ideal.ofBits .bf16 0x3E00#16 = ((1 / 8 : ℝ) : EReal) := by
  simp [Ideal.ofBits, Ideal.ieee, -EReal.coe_mul]; norm_num
theorem low_real : IsReal (Ideal.ofBits .f32 0xCE6E6B28#32) := ⟨-1000000000, by
  simp [Ideal.ofBits, Ideal.ieee, -EReal.coe_mul]; norm_num⟩
theorem bottom_f32 : Ideal.ofBits .f32 0xFF800000#32 = (⊥ : EReal) := by
  simp [Ideal.ofBits, Ideal.ieee]
theorem infinity_f32 : Ideal.ofBits .f32 0x7F800000#32 = (⊤ : EReal) := by
  simp [Ideal.ofBits, Ideal.ieee]

/-! ## The mask -/

/-- Whether a row of block `a` sees a column of block `b`. -/
def Sees (a b : ℕ) : Prop := a = b ∨ b = 0 ∨ (a + b) % 3 = 0
instance (a b : ℕ) : Decidable (Sees a b) := inferInstanceAs (Decidable (_ ∨ _ ∨ _))

end Cert.Maths
-- ==== Proof.Masks.lean ====
/-
  Facts about the words a mask is made of: a place below 512, its block of 64, and remainders modulo three.
-/
module

public import proofs.«01_k».proof.Proof.Softmax

@[expose] public section

noncomputable section

namespace Cert.Maths

open Idealize.ShloMosaic

/-- The word of a mask. -/
def bit (p : Prop) [Decidable p] : BitVec 1 := if p then 1#1 else 0#1

theorem select_bit {α : Type} (p : Prop) [Decidable p] (x y : α) : Scalar.select (bit p) x y = if p then x else y := by
  unfold bit
  split <;> rfl

/-- The three tests of the mask, put together. -/
theorem sees_word (a b : ℕ) (ha : a < 8) (hb : b < 8) :
    IntOp.ori (IntOp.ori (IntOp.cmpi .eq (BitVec.ofNat 32 a) (BitVec.ofNat 32 b)) (IntOp.cmpi .eq (BitVec.ofNat 32 b) 0#32))
      (IntOp.cmpi .eq (BitVec.ofNat 32 ((a + b) % 3)) 0#32) = bit (Sees a b) := by
  have h : ∀ a b : Fin 8, IntOp.ori (IntOp.ori (IntOp.cmpi .eq (BitVec.ofNat 32 a.val) (BitVec.ofNat 32 b.val)) (IntOp.cmpi .eq (BitVec.ofNat 32 b.val) 0#32))
      (IntOp.cmpi .eq (BitVec.ofNat 32 ((a.val + b.val) % 3)) 0#32) = bit (Sees a.val b.val) := by decide +kernel
  exact h ⟨a, ha⟩ ⟨b, hb⟩

/-- Words are added as their numbers are. -/
theorem add_word (a b : ℕ) : IntOp.addi (BitVec.ofNat 32 a) (BitVec.ofNat 32 b) = BitVec.ofNat 32 (a + b) :=
  (BitVec.ofNat_add a b).symm

/-- One bit set is enough for the disjunction of many. -/
theorem fold_ori {n : ℕ} (f : Fin n → BitVec 1) (x : Fin n) (h : f x = 1#1) : Finset.univ.fold IntOp.ori (0#1) f = 1#1 := by
  rw [← Finset.insert_erase (Finset.mem_univ x), Finset.fold_insert (Finset.notMem_erase x _), h]
  exact (by decide : ∀ z : BitVec 1, IntOp.ori 1#1 z = 1#1) _

end Cert.Maths
-- ==== Proof.KernelAt.lean ====
/-
  The attention block of a device read at an index.
-/
module

public import proofs.«01_k».proof.Proof.Blocks
public import proofs.«01_k».proof.Proof.Masks
public import Idealize.ShloMosaic.Lib.Pointwise

@[expose] public section

noncomputable section

namespace Cert.KernelIdeal.Reduce

open Idealize.ShloMosaic Cert.KernelIdeal Cert.KernelIdeal.Gen Cert.Maths

theorem fdiv_at (v : IVec S256x512 32) (i : Fin 256) (j : Fin 512) (k : Fin 512) (h : v (ix2 i j) = BitVec.ofNat 32 k.val) :
    fdiv64 v (ix2 i j) = BitVec.ofNat 32 (k.val / 64) := by
  pointwise [fdiv64]
  rw [h]
  clear h
  revert k
  decide +kernel
theorem fmod_at (v : IVec S256x512 32) (i : Fin 256) (j : Fin 512) (k : Fin 15) (h : v (ix2 i j) = BitVec.ofNat 32 k.val) :
    fmod3 v (ix2 i j) = BitVec.ofNat 32 (k.val % 3) := by
  pointwise [fmod3, three]
  rw [h]
  clear h
  revert k
  decide +kernel
theorem qblk_at (b : ℕ) (i : Fin 256) (j : Fin 512) (h : b + i.val < 512) :
    qblk (BitVec.ofNat 32 b) (ix2 i j) = BitVec.ofNat 32 ((b + i.val) / 64) := by
  refine fdiv_at _ i j ⟨b + i.val, h⟩ ?_
  pointwise
  rw [add_word, Nat.add_comm]
theorem kblk_at (i : Fin 256) (j : Fin 512) : kblk (ix2 i j) = BitVec.ofNat 32 (j.val / 64) := by
  refine fdiv_at _ i j j ?_
  pointwise
/-- The mask of the rows from `b` on. -/
theorem seen_at (b : ℕ) (i : Fin 256) (j : Fin 512) (h : b + i.val < 512) :
    seen (BitVec.ofNat 32 b) (ix2 i j) = bit (Sees ((b + i.val) / 64) (j.val / 64)) := by
  have e : fmod3 (addi (qblk (BitVec.ofNat 32 b)) kblk) (ix2 i j) = BitVec.ofNat 32 (((b + i.val) / 64 + j.val / 64) % 3) := by
    refine fmod_at _ i j ⟨(b + i.val) / 64 + j.val / 64, by omega⟩ ?_
    pointwise
    rw [qblk_at b i j h, kblk_at, add_word]
  pointwise [seen]
  rw [qblk_at b i j h, kblk_at, e]
  exact sees_word _ _ (by omega) (by omega)

/-- A query: the weights are scaled first. -/
theorem queries_at (x : FVec Ideal S1x256x768 .bf16) (wq : FVec Ideal S768x512 .bf16) (i : Fin 256) (j : Fin 512) :
    queries x wq (ix2 i j) = ∑ n : Fin 768, x (ix3 0 i n) * (wq (ix2 n j) * ((1 / 8 : ℝ) : EReal)) := by
  rw [← eighth_bf16]
  pointwise [queries, scaled]

variable (m : IVec S256x512 1) (q : FVec Ideal S256x512 .bf16) (k v : FVec Ideal S512x512 .bf16) (wo : FVec Ideal S512x768 .bf16)

/-- The weight of column `j` for row `i` in head `a`; one entry of the heads. -/
def weightAt (a : ℕ) (ha : a < 8) (i : Fin 256) (j : Fin 512) : EReal :=
  Ideal.exp (Scalar.select (m (ix2 i j)) (∑ d : Fin 64, q (ix2 i ⟨64 * a + d.val, by omega⟩) * k (ix2 j ⟨64 * a + d.val, by omega⟩) : EReal)
    (Ideal.ofBits .f32 0xCE6E6B28#32))
def headAt (i : Fin 256) (x : Fin 512) : EReal :=
  (∑ j : Fin 512, weightAt m q k (x.val / 64) (by omega) i j * v (ix2 j x)) * Ideal.div 1 (∑ j : Fin 512, weightAt m q k (x.val / 64) (by omega) i j)

theorem weights_at (a : ℕ) (ha : a < 8) (hq : S256x512.Slices ![0, 64 * a] S256x64) (hk : S512x512.Slices ![0, 64 * a] S512x64)
    (i : Fin 256) (j : Fin 512) : weights ![0, 64 * a] hq hk m q k (ix2 i j) = weightAt m q k a ha i j := by
  pointwise [weights]
  rfl
theorem head_own (a : ℕ) (ha : a < 8) (hq : S256x512.Slices ![0, 64 * a] S256x64) (hk : S512x512.Slices ![0, 64 * a] S512x64)
    (i : Fin 256) (d : ℕ) (hd : d < 64) :
    head ![0, 64 * a] hq hk m q k v (ix2 i ⟨d, hd⟩) = headAt m q k v i ⟨64 * a + d, by omega⟩ := by
  have e : (64 * a + d) / 64 = a := by omega
  pointwise [head]
  simp only [weights_at m q k a ha, headAt, e]
theorem head_at (o a : ℕ) (ha : a < 8) (ho : o = 64 * a) (hq : S256x512.Slices ![0, o] S256x64) (hk : S512x512.Slices ![0, o] S512x64)
    (i : Fin 256) (x : Fin 512) (d : ℕ) (hd : d < 64) (h : x.val = o + d) :
    head ![0, o] hq hk m q k v (ix2 i ⟨d, hd⟩) = headAt m q k v i x := by
  subst ho
  exact (head_own m q k v a ha hq hk i d hd).trans (congrArg (headAt m q k v i) (Fin.ext h.symm))
/-- The block before its rows are put into chunks. -/
theorem attn_at (i : Fin 256) (n : Fin 768) : attn m q k v wo (ix2 i n) = ∑ x : Fin 512, headAt m q k v i x * wo (ix2 x n) := by
  pointwise [attn]
  refine Finset.sum_congr rfl fun x _ => congrArg (· * wo (ix2 x n)) ?_
  have hx := x.isLt
  split
  · exact head_at m q k v 0 0 (by omega) rfl _ _ i x _ _ (by omega)
  split
  · exact head_at m q k v 64 1 (by omega) rfl _ _ i x _ _ (by omega)
  split
  · exact head_at m q k v 128 2 (by omega) rfl _ _ i x _ _ (by omega)
  split
  · exact head_at m q k v 192 3 (by omega) rfl _ _ i x _ _ (by omega)
  split
  · exact head_at m q k v 256 4 (by omega) rfl _ _ i x _ _ (by omega)
  split
  · exact head_at m q k v 320 5 (by omega) rfl _ _ i x _ _ (by omega)
  split
  · exact head_at m q k v 384 6 (by omega) rfl _ _ i x _ _ (by omega)
  · exact head_at m q k v 448 7 (by omega) rfl _ _ i x _ _ (by omega)

theorem block_at (w : BitVec 32) (x : FVec Ideal S1x256x768 .bf16) (wq : FVec Ideal S768x512 .bf16) (k v : FVec Ideal S1x512x512 .bf16)
    (a : Fin 4) (r : Fin 64) (n : Fin 768) : block w x wq k v wo (ix4 a 0 r n)
      = attn (seen w) (queries x wq) (shapeCast S512x512 k shapeCasts_S1x512x512_S512x512)
          (shapeCast S512x512 v shapeCasts_S1x512x512_S512x512) wo (ix2 (⟨a.val * 64 + r.val, by omega⟩ : Fin 256) n) := by
  pointwise [block]

variable (I : Ins Ideal)

/-- The score of row `i` and column `j` in head `a` of a device. -/
def scoreAt (b : Fin 2) (i : Fin 512) (a : ℕ) (ha : a < 8) (j : Fin 512) : EReal :=
  if Sees (i.val / 64) (j.val / 64) then
    ∑ d : Fin 64, (∑ n : Fin 768, I.x (ix3 b i n) * (I.wq (ix2 n (⟨64 * a + d.val, by omega⟩ : Fin 512)) * ((1 / 8 : ℝ) : EReal)))
      * I.k (ix3 b j (⟨64 * a + d.val, by omega⟩ : Fin 512))
  else Ideal.ofBits .f32 0xCE6E6B28#32

/-- The rows and batches a block reads. -/
theorem rows_read (f : FVec Ideal S2x512x768 .bf16) (b : Fin 2) (o : ℕ) (r : Fin 256) (n : Fin 768) (i : Fin 512) (h : o + r.val = i.val) :
    rows f b o (ix3 0 r n) = f (ix3 b i n) :=
  congrArg (fun t => f (ix3 b t n)) (Fin.ext ((congrArg (· % 512) h).trans (Nat.mod_eq_of_lt i.isLt)))
theorem bat_read (f : FVec Ideal S2x512x512 .bf16) (b : Fin 2) (j x : Fin 512) :
    shapeCast S512x512 (bat f b) shapeCasts_S1x512x512_S512x512 (ix2 j x) = f (ix3 b j x) := by
  pointwise
  rfl

/-- A device's partial sum at an index. -/
theorem part_read (c : Fin 8) (b : Fin 2) (r : Fin 64) (n : Fin 768) (i : Fin 512) (hi : i.val = 64 * c.val + r.val) : part I (ix4 c b r n)
    = ∑ x : Fin 512, ((∑ j : Fin 512, Ideal.exp (scoreAt I b i (x.val / 64) (by omega) j) * I.v (ix3 b j x))
        * Ideal.div 1 (∑ j : Fin 512, Ideal.exp (scoreAt I b i (x.val / 64) (by omega) j))) * I.wo (ix2 x n) := by
  show block (BitVec.ofNat 32 (64 * (4 * (c.val / 4)))) (rows I.x b (64 * (4 * (c.val / 4)))) I.wq (bat I.k b) (bat I.v b) I.wo
    (ix4 ⟨c.val % 4, _⟩ 0 r n) = _
  rw [block_at, attn_at]
  refine Finset.sum_congr rfl fun x _ => congrArg (· * I.wo (ix2 x n)) ?_
  have e : 64 * (4 * (c.val / 4)) + (c.val % 4 * 64 + r.val) = i.val := by omega
  have w : ∀ j, weightAt (seen (BitVec.ofNat 32 (64 * (4 * (c.val / 4))))) (queries (rows I.x b (64 * (4 * (c.val / 4)))) I.wq)
      (shapeCast S512x512 (bat I.k b) shapeCasts_S1x512x512_S512x512) (x.val / 64) (by omega)
      (⟨c.val % 4 * 64 + r.val, by omega⟩ : Fin 256) j = Ideal.exp (scoreAt I b i (x.val / 64) (by omega) j) := fun j => by
    unfold weightAt scoreAt
    rw [seen_at _ _ _ (by simp only; omega), select_bit]
    simp only [e, queries_at, bat_read, rows_read I.x b (64 * (4 * (c.val / 4))) ⟨c.val % 4 * 64 + r.val, by omega⟩ _ i e]
  unfold headAt
  simp only [w, bat_read]

end Cert.KernelIdeal.Reduce
-- ==== Proof.Pieces.lean ====
/-
  The keys and values of a device's own heads, as @main cuts them out for it, read at an index.
-/
module

public import proofs.«01_k».proof.Proof.Region
public import Idealize.ShloMosaic.Lib.Pointwise
public import Idealize.ShloMosaic.Lib.DynamicIndex
public import Idealize.ShloMosaic.Lib.Claim

@[expose] public section

noncomputable section

namespace Cert.KernelIdeal.Reduce

open Idealize.ShloMosaic Idealize.ShloMosaic.TcCoe Cert.KernelIdeal Cert.KernelIdeal.Gen

variable {F : FTy → Type} [FloatOps F]

/-- Where a device's columns start, as a word; -/
def startWord (c : Dev nD) : IVec S_ 32 :=
  let v7 := muli (Host.remui (Host.divui (constantI S_ 32 (Dev.word c)) (constantI S_ 32 1#32)) (constantI S_ 32 8#32)) (constantI S_ 32 512#32)
  select (cmpi .slt v7 (constantI S_ 32 0#32)) (addi v7 (constantI S_ 32 4096#32)) v7
/-- its columns. -/
def piece (c : Dev nD) (f : FVec F S2x512x64x64 .bf16) : FVec F S2x512x512 .bf16 :=
  Host.dynamicSlice S2x512x512 (shapeCast S2x512x4096 f shapeCasts_S2x512x64x64_S2x512x4096)
    (fun k => ((![constantI S_ 32 0#32, constantI S_ 32 0#32, startWord c] : Fin 3 → IVec S_ 32) k (Shape.Idx.first h_S_)).toInt) sliceFits_S2x512x4096_S2x512x512

theorem start_val (c : Dev nD) : (startWord c (Shape.Idx.first h_S_)).toInt = 512 * (c.val : Int) := by
  have h : ∀ c : Dev nD, (Scalar.select (IntOp.cmpi .slt (IntOp.muli (IntOp.remui .host (IntOp.divui .host (Dev.word c) 1#32) 8#32) 512#32) 0#32)
      (IntOp.addi (IntOp.muli (IntOp.remui .host (IntOp.divui .host (Dev.word c) 1#32) 8#32) 512#32) 4096#32)
      (IntOp.muli (IntOp.remui .host (IntOp.divui .host (Dev.word c) 1#32) 8#32) 512#32)).toInt = 512 * (c.val : Int) := by decide +kernel
  exact h c

theorem piece_at (c : Dev nD) (f : FVec F S2x512x64x64 .bf16) (b : Fin 2) (j x : Fin 512) (h d : Fin 64) (e : c.val * 512 + x.val = h.val * 64 + d.val) :
    piece c f (ix3 b j x) = f (ix4 b j h d) := by
  have hc : c.val < 8 := c.isLt
  have fits : S2x512x4096.Slices ![0, 0, 512 * c.val] S2x512x512 := by
    have h : ∀ c : Dev nD, S2x512x4096.Slices ![0, 0, 512 * c.val] S2x512x512 := by decide
    exact h c
  unfold piece
  rw [Host.dynamicSlice_eq_extractStridedSlice S2x512x512 _ _ ![0, 0, 512 * c.val] _ fits (fun a => by
    match a with
    | 0 => rfl
    | 1 => rfl
    | 2 => exact (start_val c).trans (by simp))]
  pointwise
  exact congrArg f (by congr 1 <;> exact Fin.ext (by show _ = _; simp only; omega))

/-- The three words a slice starts at, before it is taken. -/
theorem words_keys (c : Dev nD) (X : Valuation τ sig (Elt F)) :
    StableHlo.after ((hostOps0 c).take 17) X main_c_4 = (constantI S_ 32 0#32 : IVec S_ 32)
    ∧ StableHlo.after ((hostOps0 c).take 17) X main_c_5 = (constantI S_ 32 0#32 : IVec S_ 32)
    ∧ StableHlo.after ((hostOps0 c).take 17) X main_v10 = startWord c := by
  refine ⟨?_, ?_, ?_⟩
  all_goals simp only [List.take_succ_cons, List.take_zero]
  all_goals after_results
  rfl

theorem keys_after (c : Dev nD) (X : Valuation τ sig (Elt F)) : StableHlo.after (hostOps0 c) X main_v11 = piece c (X main_arg2) := by
  have h := words_keys c X
  after_results
  unfold piece
  congr 1
  funext k
  match k with
  | 0 => exact congrArg (fun w : IVec S_ 32 => (w (Shape.Idx.first h_S_)).toInt) h.1
  | 1 => exact congrArg (fun w : IVec S_ 32 => (w (Shape.Idx.first h_S_)).toInt) h.2.1
  | 2 => exact congrArg (fun w : IVec S_ 32 => (w (Shape.Idx.first h_S_)).toInt) h.2.2

theorem words_values (c : Dev nD) (X : Valuation τ sig (Elt F)) :
    StableHlo.after ((hostOps0 c).take 27) X main_c_9 = (constantI S_ 32 0#32 : IVec S_ 32)
    ∧ StableHlo.after ((hostOps0 c).take 27) X main_c_10 = (constantI S_ 32 0#32 : IVec S_ 32)
    ∧ StableHlo.after ((hostOps0 c).take 27) X main_v15 = startWord c := by
  refine ⟨?_, ?_, ?_⟩
  all_goals simp only [List.take_succ_cons, List.take_zero]
  all_goals after_results
  rfl

theorem values_after (c : Dev nD) (X : Valuation τ sig (Elt F)) : StableHlo.after (hostOps0 c) X main_v16 = piece c (X main_arg3) := by
  have h := words_values c X
  after_results
  unfold piece
  congr 1
  funext k
  match k with
  | 0 => exact congrArg (fun w : IVec S_ 32 => (w (Shape.Idx.first h_S_)).toInt) h.1
  | 1 => exact congrArg (fun w : IVec S_ 32 => (w (Shape.Idx.first h_S_)).toInt) h.2.1
  | 2 => exact congrArg (fun w : IVec S_ 32 => (w (Shape.Idx.first h_S_)).toInt) h.2.2

variable (m : (ℓ : Loc nD τ sig) → Buf (Elt F) ℓ)

/-- What a device is given, from its arguments. -/
theorem given_eq (c : Dev nD) : given m c = ⟨m ((c.tc : Thread nD τ).loc main_arg0), m ((c.tc : Thread nD τ).loc main_arg1),
    piece c (m ((c.tc : Thread nD τ).loc main_arg2)), piece c (m ((c.tc : Thread nD τ).loc main_arg3)), m ((c.tc : Thread nD τ).loc main_arg4)⟩ := by
  unfold given
  rw [V1_of m c main_arg0 (by decide), V1_of m c main_arg1 (by decide), V1_of m c main_arg4 (by decide)]
  exact congrArg₂ (fun k v => Ins.mk _ _ k v _) (keys_after c (V0 m c)) (values_after c (V0 m c))

end Cert.KernelIdeal.Reduce
-- ==== Proof.Ref.lean ====
/-
  What the reference computes, stage by stage.
-/
module

public import proofs.«01_k».proof.Proof.Gen.ReferenceIdeal.Run
public import Idealize.ShloMosaic.Lib.Pointwise

@[expose] public section

noncomputable section

namespace Cert.ReferenceIdeal.Attn

open Idealize.ShloMosaic Idealize.ShloMosaic.TcCoe Cert.ReferenceIdeal Cert.ReferenceIdeal.Gen
open Idealize.SL Idealize.SL.RA Idealize.SL.BI Idealize.SL.Sem

/-! ## The mask -/

/-- A column of one word in 512 places; the blocks of the places: the place divided by 64, rounded down. -/
def spread (w : IVec S_ 32) : IVec S512 32 := broadcastInDim S512 ![] bcast_S_S512 w
def blk : IVec S512 32 :=
  select (andi (cmpi .ne (signi (iotaInDim S512 32 0)) (spread (signi (constantI S_ 32 64#32))))
      (cmpi .ne (Host.remsi (iotaInDim S512 32 0) (spread (constantI S_ 32 64#32))) (spread (constantI S_ 32 0#32))))
    (subi (Host.divsi (iotaInDim S512 32 0) (spread (constantI S_ 32 64#32))) (spread (constantI S_ 32 1#32)))
    (Host.divsi (iotaInDim S512 32 0) (spread (constantI S_ 32 64#32)))

/-- The blocks along the rows and along the columns of a square. -/
def qcol : IVec S512x1 32 := broadcastInDim S512x1 ![0] bcast_S512_S512x1_0 blk
def krow : IVec S1x512 32 := broadcastInDim S1x512 ![1] bcast_S512_S1x512_1 blk
def qsq : IVec S512x512 32 := broadcastInDim S512x512 ![0, 1] bcast_S512x1_S512x512_0_1 qcol
def ksq : IVec S512x512 32 := broadcastInDim S512x512 ![0, 1] bcast_S1x512_S512x512_0_1 krow
def square {w : ℕ} (a : IVec S_ w) : IVec S512x512 w := broadcastInDim S512x512 ![] bcast_S_S512x512 a
def three : IVec S_ 32 := select (cmpi .eq (constantI S_ 32 3#32) (constantI S_ 32 0#32)) (constantI S_ 32 1#32) (constantI S_ 32 3#32)
/-- The remainder of the sum of the two blocks, never negative. -/
def rem3 : IVec S512x512 32 := Host.remsi (addi qsq ksq) (square three)
def mod3 : IVec S512x512 32 :=
  select (andi (cmpi .ne (cmpi .slt rem3 (square (constantI S_ 32 0#32))) (square (cmpi .slt three (constantI S_ 32 0#32))))
    (cmpi .ne rem3 (square (constantI S_ 32 0#32)))) (addi rem3 (square three)) rem3
def mask : IVec S512x512 1 :=
  ori (ori (cmpi .eq qsq ksq)
    (broadcastInDim S512x512 ![0, 1] bcast_S1x512_S512x512_0_1 (cmpi .eq krow (broadcastInDim S1x512 ![] bcast_S_S1x512 (constantI S_ 32 0#32)))))
    (cmpi .eq mod3 (square (constantI S_ 32 0#32)))
def keep : IVec S512 1 := Host.reduce IntOp.ori mask (constantI S_ 1 0#1) reducesTo_S512x512_S512_d1 h_S_

/-! ## The attention -/

variable (X : FVec Ideal S2x512x768 .bf16) (W : FVec Ideal S768x4096 .bf16) (K V : FVec Ideal S2x512x64x64 .bf16) (O : FVec Ideal S4096x768 .bf16)

def query : FVec Ideal S2x512x64x64 .f32 :=
  shapeCast _ (extf .f32 (truncf .bf16 (Host.dotGeneral dot_S2x512x768_S768x4096_S2x512x4096_2_0_01_1_n_n none (extf .f32 X bitsLt_bf16_f32)
    (extf .f32 W bitsLt_bf16_f32)) bitsLt_bf16_f32) bitsLt_bf16_f32) shapeCasts_S2x512x4096_S2x512x64x64
def big (b : BitVec 32) : FVec Ideal S2x64x512x512 .f32 := broadcastInDim S2x64x512x512 ![] bcast_S_S2x64x512x512 (constant S_ .f32 b)
def score : FVec Ideal S2x64x512x512 .f32 :=
  select (broadcastInDim S2x64x512x512 ![0, 1, 2, 3] bcast_S1x1x512x512_S2x64x512x512_0_1_2_3
      (broadcastInDim S1x1x512x512 ![2, 3] bcast_S512x512_S1x1x512x512_2_3 mask))
    (mulf (extf .f32 (truncf .bf16 (Host.dotGeneral dot_S2x512x64x64_S2x512x64x64_S2x64x512x512_3_3_1_1_02_02 none (query X W)
      (extf .f32 K bitsLt_bf16_f32)) bitsLt_bf16_f32) bitsLt_bf16_f32) (big 0x3E000000#32))
    (big 0xCE6E6B28#32)
def top (s : FVec Ideal S2x64x512x512 .f32) : FVec Ideal S2x64x512 .f32 :=
  Host.reduce FloatOps.maximumf s (constant S_ .f32 0xFF800000#32) reducesTo_S2x64x512x512_S2x64x512_d3 h_S_
def power (s : FVec Ideal S2x64x512x512 .f32) : FVec Ideal S2x64x512x512 .f32 :=
  Host.exp (subf s (broadcastInDim S2x64x512x512 ![0, 1, 2, 3] bcast_S2x64x512x1_S2x64x512x512_0_1_2_3
    (broadcastInDim S2x64x512x1 ![0, 1, 2] bcast_S2x64x512_S2x64x512x1_0_1_2 (top s))))
def keepRow : IVec S1x1x512x1 1 := broadcastInDim S1x1x512x1 ![2] bcast_S512_S1x1x512x1_2 keep
/-- The sum of a row's powers. -/
def sums (e : FVec Ideal S2x64x512x512 .f32) : FVec Ideal S2x64x512x1 .f32 :=
  select (broadcastInDim S2x64x512x1 ![0, 1, 2, 3] bcast_S1x1x512x1_S2x64x512x1_0_1_2_3 keepRow)
    (broadcastInDim S2x64x512x1 ![0, 1, 2] bcast_S2x64x512_S2x64x512x1_0_1_2
      (Host.reduceAdd e (constant S_ .f32 0x00000000#32) reducesTo_S2x64x512x512_S2x64x512_d3 h_S_))
    (broadcastInDim S2x64x512x1 ![] bcast_S_S2x64x512x1 (constant S_ .f32 0x3F800000#32))
def weight (e : FVec Ideal S2x64x512x512 .f32) : FVec Ideal S2x64x512x512 .f32 :=
  select (broadcastInDim S2x64x512x512 ![0, 1, 2, 3] bcast_S1x1x512x1_S2x64x512x512_0_1_2_3 keepRow)
    (Host.divf e (broadcastInDim S2x64x512x512 ![0, 1, 2, 3] bcast_S2x64x512x1_S2x64x512x512_0_1_2_3 (sums e))) (big 0x00000000#32)
def context (w : FVec Ideal S2x64x512x512 .f32) : FVec Ideal S2x64x64x512 .f32 :=
  Host.dotGeneral dot_S2x512x64x64_S2x64x512x512_S2x64x64x512_1_3_3_2_02_01 none (extf .f32 V bitsLt_bf16_f32) w
def project (c : FVec Ideal S2x64x64x512 .f32) : FVec Ideal S2x512x768 .bf16 :=
  truncf .bf16 (Host.dotGeneral dot_S2x512x4096_S4096x768_S2x512x768_2_0_01_1_n_n none
    (shapeCast _ (transpose S2x512x64x64 [0, 3, 1, 2] c transposes_S2x64x64x512_S2x512x64x64_0_3_1_2) shapeCasts_S2x512x64x64_S2x512x4096)
    (extf .f32 O bitsLt_bf16_f32)) bitsLt_bf16_f32
/-- The result. -/
def result : FVec Ideal S2x512x768 .bf16 := project O (context V (weight (power (score X W K))))

set_option maxRecDepth 8192 in
/-- The generated term is this. -/
theorem res_eq (m : (ℓ : Loc nD τ sig) → Buf (Elt Ideal) ℓ) (c : Dev nD) : Value.res_main_v54 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.ReferenceIdeal.Attn
-- ==== Proof.RefAt.lean ====
/-
  Each stage of the reference read at an index.
-/
module

public import proofs.«01_k».proof.Proof.Ref

@[expose] public section

noncomputable section

namespace Cert.ReferenceIdeal.Attn

open Idealize.ShloMosaic Idealize.ShloMosaic.TcCoe Cert.ReferenceIdeal Cert.ReferenceIdeal.Gen

variable (X : FVec Ideal S2x512x768 .bf16) (W : FVec Ideal S768x4096 .bf16) (K V : FVec Ideal S2x512x64x64 .bf16) (O : FVec Ideal S4096x768 .bf16)

theorem query_at (b : Fin 2) (i : Fin 512) (h d : Fin 64) : query X W (ix4 b i h d)
    = ∑ n : Fin 768, X (ix3 b i n) * W (ix2 n (⟨h.val * 64 + d.val, by omega⟩ : Fin 4096)) := by
  pointwise [query]
  trace_state
theorem score_at (b : Fin 2) (h : Fin 64) (i j : Fin 512) : score X W K (ix4 b h i j)
    = Scalar.select (mask (ix2 i j)) ((∑ d : Fin 64, query X W (ix4 b i h d) * K (ix4 b j h d)) * Ideal.ofBits .f32 0x3E000000#32)
        (Ideal.ofBits .f32 0xCE6E6B28#32) := by
  pointwise [score, big]
theorem top_at (s : FVec Ideal S2x64x512x512 .f32) (b : Fin 2) (h : Fin 64) (i : Fin 512) : top s (ix3 b h i)
    = Finset.univ.fold max (Ideal.ofBits .f32 0xFF800000#32) (fun j : Fin 512 => s (ix4 b h i j)) := by
  pointwise [top]
theorem power_at (s : FVec Ideal S2x64x512x512 .f32) (b : Fin 2) (h : Fin 64) (i j : Fin 512) : power s (ix4 b h i j)
    = Ideal.exp (s (ix4 b h i j) - top s (ix3 b h i)) := by
  pointwise [power]
theorem weight_at (e : FVec Ideal S2x64x512x512 .f32) (b : Fin 2) (h : Fin 64) (i j : Fin 512) : weight e (ix4 b h i j)
    = Scalar.select (keep (ix1 i)) (Ideal.div (e (ix4 b h i j)) (Scalar.select (keep (ix1 i)) (∑ l : Fin 512, e (ix4 b h i l)) 1)) 0 := by
  pointwise [weight, sums, keepRow, big]
theorem context_at (e : FVec Ideal S2x64x512x512 .f32) (b : Fin 2) (h d : Fin 64) (i : Fin 512) : context V e (ix4 b h d i)
    = ∑ j : Fin 512, V (ix4 b j h d) * e (ix4 b h i j) := by
  pointwise [context]
theorem project_at (c : FVec Ideal S2x64x64x512 .f32) (b : Fin 2) (i : Fin 512) (n : Fin 768) : project O c (ix3 b i n)
    = ∑ k : Fin 4096, c (ix4 b (⟨k.val / 64, by omega⟩ : Fin 64) (⟨k.val % 64, by omega⟩ : Fin 64) i) * O (ix2 k n) := by
  pointwise [project]

end Cert.ReferenceIdeal.Attn
-- ==== Proof.RefMask.lean ====
/-
  The reference's mask: which of the 512 columns a row sees, as a word read at an index.
-/
module

public import proofs.«01_k».proof.Proof.Ref
public import proofs.«01_k».proof.Proof.Masks

@[expose] public section

noncomputable section

namespace Cert.ReferenceIdeal.Attn

open Idealize.ShloMosaic Idealize.ShloMosaic.TcCoe Cert.ReferenceIdeal Cert.ReferenceIdeal.Gen Cert.Maths

/-- The block of a place, as a word. -/
theorem blk_at (i : Fin 512) : blk (ix1 i) = BitVec.ofNat 32 (i.val / 64) := by
  pointwise [blk, spread]
  revert i
  decide +kernel

theorem qsq_at (i j : Fin 512) : qsq (ix2 i j) = BitVec.ofNat 32 (i.val / 64) := by
  rw [← blk_at]
  pointwise [qsq, qcol]
theorem ksq_at (i j : Fin 512) : ksq (ix2 i j) = BitVec.ofNat 32 (j.val / 64) := by
  rw [← blk_at]
  pointwise [ksq, krow]
theorem krow_at (j : Fin 512) : krow (ix2 0 j) = BitVec.ofNat 32 (j.val / 64) := by
  rw [← blk_at]
  pointwise [krow]

theorem rem3_at (i j : Fin 512) : rem3 (ix2 i j) = BitVec.ofNat 32 ((i.val / 64 + j.val / 64) % 3) := by
  pointwise [rem3, square, three]
  rw [qsq_at, ksq_at, add_word]
  obtain ⟨s, h⟩ : ∃ s : Fin 15, s.val = i.val / 64 + j.val / 64 := ⟨⟨i.val / 64 + j.val / 64, by omega⟩, rfl⟩
  rw [← h]
  clear h
  revert s
  decide +kernel
theorem mod3_at (i j : Fin 512) : mod3 (ix2 i j) = BitVec.ofNat 32 ((i.val / 64 + j.val / 64) % 3) := by
  pointwise [mod3, square, three]
  rw [rem3_at]
  obtain ⟨s, h⟩ : ∃ s : Fin 3, s.val = (i.val / 64 + j.val / 64) % 3 := ⟨⟨(i.val / 64 + j.val / 64) % 3, by omega⟩, rfl⟩
  rw [← h]
  clear h
  revert s
  decide +kernel
/-- The mask. -/
theorem mask_at (i j : Fin 512) : mask (ix2 i j) = bit (Sees (i.val / 64) (j.val / 64)) := by
  pointwise [mask, square]
  rw [qsq_at, ksq_at, krow_at, mod3_at]
  exact sees_word _ _ (by omega) (by omega)
/-- Every row sees the first column. -/
theorem keep_at (i : Fin 512) : keep (ix1 i) = 1#1 := by
  pointwise [keep]
  refine fold_ori _ 0 ?_
  rw [mask_at]
  exact if_pos (.inr (.inl rfl))

end Cert.ReferenceIdeal.Attn
-- ==== Proof.RefValue.lean ====
/-
  The reference's result at an index, when its scores are real: every row's weights divided by their sum at the end.
-/
module

public import proofs.«01_k».proof.Proof.RefAt
public import proofs.«01_k».proof.Proof.RefMask

@[expose] public section

noncomputable section

namespace Cert.ReferenceIdeal.Attn

open Idealize.ShloMosaic Idealize.ShloMosaic.TcCoe Cert.ReferenceIdeal Cert.ReferenceIdeal.Gen Cert.Maths

variable (X : FVec Ideal S2x512x768 .bf16) (W : FVec Ideal S768x4096 .bf16) (K V : FVec Ideal S2x512x64x64 .bf16) (O : FVec Ideal S4096x768 .bf16)

/-- The score of row `i` and column `j` in head `h`. -/
def scoreOf (b : Fin 2) (h : Fin 64) (i j : Fin 512) : EReal :=
  if Sees (i.val / 64) (j.val / 64) then
    (∑ d : Fin 64, (∑ n : Fin 768, X (ix3 b i n) * W (ix2 n (⟨h.val * 64 + d.val, by omega⟩ : Fin 4096))) * K (ix4 b j h d)) * ((1 / 8 : ℝ) : EReal)
  else Ideal.ofBits .f32 0xCE6E6B28#32

theorem score_eq (b : Fin 2) (h : Fin 64) (i j : Fin 512) : score X W K (ix4 b h i j) = scoreOf X W K b h i j := by
  rw [score_at, mask_at, select_bit, eighth_f32]
  simp only [query_at]
  rfl

/-- Scores of real inputs are real. -/
theorem score_real (hX : ∀ i, IsReal (X i)) (hW : ∀ i, IsReal (W i)) (hK : ∀ i, IsReal (K i)) (b : Fin 2) (h : Fin 64) (i j : Fin 512) :
    IsReal (scoreOf X W K b h i j) := by
  unfold scoreOf
  split
  · exact (IsReal.sum _ _ fun d => (IsReal.sum _ _ fun n => (hX _).mul (hW _)).mul (hK _)).mul ⟨_, rfl⟩
  · exact low_real

/-- One entry of what the heads give. -/
theorem context_eq (hX : ∀ i, IsReal (X i)) (hW : ∀ i, IsReal (W i)) (hK : ∀ i, IsReal (K i)) (b : Fin 2) (h d : Fin 64) (i : Fin 512) :
    context V (weight (power (score X W K))) (ix4 b h d i)
      = (∑ j : Fin 512, Ideal.exp (scoreOf X W K b h i j) * V (ix4 b j h d)) * Ideal.div 1 (∑ j : Fin 512, Ideal.exp (scoreOf X W K b h i j)) := by
  have e : ∀ j, weight (power (score X W K)) (ix4 b h i j)
      = Ideal.div (Ideal.exp (scoreOf X W K b h i j - Finset.univ.fold max (⊥ : EReal) (scoreOf X W K b h i)))
          (∑ l : Fin 512, Ideal.exp (scoreOf X W K b h i l - Finset.univ.fold max (⊥ : EReal) (scoreOf X W K b h i))) := fun j => by
    rw [weight_at, keep_at]
    simp only [power_at, top_at, score_eq, bottom_f32]
    rfl
  rw [context_at]
  simp only [e]
  exact softmax _ (fun j => score_real X W K hX hW hK b h i j) fun j => V (ix4 b j h d)

/-- The result at an index. -/
theorem result_at (hX : ∀ i, IsReal (X i)) (hW : ∀ i, IsReal (W i)) (hK : ∀ i, IsReal (K i)) (b : Fin 2) (i : Fin 512) (n : Fin 768) :
    result X W K V O (ix3 b i n) = ∑ k : Fin 4096,
      ((∑ j : Fin 512, Ideal.exp (scoreOf X W K b ⟨k.val / 64, by omega⟩ i j) * V (ix4 b j (⟨k.val / 64, by omega⟩ : Fin 64) (⟨k.val % 64, by omega⟩ : Fin 64)))
        * Ideal.div 1 (∑ j : Fin 512, Ideal.exp (scoreOf X W K b ⟨k.val / 64, by omega⟩ i j))) * O (ix2 k n) := by
  unfold result
  rw [project_at]
  exact Finset.sum_congr rfl fun k _ => congrArg (· * O (ix2 k n)) (context_eq X W K V hX hW hK b _ _ i)

end Cert.ReferenceIdeal.Attn
-- ==== Proof.Algebraic.lean ====
/-
  The kernel's result is the reference's: the devices' partial sums, added up, are the sum over all heads.
-/
module

public import proofs.«01_k».proof.Proof.TotalAt
public import proofs.«01_k».proof.Proof.KernelAt
public import proofs.«01_k».proof.Proof.Pieces
public import proofs.«01_k».proof.Proof.RefValue
public import Idealize.ShloMosaic.Lib.LayoutAt

@[expose] public section

noncomputable section

namespace Cert.KernelIdeal.Reduce

open Idealize.ShloMosaic Cert.KernelIdeal Cert.KernelIdeal.Gen Cert.Maths

variable (X : FVec Ideal ⟨3, ![2, 512, 768]⟩ .bf16) (W : FVec Ideal ⟨2, ![768, 4096]⟩ .bf16) (K V : FVec Ideal ⟨4, ![2, 512, 64, 64]⟩ .bf16)
  (O : FVec Ideal ⟨2, ![4096, 768]⟩ .bf16)

/-- What device `c` is given of the whole arrays. -/
def share (c : Dev nD) : Ins Ideal :=
  ⟨X, Layout.block ⟨2, ![768, 512]⟩ ⟨2, ![768, 4096]⟩ 1 8 c W, piece c K, piece c V, Layout.block ⟨2, ![512, 768]⟩ ⟨2, ![4096, 768]⟩ 0 8 c O⟩

theorem wq_at (c : Fin 8) (n : Fin 768) (x : Fin 512) (k : Fin 4096) (h : k.val = c.val * 512 + x.val) :
    Layout.block ⟨2, ![768, 512]⟩ ⟨2, ![768, 4096]⟩ 1 8 c W (by decide) (ix2 n x) = W (ix2 n k) := by
  shard_norm
  shard_ext
theorem wo_at (c : Fin 8) (n : Fin 768) (x : Fin 512) (k : Fin 4096) (h : k.val = c.val * 512 + x.val) :
    Layout.block ⟨2, ![512, 768]⟩ ⟨2, ![4096, 768]⟩ 0 8 c O (by decide) (ix2 x n) = O (ix2 k n) := by
  shard_norm
  shard_ext

/-- The whole weights are real when every device's block of them is. -/
theorem whole_real (h : ∀ (c : Fin 8) i, IsReal (Layout.block ⟨2, ![768, 512]⟩ ⟨2, ![768, 4096]⟩ 1 8 c W (by decide) i)) (t : (⟨2, ![768, 4096]⟩ : Shape).Idx) :
    IsReal (W t) := by
  obtain ⟨n, k, rfl⟩ : ∃ (n : Fin 768) (k : Fin 4096), t = ix2 n k := ⟨t 0, t 1, eq_ix2 t⟩
  rw [← wq_at W ⟨k.val / 512, by omega⟩ n ⟨k.val % 512, by omega⟩ k (by simp only; omega)]
  exact h _ _

/-- The scores of a device are those of its heads. -/
theorem share_score (c : Fin 8) (b : Fin 2) (i : Fin 512) (a : ℕ) (ha : a < 8) (h : Fin 64) (e : h.val = 8 * c.val + a) (j : Fin 512) :
    scoreAt (share X W K V O c) b i a ha j = ReferenceIdeal.Attn.scoreOf X W K b h i j := by
  unfold scoreAt ReferenceIdeal.Attn.scoreOf
  refine if_congr Iff.rfl ?_ rfl
  rw [← scale_out _ (fun n d => W (ix2 n (⟨h.val * 64 + d.val, by omega⟩ : Fin 4096))) _ (by norm_num : (0 : ℝ) ≤ 1 / 8)]
  refine Finset.sum_congr rfl fun d _ => congrArg₂ (· * ·) (Finset.sum_congr rfl fun n _ => ?_) ?_
  · exact congrArg (fun w : EReal => X (ix3 b i n) * (w * ((1 / 8 : ℝ) : EReal)))
      (wq_at W c n ⟨64 * a + d.val, by omega⟩ ⟨h.val * 64 + d.val, by omega⟩ (by simp only; omega))
  · exact piece_at c K b j ⟨64 * a + d.val, by omega⟩ h d (by simp only; omega)

/-- A sum over 4096 places, device by device. -/
theorem sum_devices (f : Fin 4096 → EReal) : ∑ k, f k = ∑ c : Fin 8, ∑ x : Fin 512, f ⟨c.val * 512 + x.val, by omega⟩ := by
  rw [← Fintype.sum_prod_type' (f := fun (c : Fin 8) (x : Fin 512) => f ⟨c.val * 512 + x.val, by omega⟩)]
  refine (Fintype.sum_equiv (finProdFinEquiv (m := 8) (n := 512)) _ _ fun p => congrArg f (Fin.ext ?_)).symm
  show p.1.val * 512 + p.2.val = p.2.val + 512 * p.1.val
  omega

/-- The two results. -/
theorem total_eq (hX : ∀ i, IsReal (X i)) (hW : ∀ i, IsReal (W i)) (hK : ∀ i, IsReal (K i)) :
    total (fun c => part (share X W K V O c)) = ReferenceIdeal.Attn.result X W K V O := by
  funext t
  obtain ⟨b, i, n, rfl⟩ : ∃ (b : Fin 2) (i : Fin 512) (n : Fin 768), t = ix3 b i n := ⟨t 0, t 1, t 2, eq_ix3 t⟩
  rw [total_read, ReferenceIdeal.Attn.result_at X W K V O hX hW hK, sum_devices]
  refine Finset.sum_congr rfl fun c _ => ?_
  rw [part_read _ _ b _ n i (by simp only; omega)]
  refine Finset.sum_congr rfl fun x _ => ?_
  have e : ∀ j, scoreAt (share X W K V O c) b i (x.val / 64) (by omega) j
      = ReferenceIdeal.Attn.scoreOf X W K b ⟨(c.val * 512 + x.val) / 64, by omega⟩ i j := fun j =>
    share_score X W K V O c b i _ _ _ (by simp only; omega) j
  have v : ∀ j, (share X W K V O c).v (ix3 b j x)
      = V (ix4 b j (⟨(c.val * 512 + x.val) / 64, by omega⟩ : Fin 64) (⟨(c.val * 512 + x.val) % 64, by omega⟩ : Fin 64)) := fun j =>
    piece_at c V b j x _ _ (by simp only; omega)
  have o : (share X W K V O c).wo (ix2 x n) = O (ix2 (⟨c.val * 512 + x.val, by omega⟩ : Fin 4096) n) := wo_at O c n x _ rfl
  simp only [e, v, o]

end Cert.KernelIdeal.Reduce
-- ==== Proof.Finite.lean ====
/-
  What the precondition says: the input, the query weights and the keys are real at every index.
-/
module

public import proofs.«01_k».proof.Proof.Softmax
public import proofs.«01_k».proof.Pre_finite_KernelIdeal
public import proofs.«01_k».proof.Pre_finite_ReferenceIdeal
public import Idealize.ShloMosaic.Lib.ReduceAll
public import Idealize.ShloMosaic.Lib.Pointwise

@[expose] public section

noncomputable section

namespace Cert.Maths

open Idealize.ShloMosaic

/-- The side conditions of the precondition's two readings. -/
theorem pre_facts : Cert.Pre_finite_KernelIdeal.Facts := ⟨by decide, by decide, by decide, by decide, by decide, by decide, by decide, by decide⟩
theorem pre_facts_whole : Cert.Pre_finite_ReferenceIdeal.Facts := ⟨by decide, by decide, by decide, by decide, by decide, by decide, by decide, by decide⟩

/-- A value whose size is below infinity is real. -/
theorem real_of_test (x : EReal) (h : Ideal.cmp .olt (max x (-x)) ⊤ = 1#1) : IsReal x := by
  induction x with
  | bot => simp [Ideal.cmp] at h
  | top => simp [Ideal.cmp] at h
  | coe r => exact ⟨r, rfl⟩

open Cert.Pre_finite_KernelIdeal in
theorem reals [inst : Cert.Pre_finite_KernelIdeal.Facts] (x : FVec Ideal S2x512x768 .bf16) (w : FVec Ideal S768x512 .bf16)
    (k v : FVec Ideal S2x512x64x64 .bf16) (o : FVec Ideal S512x768 .bf16) (h : fn x w k v o = fun _ => 1#1) :
    (∀ i, IsReal (x i)) ∧ (∀ i, IsReal (w i)) ∧ (∀ i, IsReal (k i)) := by
  have split : ∀ a b : BitVec 1, IntOp.andi a b = 1#1 → a = 1#1 ∧ b = 1#1 := by decide
  have one : Subsingleton S_.Idx := ⟨fun a b => funext fun i => i.elim0⟩
  have e := congrFun h (Shape.Idx.first Cert.Pre_finite_KernelIdeal.Facts.h_S_)
  dsimp only [fn] at e
  obtain ⟨e1, e3⟩ := split _ _ e
  obtain ⟨e1, e2⟩ := split _ _ e1
  refine ⟨fun i => real_of_test _ ?_, fun i => real_of_test _ ?_, fun i => real_of_test _ ?_⟩
  · have := Host.reduce_andi_all _ _ _ _ _ e1 i
    rw [← infinity_f32]
    exact this
  · have := Host.reduce_andi_all _ _ _ _ _ e2 i
    rw [← infinity_f32]
    exact this
  · have := Host.reduce_andi_all _ _ _ _ _ e3 i
    rw [← infinity_f32]
    exact this

end Cert.Maths
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Run
public import proofs.«01_k».proof.Proof.Algebraic
public import proofs.«01_k».proof.Proof.Finite

@[expose] public section

noncomputable section

namespace Cert.Proof

open Idealize.ShloMosaic Idealize.SL.Sem Cert.Kernel

section
variable [Cert.Kernel.Facts] [Cert.KernelIdeal.Facts]
/-- The two printed copies of the kernel are the same program: their bodies, and then their tables of bodies. -/
theorem bodies_same : (Cert.Kernel.defs₀ (F := Bits)) = Cert.KernelIdeal.defs₀ := by
  unfold Cert.Kernel.defs₀ Cert.KernelIdeal.defs₀
  refine congrArg Defs.onTc ?_
  funext l a
  match l, a with
  | 0, (t, s) => rfl
theorem tables_same : (Cert.Kernel.defs (F := Bits)) = Cert.KernelIdeal.defs := congrArg (Pipeline.defs Cert.KernelIdeal.pcfgs) bodies_same
end

/-- The frames: the kernel at the machine's own floats, at the ideal ones, and the reference. -/
theorem frame_kernel : Cert.quiescent_Kernel := fun m ρ _ => by
  rw [tables_same]
  exact Cert.KernelIdeal.Reduce.run_frame (F := Bits) m ρ
theorem frame_ideal : Cert.quiescent_KernelIdeal := fun m ρ _ => Cert.KernelIdeal.Reduce.run_frame (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The partial sums are those of the shares of the reference's arrays. -/
theorem parts_eq (m : (ℓ : Loc Cert.KernelIdeal.nD Cert.KernelIdeal.τ Cert.KernelIdeal.sig) → Buf (Elt Ideal) ℓ)
    (X : FVec Ideal ⟨3, ![2, 512, 768]⟩ .bf16) (W : FVec Ideal ⟨2, ![768, 4096]⟩ .bf16) (K V : FVec Ideal ⟨4, ![2, 512, 64, 64]⟩ .bf16)
    (O : FVec Ideal ⟨2, ![4096, 768]⟩ .bf16)
    (h : ∀ c : Dev Cert.KernelIdeal.nD,
      m ((c.tc : Thread Cert.KernelIdeal.nD Cert.KernelIdeal.τ).loc Cert.KernelIdeal.main_arg0) = X
      ∧ m ((c.tc : Thread Cert.KernelIdeal.nD Cert.KernelIdeal.τ).loc Cert.KernelIdeal.main_arg1) = Layout.block ⟨2, ![768, 512]⟩ ⟨2, ![768, 4096]⟩ 1 8 c W
      ∧ m ((c.tc : Thread Cert.KernelIdeal.nD Cert.KernelIdeal.τ).loc Cert.KernelIdeal.main_arg2) = K
      ∧ m ((c.tc : Thread Cert.KernelIdeal.nD Cert.KernelIdeal.τ).loc Cert.KernelIdeal.main_arg3) = V
      ∧ m ((c.tc : Thread Cert.KernelIdeal.nD Cert.KernelIdeal.τ).loc Cert.KernelIdeal.main_arg4) = Layout.block ⟨2, ![512, 768]⟩ ⟨2, ![4096, 768]⟩ 0 8 c O) :
    Cert.KernelIdeal.Reduce.parts m = fun c => Cert.KernelIdeal.Reduce.part (Cert.KernelIdeal.Reduce.share X W K V O c) := by
  funext c
  obtain ⟨h0, h1, h2, h3, h4⟩ := h c
  unfold Cert.KernelIdeal.Reduce.parts
  rw [Cert.KernelIdeal.Reduce.given_eq, h0, h1, h2, h3, h4]
  rfl

/-- The kernel computes what the reference computes. -/
theorem algebraic : Cert.algebraic_KernelIdeal_ReferenceIdeal_pre_finite_KernelIdeal (hPre_finite_KernelIdeal := Cert.Maths.pre_facts) :=
    fun m g m' g' hp h => by
  have hf := fun c => Cert.Maths.reals (inst := Cert.Maths.pre_facts) _ _ _ _ _ (hp c)
  have hX := (h 0).1 ▸ (hf 0).1
  have hK := (h 0).2.2.1 ▸ (hf 0).2.2
  have hW := Cert.KernelIdeal.Reduce.whole_real _ fun c => (h c).2.1 ▸ (hf c).2.1
  have e := (congrArg Cert.KernelIdeal.Reduce.total (parts_eq m _ _ _ _ _ h)).trans
    ((Cert.KernelIdeal.Reduce.total_eq _ _ _ (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) hX hW hK).trans
      (Cert.ReferenceIdeal.Attn.res_eq m' 0).symm)
  refine ⟨Cert.ReferenceIdeal.Value.res_main_v54 m' 0, ?_, ?_⟩
  · exact (θ_run Cert.KernelIdeal.defs _ _).mono (fun r k c => ⟨(k.1 c).2.trans e, (k.1 c).1⟩) (Cert.KernelIdeal.Reduce.run_main (F := Ideal) m g)
  · exact (θ_run Cert.ReferenceIdeal.defs _ _).mono (fun r k => k 0) (Cert.ReferenceIdeal.Value.run (F := Ideal) m' g')

theorem claim : Cert.Claim := ⟨Cert.Kernel.Gen.facts, Cert.KernelIdeal.Gen.facts, Cert.ReferenceIdeal.Gen.facts, Cert.Maths.pre_facts, Cert.Maths.pre_facts_whole,
  frame_kernel, frame_ideal, fun m ρ _ => frame_ideal m ρ trivial, frame_reference, fun m ρ _ => frame_reference m ρ trivial, trivial, algebraic⟩

end Cert.Proof

end
